-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_v376) = v1 c
          ∧ r.2.mem ((c.tc : Thread Cert.ReferenceIdeal.nD Cert.ReferenceIdeal.τ).loc Cert.ReferenceIdeal.main_v377) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x256x256 : Shape := ⟨4, ![2, 256, 256, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩

class Facts : Prop where
  bcast_S_S2x256x256x256 : S_.BroadcastsInDim S2x256x256x256 (![] : Fin 0 → Fin S2x256x256x256.rank)
  bcast_S_S2x128x128x256 : S_.BroadcastsInDim S2x128x128x256 (![] : Fin 0 → Fin S2x128x128x256.rank)
  bcast_S_S2x64x64x256 : S_.BroadcastsInDim S2x64x64x256 (![] : Fin 0 → Fin S2x64x64x256.rank)
  bcast_S_S2x32x32x256 : S_.BroadcastsInDim S2x32x32x256 (![] : Fin 0 → Fin S2x32x32x256.rank)
  bcast_S_S2x16x16x256 : S_.BroadcastsInDim S2x16x16x256 (![] : Fin 0 → Fin S2x16x16x256.rank)
  bcast_S_S3x3x256x512 : S_.BroadcastsInDim S3x3x256x512 (![] : Fin 0 → Fin S3x3x256x512.rank)
  bcast_S_S512 : S_.BroadcastsInDim S512 (![] : Fin 0 → Fin S512.rank)
  bcast_S_S1x1x512x6 : S_.BroadcastsInDim S1x1x512x6 (![] : Fin 0 → Fin S1x1x512x6.rank)
  bcast_S_S6 : S_.BroadcastsInDim S6 (![] : Fin 0 → Fin S6.rank)

variable [Facts]

def fn_part1 {F : FTy → Type} [FloatOps F] (main_arg6 : FVec F S512 .f32) (main_arg7 : FVec F S1x1x512x6 .f32) (main_arg8 : FVec F S6 .f32) (main_v2 : IVec S2x256x256x256 1) (main_v5 : IVec S2x128x128x256 1) (main_v8 : IVec S2x64x64x256 1) (main_v11 : IVec S2x32x32x256 1) (main_v14 : IVec S2x16x16x256 1) (main_v17 : IVec S3x3x256x512 1) : IVec S2x256x256x256 1 × IVec S2x128x128x256 1 × IVec S2x64x64x256 1 × IVec S2x32x32x256 1 × IVec S2x16x16x256 1 × IVec S3x3x256x512 1 × IVec S512 1 × IVec S1x1x512x6 1 × IVec S6 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S1x1x512x6 .f32 := Host.absf main_arg7
  let main_cst_6 : FVec F S_ .f32 := constant S_ .f32 0x7F800000#32
  let main_v22 : FVec F S1x1x512x6 .f32 := broadcastInDim S1x1x512x6 ![] bcast_S_S1x1x512x6 main_cst_6
  let main_v23 : IVec S1x1x512x6 1 := cmpf .olt main_v21 main_v22
  let main_v24 : FVec F S6 .f32 := Host.absf main_arg8
  let main_cst_7 : FVec F S_ .f32 := constant S_ .f32 0x7F800000#32
  let main_v25 : FVec F S6 .f32 := broadcastInDim S6 ![] bcast_S_S6 main_cst_7
  let main_v26 : IVec S6 1 := cmpf .olt main_v24 main_v25
  (main_v2, main_v5, main_v8, main_v11, main_v14, main_v17, main_v20, main_v23, main_v26)

def fn {F : FTy → Type} [FloatOps F] (main_arg0 : FVec F S2x256x256x256 .f32) (main_arg1 : FVec F S2x128x128x256 .f32) (main_arg2 : FVec F S2x64x64x256 .f32) (main_arg3 : FVec F S2x32x32x256 .f32) (main_arg4 : FVec F S2x16x16x256 .f32) (main_arg5 : FVec F S3x3x256x512 .f32) (main_arg6 : FVec F S512 .f32) (main_arg7 : FVec F S1x1x512x6 .f32) (main_arg8 : FVec F S6 .f32) (main_arg9 : FVec F S1x1x512x12 .f32) (main_arg10 : FVec F S12 .f32) : IVec S2x256x256x256 1 × IVec S2x128x128x256 1 × IVec S2x64x64x256 1 × IVec S2x32x32x256 1 × IVec S2x16x16x256 1 × IVec S3x3x256x512 1 × IVec S512 1 × IVec S1x1x512x6 1 × IVec S6 1 :=
  let main_v0 : FVec F S2x256x256x256 .f32 := Host.absf main_arg0
  let main_cst : FVec F S_ .f32 := constant S_ .f32 0x7F800000#32
  let main_v1 : FVec F S2x256x256x256 .f32 := broadcastInDim S2x256x256x256 ![] bcast_S_S2x256x256x256 main_cst
  let main_v2 : IVec S2x256x256x256 1 := cmpf .olt main_v0 main_v1
  let main_v3 : FVec F S2x128x128x256 .f32 := Host.absf main_arg1
  let main_cst_0 : FVec F S_ .f32 := constant S_ .f32 0x7F800000#32
  let main_v4 : FVec F S2x128x128x256 .f32 := broadcastInDim S2x128x128x256 ![] bcast_S_S2x128x128x256 main_cst_0
  let main_v5 : IVec S2x128x128x256 1 := cmpf .olt main_v3 main_v4
  let main_v6 : FVec F S2x64x64x256 .f32 := Host.absf main_arg2
  let main_cst_1 : FVec F S_ .f32 := constant S_ .f32 0x7F800000#32
  let main_v7 : FVec F S2x64x64x256 .f32 := broadcastInDim S2x64x64x256 ![] bcast_S_S2x64x64x256 main_cst_1
  let main_v8 : IVec S2x64x64x256 1 := cmpf .olt main_v6 main_v7
  let main_v9 : FVec F S2x32x32x256 .f32 := Host.absf main_arg3
  let main_cst_2 : FVec F S_ .f32 := constant S_ .f32 0x7F800000#32
  let main_v10 : FVec F S2x32x32x256 .f32 := broadcastInDim S2x32x32x256 ![] bcast_S_S2x32x32x256 main_cst_2
  let main_v11 : IVec S2x32x32x256 1 := cmpf .olt main_v9 main_v10
  let main_v12 : FVec F S2x16x16x256 .f32 := Host.absf main_arg4
  let main_cst_3 : FVec F S_ .f32 := constant S_ .f32 0x7F800000#32
  let main_v13 : FVec F S2x16x16x256 .f32 := broadcastInDim S2x16x16x256 ![] bcast_S_S2x16x16x256 main_cst_3
  let main_v14 : IVec S2x16x16x256 1 := cmpf .olt main_v12 main_v13
  let main_v15 : FVec F S3x3x256x512 .f32 := Host.absf main_arg5
  let main_cst_4 : FVec F S_ .f32 := constant S_ .f32 0x7F800000#32
  let main_v16 : FVec F S3x3x256x512 .f32 := broadcastInDim S3x3x256x512 ![] bcast_S_S3x3x256x512 main_cst_4
  let main_v17 : IVec S3x3x256x512 1 := cmpf .olt main_v15 main_v16
  fn_part1 (F := F) main_arg6 main_arg7 main_arg8 main_v2 main_v5 main_v8 main_v11 main_v14 main_v17
-- ==== Kernel.lean ====
abbrev S2x256x256x256 : Shape := ⟨4, ![2, 256, 256, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S3x384x128 : Shape := ⟨3, ![3, 384, 128]⟩
abbrev S512x6 : Shape := ⟨2, ![512, 6]⟩
abbrev S512x12 : Shape := ⟨2, ![512, 12]⟩
abbrev S_ : Shape := ⟨0, ![]⟩
abbrev S6x1 : Shape := ⟨2, ![6, 1]⟩
abbrev S512x2 : Shape := ⟨2, ![512, 2]⟩
abbrev S512x4 : Shape := ⟨2, ![512, 4]⟩
abbrev S512x8 : Shape := ⟨2, ![512, 8]⟩
abbrev S512x24 : Shape := ⟨2, ![512, 24]⟩
abbrev S2 : Shape := ⟨1, ![2]⟩
abbrev S4 : Shape := ⟨1, ![4]⟩
abbrev S8 : Shape := ⟨1, ![8]⟩
abbrev S24 : Shape := ⟨1, ![24]⟩
abbrev S1x24 : Shape := ⟨2, ![1, 24]⟩
abbrev S1x512 : Shape := ⟨2, ![1, 512]⟩
abbrev S2x32x6144x8 : Shape := ⟨4, ![2, 32, 6144, 8]⟩
abbrev S1x1x256x256 : Shape := ⟨4, ![1, 1, 256, 256]⟩
abbrev S1x8x256x256 : Shape := ⟨4, ![1, 8, 256, 256]⟩
abbrev S1x1x6144x8 : Shape := ⟨4, ![1, 1, 6144, 8]⟩
abbrev S11x264x256 : Shape := ⟨3, ![11, 264, 256]⟩
abbrev S11x1x256 : Shape := ⟨3, ![11, 1, 256]⟩
abbrev S11x2x256 : Shape := ⟨3, ![11, 2, 256]⟩
abbrev S11x7x256 : Shape := ⟨3, ![11, 7, 256]⟩
abbrev S11x8x256 : Shape := ⟨3, ![11, 8, 256]⟩
abbrev S1x264x256 : Shape := ⟨3, ![1, 264, 256]⟩
abbrev S256x256 : Shape := ⟨2, ![256, 256]⟩
abbrev S1x256x256 : Shape := ⟨3, ![1, 256, 256]⟩
abbrev S1x258x256 : Shape := ⟨3, ![1, 258, 256]⟩
abbrev S8x256x256 : Shape := ⟨3, ![8, 256, 256]⟩
abbrev S8x258x256 : Shape := ⟨3, ![8, 258, 256]⟩
abbrev S2904x256 : Shape := ⟨2, ![2904, 256]⟩
abbrev S2112x256 : Shape := ⟨2, ![2112, 256]⟩
abbrev S1x1x256x512 : Shape := ⟨4, ![1, 1, 256, 512]⟩
abbrev S256x512 : Shape := ⟨2, ![256, 512]⟩
abbrev S2112x512 : Shape := ⟨2, ![2112, 512]⟩
abbrev S2112x24 : Shape := ⟨2, ![2112, 24]⟩
abbrev S8x264x24 : Shape := ⟨3, ![8, 264, 24]⟩
abbrev S8x256x24 : Shape := ⟨3, ![8, 256, 24]⟩
abbrev S2048x24 : Shape := ⟨2, ![2048, 24]⟩
abbrev S2048x2 : Shape := ⟨2, ![2048, 2]⟩
abbrev S2048x6 : Shape := ⟨2, ![2048, 6]⟩
abbrev S2048x4 : Shape := ⟨2, ![2048, 4]⟩
abbrev S128x24 : Shape := ⟨2, ![128, 24]⟩
abbrev S1x384x128 : Shape := ⟨3, ![1, 384, 128]⟩
abbrev S384x128 : Shape := ⟨2, ![384, 128]⟩
abbrev S128x8 : Shape := ⟨2, ![128, 8]⟩
abbrev S384x8 : Shape := ⟨2, ![384, 8]⟩
abbrev S6144x8 : Shape := ⟨2, ![6144, 8]⟩
abbrev S2x196608x8 : Shape := ⟨3, ![2, 196608, 8]⟩
abbrev S2x8x6144x8 : Shape := ⟨4, ![2, 8, 6144, 8]⟩
abbrev S1x1x128x256 : Shape := ⟨4, ![1, 1, 128, 256]⟩
abbrev S1x16x128x256 : Shape := ⟨4, ![1, 16, 128, 256]⟩
abbrev S19x136x256 : Shape := ⟨3, ![19, 136, 256]⟩
abbrev S19x1x256 : Shape := ⟨3, ![19, 1, 256]⟩
abbrev S19x2x256 : Shape := ⟨3, ![19, 2, 256]⟩
abbrev S19x7x256 : Shape := ⟨3, ![19, 7, 256]⟩
abbrev S19x8x256 : Shape := ⟨3, ![19, 8, 256]⟩
abbrev S1x136x256 : Shape := ⟨3, ![1, 136, 256]⟩
abbrev S128x256 : Shape := ⟨2, ![128, 256]⟩
abbrev S1x128x256 : Shape := ⟨3, ![1, 128, 256]⟩
abbrev S1x130x256 : Shape := ⟨3, ![1, 130, 256]⟩
abbrev S16x128x256 : Shape := ⟨3, ![16, 128, 256]⟩
abbrev S16x130x256 : Shape := ⟨3, ![16, 130, 256]⟩
abbrev S2584x256 : Shape := ⟨2, ![2584, 256]⟩
abbrev S2176x256 : Shape := ⟨2, ![2176, 256]⟩
abbrev S2176x512 : Shape := ⟨2, ![2176, 512]⟩
abbrev S2176x24 : Shape := ⟨2, ![2176, 24]⟩
abbrev S16x136x24 : Shape := ⟨3, ![16, 136, 24]⟩
abbrev S16x128x24 : Shape := ⟨3, ![16, 128, 24]⟩
abbrev S2x49152x8 : Shape := ⟨3, ![2, 49152, 8]⟩
abbrev S2x2x6144x8 : Shape := ⟨4, ![2, 2, 6144, 8]⟩
abbrev S1x1x64x256 : Shape := ⟨4, ![1, 1, 64, 256]⟩
abbrev S1x32x64x256 : Shape := ⟨4, ![1, 32, 64, 256]⟩
abbrev S35x72x256 : Shape := ⟨3, ![35, 72, 256]⟩
abbrev S35x1x256 : Shape := ⟨3, ![35, 1, 256]⟩
abbrev S35x2x256 : Shape := ⟨3, ![35, 2, 256]⟩
abbrev S35x7x256 : Shape := ⟨3, ![35, 7, 256]⟩
abbrev S35x8x256 : Shape := ⟨3, ![35, 8, 256]⟩
abbrev S1x72x256 : Shape := ⟨3, ![1, 72, 256]⟩
abbrev S64x256 : Shape := ⟨2, ![64, 256]⟩
abbrev S1x64x256 : Shape := ⟨3, ![1, 64, 256]⟩
abbrev S1x66x256 : Shape := ⟨3, ![1, 66, 256]⟩
abbrev S32x64x256 : Shape := ⟨3, ![32, 64, 256]⟩
abbrev S32x66x256 : Shape := ⟨3, ![32, 66, 256]⟩
abbrev S2520x256 : Shape := ⟨2, ![2520, 256]⟩
abbrev S2304x256 : Shape := ⟨2, ![2304, 256]⟩
abbrev S2304x512 : Shape := ⟨2, ![2304, 512]⟩
abbrev S2304x24 : Shape := ⟨2, ![2304, 24]⟩
abbrev S32x72x24 : Shape := ⟨3, ![32, 72, 24]⟩
abbrev S32x64x24 : Shape := ⟨3, ![32, 64, 24]⟩
abbrev S2x12288x8 : Shape := ⟨3, ![2, 12288, 8]⟩
abbrev S2x1x3072x8 : Shape := ⟨4, ![2, 1, 3072, 8]⟩
abbrev S1x1x32x256 : Shape := ⟨4, ![1, 1, 32, 256]⟩
abbrev S1x32x32x256 : Shape := ⟨4, ![1, 32, 32, 256]⟩
abbrev S1x1x3072x8 : Shape := ⟨4, ![1, 1, 3072, 8]⟩
abbrev S35x40x256 : Shape := ⟨3, ![35, 40, 256]⟩
abbrev S1x40x256 : Shape := ⟨3, ![1, 40, 256]⟩
abbrev S32x256 : Shape := ⟨2, ![32, 256]⟩
abbrev S1x32x256 : Shape := ⟨3, ![1, 32, 256]⟩
abbrev S1x34x256 : Shape := ⟨3, ![1, 34, 256]⟩
abbrev S32x32x256 : Shape := ⟨3, ![32, 32, 256]⟩
abbrev S32x34x256 : Shape := ⟨3, ![32, 34, 256]⟩
abbrev S1400x256 : Shape := ⟨2, ![1400, 256]⟩
abbrev S1280x256 : Shape := ⟨2, ![1280, 256]⟩
abbrev S1280x512 : Shape := ⟨2, ![1280, 512]⟩
abbrev S1280x24 : Shape := ⟨2, ![1280, 24]⟩
abbrev S32x40x24 : Shape := ⟨3, ![32, 40, 24]⟩
abbrev S32x32x24 : Shape := ⟨3, ![32, 32, 24]⟩
abbrev S1024x24 : Shape := ⟨2, ![1024, 24]⟩
abbrev S1024x2 : Shape := ⟨2, ![1024, 2]⟩
abbrev S1024x6 : Shape := ⟨2, ![1024, 6]⟩
abbrev S1024x4 : Shape := ⟨2, ![1024, 4]⟩
abbrev S3072x8 : Shape := ⟨2, ![3072, 8]⟩
abbrev S2x3072x8 : Shape := ⟨3, ![2, 3072, 8]⟩
abbrev S2x1x768x8 : Shape := ⟨4, ![2, 1, 768, 8]⟩
abbrev S1x1x16x256 : Shape := ⟨4, ![1, 1, 16, 256]⟩
abbrev S1x16x16x256 : Shape := ⟨4, ![1, 16, 16, 256]⟩
abbrev S1x1x768x8 : Shape := ⟨4, ![1, 1, 768, 8]⟩
abbrev S19x24x256 : Shape := ⟨3, ![19, 24, 256]⟩
abbrev S1x24x256 : Shape := ⟨3, ![1, 24, 256]⟩
abbrev S16x256 : Shape := ⟨2, ![16, 256]⟩
abbrev S1x16x256 : Shape := ⟨3, ![1, 16, 256]⟩
abbrev S1x18x256 : Shape := ⟨3, ![1, 18, 256]⟩
abbrev S16x16x256 : Shape := ⟨3, ![16, 16, 256]⟩
abbrev S16x18x256 : Shape := ⟨3, ![16, 18, 256]⟩
abbrev S456x256 : Shape := ⟨2, ![456, 256]⟩
abbrev S384x256 : Shape := ⟨2, ![384, 256]⟩
abbrev S384x512 : Shape := ⟨2, ![384, 512]⟩
abbrev S384x24 : Shape := ⟨2, ![384, 24]⟩
abbrev S16x24x24 : Shape := ⟨3, ![16, 24, 24]⟩
abbrev S16x16x24 : Shape := ⟨3, ![16, 16, 24]⟩
abbrev S256x24 : Shape := ⟨2, ![256, 24]⟩
abbrev S256x2 : Shape := ⟨2, ![256, 2]⟩
abbrev S256x6 : Shape := ⟨2, ![256, 6]⟩
abbrev S256x4 : Shape := ⟨2, ![256, 4]⟩
abbrev S768x8 : Shape := ⟨2, ![768, 8]⟩
abbrev S2x768x8 : Shape := ⟨3, ![2, 768, 8]⟩
abbrev S2x261888x8 : Shape := ⟨3, ![2, 261888, 8]⟩
abbrev S2x261888x2 : Shape := ⟨3, ![2, 261888, 2]⟩
abbrev S2x261888x4 : Shape := ⟨3, ![2, 261888, 4]⟩

abbrev nBuf : Space → Nat
  | .hbm => 78
  | .vmem => 70
  | .smem => 0
  | _ => 0

abbrev bufTy : (tb : Table) → Fin (tcTables nBuf tb) → BufTy
  | .hbm, ⟨0, _⟩ => ⟨S2x256x256x256, .f32⟩
  | .hbm, ⟨1, _⟩ => ⟨S2x128x128x256, .f32⟩
  | .hbm, ⟨2, _⟩ => ⟨S2x64x64x256, .f32⟩
  | .hbm, ⟨3, _⟩ => ⟨S2x32x32x256, .f32⟩
  | .hbm, ⟨4, _⟩ => ⟨S2x16x16x256, .f32⟩
  | .hbm, ⟨5, _⟩ => ⟨S3x3x256x512, .f32⟩
  | .hbm, ⟨6, _⟩ => ⟨S512, .f32⟩
  | .hbm, ⟨7, _⟩ => ⟨S1x1x512x6, .f32⟩
  | .hbm, ⟨8, _⟩ => ⟨S6, .f32⟩
  | .hbm, ⟨9, _⟩ => ⟨S1x1x512x12, .f32⟩
  | .hbm, ⟨10, _⟩ => ⟨S12, .f32⟩
  | .hbm, ⟨11, _⟩ => ⟨S6, .i32⟩
  | .hbm, ⟨12, _⟩ => ⟨S3x384x128, .bf16⟩
  | .hbm, ⟨13, _⟩ => ⟨S512x6, .f32⟩
  | .hbm, ⟨14, _⟩ => ⟨S512x12, .f32⟩
  | .hbm, ⟨15, _⟩ => ⟨S_, .i32⟩
  | .hbm, ⟨16, _⟩ => ⟨S6, .i32⟩
  | .hbm, ⟨17, _⟩ => ⟨S6, .i1⟩
  | .hbm, ⟨18, _⟩ => ⟨S_, .i32⟩
  | .hbm, ⟨19, _⟩ => ⟨S6, .i32⟩
  | .hbm, ⟨20, _⟩ => ⟨S6, .i32⟩
  | .hbm, ⟨21, _⟩ => ⟨S6, .i32⟩
  | .hbm, ⟨22, _⟩ => ⟨S6x1, .i32⟩
  | .hbm, ⟨23, _⟩ => ⟨S512x6, .f32⟩
  | .hbm, ⟨24, _⟩ => ⟨S512x6, .f32⟩
  | .hbm, ⟨25, _⟩ => ⟨S_, .i32⟩
  | .hbm, ⟨26, _⟩ => ⟨S6, .i32⟩
  | .hbm, ⟨27, _⟩ => ⟨S6, .i1⟩
  | .hbm, ⟨28, _⟩ => ⟨S_, .i32⟩
  | .hbm, ⟨29, _⟩ => ⟨S6, .i32⟩
  | .hbm, ⟨30, _⟩ => ⟨S6, .i32⟩
  | .hbm, ⟨31, _⟩ => ⟨S6, .i32⟩
  | .hbm, ⟨32, _⟩ => ⟨S6x1, .i32⟩
  | .hbm, ⟨33, _⟩ => ⟨S6, .f32⟩
  | .hbm, ⟨34, _⟩ => ⟨S6, .f32⟩
  | .hbm, ⟨35, _⟩ => ⟨S512x2, .f32⟩
  | .hbm, ⟨36, _⟩ => ⟨S512x2, .f32⟩
  | .hbm, ⟨37, _⟩ => ⟨S512x4, .f32⟩
  | .hbm, ⟨38, _⟩ => ⟨S512x8, .f32⟩
  | .hbm, ⟨39, _⟩ => ⟨S512x2, .f32⟩
  | .hbm, ⟨40, _⟩ => ⟨S512x2, .f32⟩
  | .hbm, ⟨41, _⟩ => ⟨S512x4, .f32⟩
  | .hbm, ⟨42, _⟩ => ⟨S512x8, .f32⟩
  | .hbm, ⟨43, _⟩ => ⟨S512x2, .f32⟩
  | .hbm, ⟨44, _⟩ => ⟨S512x2, .f32⟩
  | .hbm, ⟨45, _⟩ => ⟨S512x4, .f32⟩
  | .hbm, ⟨46, _⟩ => ⟨S512x8, .f32⟩
  | .hbm, ⟨47, _⟩ => ⟨S512x24, .f32⟩
  | .hbm, ⟨48, _⟩ => ⟨S2, .f32⟩
  | .hbm, ⟨49, _⟩ => ⟨S2, .f32⟩
  | .hbm, ⟨50, _⟩ => ⟨S4, .f32⟩
  | .hbm, ⟨51, _⟩ => ⟨S8, .f32⟩
  | .hbm, ⟨52, _⟩ => ⟨S2, .f32⟩
  | .hbm, ⟨53, _⟩ => ⟨S2, .f32⟩
  | .hbm, ⟨54, _⟩ => ⟨S4, .f32⟩
  | .hbm, ⟨55, _⟩ => ⟨S8, .f32⟩
  | .hbm, ⟨56, _⟩ => ⟨S2, .f32⟩
  | .hbm, ⟨57, _⟩ => ⟨S2, .f32⟩
  | .hbm, ⟨58, _⟩ => ⟨S4, .f32⟩
  | .hbm, ⟨59, _⟩ => ⟨S8, .f32⟩
  | .hbm, ⟨60, _⟩ => ⟨S24, .f32⟩
  | .hbm, ⟨61, _⟩ => ⟨S1x24, .f32⟩
  | .hbm, ⟨62, _⟩ => ⟨S1x512, .f32⟩
  | .hbm, ⟨63, _⟩ => ⟨S3x3x256x512, .bf16⟩
  | .hbm, ⟨64, _⟩ => ⟨S2x32x6144x8, .f32⟩
  | .hbm, ⟨65, _⟩ => ⟨S2x196608x8, .f32⟩
  | .hbm, ⟨66, _⟩ => ⟨S2x8x6144x8, .f32⟩
  | .hbm, ⟨67, _⟩ => ⟨S2x49152x8, .f32⟩
  | .hbm, ⟨68, _⟩ => ⟨S2x2x6144x8, .f32⟩
  | .hbm, ⟨69, _⟩ => ⟨S2x12288x8, .f32⟩
  | .hbm, ⟨70, _⟩ => ⟨S2x1x3072x8, .f32⟩
  | .hbm, ⟨71, _⟩ => ⟨S2x3072x8, .f32⟩
  | .hbm, ⟨72, _⟩ => ⟨S2x1x768x8, .f32⟩
  | .hbm, ⟨73, _⟩ => ⟨S2x768x8, .f32⟩
  | .hbm, ⟨74, _⟩ => ⟨S2x261888x8, .f32⟩
  | .hbm, ⟨75, _⟩ => ⟨S2x261888x2, .f32⟩
  | .hbm, ⟨76, _⟩ => ⟨S2x261888x2, .f32⟩
  | .hbm, ⟨77, _⟩ => ⟨S2x261888x4, .f32⟩
  | .local _ .vmem, ⟨0, _⟩ => ⟨S1x1x256x256, .f32⟩
  | .local _ .vmem, ⟨1, _⟩ => ⟨S1x1x256x256, .f32⟩
  | .local _ .vmem, ⟨2, _⟩ => ⟨S1x8x256x256, .f32⟩
  | .local _ .vmem, ⟨3, _⟩ => ⟨S1x8x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S3x3x256x512, .bf16⟩
  | .local _ .vmem, ⟨7, _⟩ => ⟨S1x512, .f32⟩
  | .local _ .vmem, ⟨8, _⟩ => ⟨S512x24, .f32⟩
  | .local _ .vmem, ⟨9, _⟩ => ⟨S1x24, .f32⟩
  | .local _ .vmem, ⟨10, _⟩ => ⟨S3x384x128, .bf16⟩
  | .local _ .vmem, ⟨11, _⟩ => ⟨S1x1x6144x8, .f32⟩
  | .local _ .vmem, ⟨12, _⟩ => ⟨S1x1x6144x8, .f32⟩
  | .local _ .vmem, ⟨13, _⟩ => ⟨S11x264x256, .bf16⟩
  | .local _ .vmem, ⟨14, _⟩ => ⟨S1x1x128x256, .f32⟩
  | .local _ .vmem, ⟨15, _⟩ => ⟨S1x1x128x256, .f32⟩
  | .local _ .vmem, ⟨16, _⟩ => ⟨S1x16x128x256, .f32⟩
  | .local _ .vmem, ⟨17, _⟩ => ⟨S1x16x128x256, .f32⟩
  | .local _ .vmem, ⟨18, _⟩ => ⟨S1x1x128x256, .f32⟩
  | .local _ .vmem, ⟨19, _⟩ => ⟨S1x1x128x256, .f32⟩
  | .local _ .vmem, ⟨20, _⟩ => ⟨S3x3x256x512, .bf16⟩
  | .local _ .vmem, ⟨21, _⟩ => ⟨S1x512, .f32⟩
  | .local _ .vmem, ⟨22, _⟩ => ⟨S512x24, .f32⟩
  | .local _ .vmem, ⟨23, _⟩ => ⟨S1x24, .f32⟩
  | .local _ .vmem, ⟨24, _⟩ => ⟨S3x384x128, .bf16⟩
  | .local _ .vmem, ⟨25, _⟩ => ⟨S1x1x6144x8, .f32⟩
  | .local _ .vmem, ⟨26, _⟩ => ⟨S1x1x6144x8, .f32⟩
  | .local _ .vmem, ⟨27, _⟩ => ⟨S19x136x256, .bf16⟩
  | .local _ .vmem, ⟨28, _⟩ => ⟨S1x1x64x256, .f32⟩
  | .local _ .vmem, ⟨29, _⟩ => ⟨S1x1x64x256, .f32⟩
  | .local _ .vmem, ⟨30, _⟩ => ⟨S1x32x64x256, .f32⟩
  | .local _ .vmem, ⟨31, _⟩ => ⟨S1x32x64x256, .f32⟩
  | .local _ .vmem, ⟨32, _⟩ => ⟨S1x1x64x256, .f32⟩
  | .local _ .vmem, ⟨33, _⟩ => ⟨S1x1x64x256, .f32⟩
  | .local _ .vmem, ⟨34, _⟩ => ⟨S3x3x256x512, .bf16⟩
  | .local _ .vmem, ⟨35, _⟩ => ⟨S1x512, .f32⟩
  | .local _ .vmem, ⟨36, _⟩ => ⟨S512x24, .f32⟩
  | .local _ .vmem, ⟨37, _⟩ => ⟨S1x24, .f32⟩
  | .local _ .vmem, ⟨38, _⟩ => ⟨S3x384x128, .bf16⟩
  | .local _ .vmem, ⟨39, _⟩ => ⟨S1x1x6144x8, .f32⟩
  | .local _ .vmem, ⟨40, _⟩ => ⟨S1x1x6144x8, .f32⟩
  | .local _ .vmem, ⟨41, _⟩ => ⟨S35x72x256, .bf16⟩
  | .local _ .vmem, ⟨42, _⟩ => ⟨S1x1x32x256, .f32⟩
  | .local _ .vmem, ⟨43, _⟩ => ⟨S1x1x32x256, .f32⟩
  | .local _ .vmem, ⟨44, _⟩ => ⟨S1x32x32x256, .f32⟩
  | .local _ .vmem, ⟨45, _⟩ => ⟨S1x32x32x256, .f32⟩
  | .local _ .vmem, ⟨46, _⟩ => ⟨S1x1x32x256, .f32⟩
  | .local _ .vmem, ⟨47, _⟩ => ⟨S1x1x32x256, .f32⟩
  | .local _ .vmem, ⟨48, _⟩ => ⟨S3x3x256x512, .bf16⟩
  | .local _ .vmem, ⟨49, _⟩ => ⟨S1x512, .f32⟩
  | .local _ .vmem, ⟨50, _⟩ => ⟨S512x24, .f32⟩
  | .local _ .vmem, ⟨51, _⟩ => ⟨S1x24, .f32⟩
  | .local _ .vmem, ⟨52, _⟩ => ⟨S3x384x128, .bf16⟩
  | .local _ .vmem, ⟨53, _⟩ => ⟨S1x1x3072x8, .f32⟩
  | .local _ .vmem, ⟨54, _⟩ => ⟨S1x1x3072x8, .f32⟩
  | .local _ .vmem, ⟨55, _⟩ => ⟨S35x40x256, .bf16⟩
  | .local _ .vmem, ⟨56, _⟩ => ⟨S1x1x16x256, .f32⟩
  | .local _ .vmem, ⟨57, _⟩ => ⟨S1x1x16x256, .f32⟩
  | .local _ .vmem, ⟨58, _⟩ => ⟨S1x16x16x256, .f32⟩
  | .local _ .vmem, ⟨59, _⟩ => ⟨S1x16x16x256, .f32⟩
  | .local _ .vmem, ⟨60, _⟩ => ⟨S1x1x16x256, .f32⟩
  | .local _ .vmem, ⟨61, _⟩ => ⟨S1x1x16x256, .f32⟩
  | .local _ .vmem, ⟨62, _⟩ => ⟨S3x3x256x512, .bf16⟩
  | .local _ .vmem, ⟨63, _⟩ => ⟨S1x512, .f32⟩
  | .local _ .vmem, ⟨64, _⟩ => ⟨S512x24, .f32⟩
  | .local _ .vmem, ⟨65, _⟩ => ⟨S1x24, .f32⟩
  | .local _ .vmem, ⟨66, _⟩ => ⟨S3x384x128, .bf16⟩
  | .local _ .vmem, ⟨67, _⟩ => ⟨S1x1x768x8, .f32⟩
  | .local _ .vmem, ⟨68, _⟩ => ⟨S1x1x768x8, .f32⟩
  | .local _ .vmem, ⟨69, _⟩ => ⟨S19x24x256, .bf16⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc2_scratch0 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg8_1 : Ref sig .tc := ⟨.vmem, 54, rfl⟩
abbrev cc3_scratch0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg6_0 : Ref sig .tc := ⟨.vmem, 65, rfl⟩
abbrev cc4_stg7_0 : Ref sig .tc := ⟨.vmem, 66, rfl⟩
abbrev cc4_stg8_0 : Ref sig .tc := ⟨.vmem, 67, rfl⟩
abbrev cc4_stg8_1 : Ref sig .tc := ⟨.vmem, 68, rfl⟩
abbrev cc4_scratch0 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem4_0 : DmaSem sig := 59
abbrev cc4_sem5_0 : DmaSem sig := 60
abbrev cc4_sem6_0 : DmaSem sig := 61
abbrev cc4_sem7_0 : DmaSem sig := 62
abbrev cc4_sem8_0 : DmaSem sig := 63
abbrev cc4_sem8_1 : DmaSem sig := 64

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c255_i32 : BitVec 32 := 255#32
  let v2 : BitVec 32 := Scalar.minsi v1 c255_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x6144x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c127_i32 : BitVec 32 := 127#32
  let v2 : BitVec 32 := Scalar.minsi v1 c127_i32
  let c0_i32 : BitVec 32 := 0#32
  let c0_i32_1 : BitVec 32 := 0#32
  let c0_i32_2 : BitVec 32 := 0#32
  ![arg0.toNat, v2.toNat, c0_i32.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3x3x256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x24 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S3x384x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x1x6144x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 2], ![false, false]⟩

def cc2_transform_0 (i : grid2.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  ![arg0.toNat, v2.toNat, c0_i32.toNat, c0_i32_1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x64x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S3x3x256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S512x24 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x24 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S3x384x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x1x6144x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 1], ![false, false]⟩

def cc3_transform_0 (i : grid3.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c32_i32_0 : BitVec 32 := 32#32
  let v1 : BitVec 32 := Scalar.addi v0 c32_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![arg0.toNat, v2.toNat, c0_i32.toNat, c0_i32_1.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x32x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x32x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x32x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S3x3x256x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S512x24 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x24 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S3x384x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1x1x3072x8 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev grid4 : Pipeline.Grid := ⟨2, ![2, 1], ![false, false]⟩

def cc4_transform_0 (i : grid4.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c16_i32_0 : BitVec 32 := 16#32
  let v1 : BitVec 32 := Scalar.addi v0 c16_i32_0
  let c15_i32 : BitVec 32 := 15#32
  let v2 : BitVec 32 := Scalar.minsi v1 c15_i32
  let c0_i32 : BitVec 32 := 0#32
  let c0_i32_1 : BitVec 32 := 0#32
  let c0_i32_2 : BitVec 32 := 0#32
  ![arg0.toNat, v2.toNat, c0_i32.toNat, c0_i32_1.toNat]

def cc4_transform_3 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_8 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1x16x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x16x16x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x16x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S3x3x256x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S512x24 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x24 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S3x384x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 2 → Memref sig .tc .vmem S1x1x768x8 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]
-- ==== ReferenceIdeal.lean ====
abbrev S2x256x256x256 : Shape := ⟨4, ![2, 256, 256, 256]⟩
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x258x258x256 : Shape := ⟨4, ![2, 258, 258, 256]⟩
abbrev S1x1x256x512 : Shape := ⟨4, ![1, 1, 256, 512]⟩
abbrev S256x512 : Shape := ⟨2, ![256, 512]⟩
abbrev S2x256x256x512 : Shape := ⟨4, ![2, 256, 256, 512]⟩
abbrev S1x1x1x512 : Shape := ⟨4, ![1, 1, 1, 512]⟩
abbrev S512x6 : Shape := ⟨2, ![512, 6]⟩
abbrev S2x256x256x6 : Shape := ⟨4, ![2, 256, 256, 6]⟩
abbrev S1x1x1x6 : Shape := ⟨4, ![1, 1, 1, 6]⟩
abbrev S2x196608x2 : Shape := ⟨3, ![2, 196608, 2]⟩
abbrev S2x196608 : Shape := ⟨2, ![2, 196608]⟩
abbrev S2x196608x1 : Shape := ⟨3, ![2, 196608, 1]⟩
abbrev S512x12 : Shape := ⟨2, ![512, 12]⟩
abbrev S2x256x256x12 : Shape := ⟨4, ![2, 256, 256, 12]⟩
abbrev S1x1x1x12 : Shape := ⟨4, ![1, 1, 1, 12]⟩
abbrev S2x196608x4 : Shape := ⟨3, ![2, 196608, 4]⟩
abbrev S2x130x130x256 : Shape := ⟨4, ![2, 130, 130, 256]⟩
abbrev S2x128x128x512 : Shape := ⟨4, ![2, 128, 128, 512]⟩
abbrev S2x128x128x6 : Shape := ⟨4, ![2, 128, 128, 6]⟩
abbrev S2x49152x2 : Shape := ⟨3, ![2, 49152, 2]⟩
abbrev S2x49152 : Shape := ⟨2, ![2, 49152]⟩
abbrev S2x49152x1 : Shape := ⟨3, ![2, 49152, 1]⟩
abbrev S2x128x128x12 : Shape := ⟨4, ![2, 128, 128, 12]⟩
abbrev S2x49152x4 : Shape := ⟨3, ![2, 49152, 4]⟩
abbrev S2x66x66x256 : Shape := ⟨4, ![2, 66, 66, 256]⟩
abbrev S2x64x64x512 : Shape := ⟨4, ![2, 64, 64, 512]⟩
abbrev S2x64x64x6 : Shape := ⟨4, ![2, 64, 64, 6]⟩
abbrev S2x12288x2 : Shape := ⟨3, ![2, 12288, 2]⟩
abbrev S2x12288 : Shape := ⟨2, ![2, 12288]⟩
abbrev S2x12288x1 : Shape := ⟨3, ![2, 12288, 1]⟩
abbrev S2x64x64x12 : Shape := ⟨4, ![2, 64, 64, 12]⟩
abbrev S2x12288x4 : Shape := ⟨3, ![2, 12288, 4]⟩
abbrev S2x34x34x256 : Shape := ⟨4, ![2, 34, 34, 256]⟩
abbrev S2x32x32x512 : Shape := ⟨4, ![2, 32, 32, 512]⟩
abbrev S2x32x32x6 : Shape := ⟨4, ![2, 32, 32, 6]⟩
abbrev S2x3072x2 : Shape := ⟨3, ![2, 3072, 2]⟩
abbrev S2x3072 : Shape := ⟨2, ![2, 3072]⟩
abbrev S2x3072x1 : Shape := ⟨3, ![2, 3072, 1]⟩
abbrev S2x32x32x12 : Shape := ⟨4, ![2, 32, 32, 12]⟩
abbrev S2x3072x4 : Shape := ⟨3, ![2, 3072, 4]⟩
abbrev S2x18x18x256 : Shape := ⟨4, ![2, 18, 18, 256]⟩
abbrev S2x16x16x512 : Shape := ⟨4, ![2, 16, 16, 512]⟩
abbrev S2x16x16x6 : Shape := ⟨4, ![2, 16, 16, 6]⟩
abbrev S2x768x2 : Shape := ⟨3, ![2, 768, 2]⟩
abbrev S2x768 : Shape := ⟨2, ![2, 768]⟩
abbrev S2x768x1 : Shape := ⟨3, ![2, 768, 1]⟩
abbrev S2x16x16x12 : Shape := ⟨4, ![2, 16, 16, 12]⟩
abbrev S2x768x4 : Shape := ⟨3, ![2, 768, 4]⟩
abbrev S2x261888x2 : Shape := ⟨3, ![2, 261888, 2]⟩
abbrev S2x261888x4 : Shape := ⟨3, ![2, 261888, 4]⟩

abbrev nBuf : Space → Nat
  | .hbm => 424
  | .vmem => 0
  | .smem => 0
  | _ => 0

abbrev hbmTy0_0 (i : Nat) : BufTy := match i % 128 with
  | 0 => ⟨S2x256x256x256, .f32⟩
  | 1 => ⟨S2x128x128x256, .f32⟩
  | 2 => ⟨S2x64x64x256, .f32⟩
  | 3 => ⟨S2x32x32x256, .f32⟩
  | 4 => ⟨S2x16x16x256, .f32⟩
  | 5 => ⟨S3x3x256x512, .f32⟩
  | 6 => ⟨S512, .f32⟩
  | 7 => ⟨S1x1x512x6, .f32⟩
  | 8 => ⟨S6, .f32⟩
  | 9 => ⟨S1x1x512x12, .f32⟩
  | 10 => ⟨S12, .f32⟩
  | 11 => ⟨S_, .i32⟩
  | 12 => ⟨S_, .f32⟩
  | 13 => ⟨S2x258x258x256, .f32⟩
  | 14 => ⟨S2x256x256x256, .f32⟩
  | 15 => ⟨S1x1x256x512, .f32⟩
  | 16 => ⟨S256x512, .f32⟩
  | 17 => ⟨S2x256x256x512, .f32⟩
  | 18 => ⟨S_, .f32⟩
  | 19 => ⟨S2x256x256x512, .f32⟩
  | 20 => ⟨S2x256x256x512, .f32⟩
  | 21 => ⟨S2x256x256x256, .f32⟩
  | 22 => ⟨S1x1x256x512, .f32⟩
  | 23 => ⟨S256x512, .f32⟩
  | 24 => ⟨S2x256x256x512, .f32⟩
  | 25 => ⟨S2x256x256x512, .f32⟩
  | 26 => ⟨S2x256x256x256, .f32⟩
  | 27 => ⟨S1x1x256x512, .f32⟩
  | 28 => ⟨S256x512, .f32⟩
  | 29 => ⟨S2x256x256x512, .f32⟩
  | 30 => ⟨S2x256x256x512, .f32⟩
  | 31 => ⟨S2x256x256x256, .f32⟩
  | 32 => ⟨S1x1x256x512, .f32⟩
  | 33 => ⟨S256x512, .f32⟩
  | 34 => ⟨S2x256x256x512, .f32⟩
  | 35 => ⟨S2x256x256x512, .f32⟩
  | 36 => ⟨S2x256x256x256, .f32⟩
  | 37 => ⟨S1x1x256x512, .f32⟩
  | 38 => ⟨S256x512, .f32⟩
  | 39 => ⟨S2x256x256x512, .f32⟩
  | 40 => ⟨S2x256x256x512, .f32⟩
  | 41 => ⟨S2x256x256x256, .f32⟩
  | 42 => ⟨S1x1x256x512, .f32⟩
  | 43 => ⟨S256x512, .f32⟩
  | 44 => ⟨S2x256x256x512, .f32⟩
  | 45 => ⟨S2x256x256x512, .f32⟩
  | 46 => ⟨S2x256x256x256, .f32⟩
  | 47 => ⟨S1x1x256x512, .f32⟩
  | 48 => ⟨S256x512, .f32⟩
  | 49 => ⟨S2x256x256x512, .f32⟩
  | 50 => ⟨S2x256x256x512, .f32⟩
  | 51 => ⟨S2x256x256x256, .f32⟩
  | 52 => ⟨S1x1x256x512, .f32⟩
  | 53 => ⟨S256x512, .f32⟩
  | 54 => ⟨S2x256x256x512, .f32⟩
  | 55 => ⟨S2x256x256x512, .f32⟩
  | 56 => ⟨S2x256x256x256, .f32⟩
  | 57 => ⟨S1x1x256x512, .f32⟩
  | 58 => ⟨S256x512, .f32⟩
  | 59 => ⟨S2x256x256x512, .f32⟩
  | 60 => ⟨S2x256x256x512, .f32⟩
  | 61 => ⟨S1x1x1x512, .f32⟩
  | 62 => ⟨S2x256x256x512, .f32⟩
  | 63 => ⟨S2x256x256x512, .f32⟩
  | 64 => ⟨S_, .f32⟩
  | 65 => ⟨S2x256x256x512, .f32⟩
  | 66 => ⟨S2x256x256x512, .f32⟩
  | 67 => ⟨S512x6, .f32⟩
  | 68 => ⟨S2x256x256x6, .f32⟩
  | 69 => ⟨S1x1x1x6, .f32⟩
  | 70 => ⟨S2x256x256x6, .f32⟩
  | 71 => ⟨S2x256x256x6, .f32⟩
  | 72 => ⟨S2x196608x2, .f32⟩
  | 73 => ⟨S_, .f32⟩
  | 74 => ⟨S2x196608, .f32⟩
  | 75 => ⟨S_, .f32⟩
  | 76 => ⟨S2x196608, .f32⟩
  | 77 => ⟨S2x196608, .f32⟩
  | 78 => ⟨S2x196608x1, .f32⟩
  | 79 => ⟨S2x196608x2, .f32⟩
  | 80 => ⟨S2x196608x2, .f32⟩
  | 81 => ⟨S2x196608x2, .f32⟩
  | 82 => ⟨S_, .f32⟩
  | 83 => ⟨S2x196608, .f32⟩
  | 84 => ⟨S2x196608x1, .f32⟩
  | 85 => ⟨S2x196608x2, .f32⟩
  | 86 => ⟨S2x196608x2, .f32⟩
  | 87 => ⟨S512x12, .f32⟩
  | 88 => ⟨S2x256x256x12, .f32⟩
  | 89 => ⟨S1x1x1x12, .f32⟩
  | 90 => ⟨S2x256x256x12, .f32⟩
  | 91 => ⟨S2x256x256x12, .f32⟩
  | 92 => ⟨S2x196608x4, .f32⟩
  | 93 => ⟨S_, .i32⟩
  | 94 => ⟨S_, .f32⟩
  | 95 => ⟨S2x130x130x256, .f32⟩
  | 96 => ⟨S2x128x128x256, .f32⟩
  | 97 => ⟨S1x1x256x512, .f32⟩
  | 98 => ⟨S256x512, .f32⟩
  | 99 => ⟨S2x128x128x512, .f32⟩
  | 100 => ⟨S_, .f32⟩
  | 101 => ⟨S2x128x128x512, .f32⟩
  | 102 => ⟨S2x128x128x512, .f32⟩
  | 103 => ⟨S2x128x128x256, .f32⟩
  | 104 => ⟨S1x1x256x512, .f32⟩
  | 105 => ⟨S256x512, .f32⟩
  | 106 => ⟨S2x128x128x512, .f32⟩
  | 107 => ⟨S2x128x128x512, .f32⟩
  | 108 => ⟨S2x128x128x256, .f32⟩
  | 109 => ⟨S1x1x256x512, .f32⟩
  | 110 => ⟨S256x512, .f32⟩
  | 111 => ⟨S2x128x128x512, .f32⟩
  | 112 => ⟨S2x128x128x512, .f32⟩
  | 113 => ⟨S2x128x128x256, .f32⟩
  | 114 => ⟨S1x1x256x512, .f32⟩
  | 115 => ⟨S256x512, .f32⟩
  | 116 => ⟨S2x128x128x512, .f32⟩
  | 117 => ⟨S2x128x128x512, .f32⟩
  | 118 => ⟨S2x128x128x256, .f32⟩
  | 119 => ⟨S1x1x256x512, .f32⟩
  | 120 => ⟨S256x512, .f32⟩
  | 121 => ⟨S2x128x128x512, .f32⟩
  | 122 => ⟨S2x128x128x512, .f32⟩
  | 123 => ⟨S2x128x128x256, .f32⟩
  | 124 => ⟨S1x1x256x512, .f32⟩
  | 125 => ⟨S256x512, .f32⟩
  | 126 => ⟨S2x128x128x512, .f32⟩
  | 127 => ⟨S2x128x128x512, .f32⟩
  | _ => ⟨S2x256x256x256, .f32⟩

abbrev hbmTy0_1 (i : Nat) : BufTy := match i % 128 with
  | 0 => ⟨S2x128x128x256, .f32⟩
  | 1 => ⟨S1x1x256x512, .f32⟩
  | 2 => ⟨S256x512, .f32⟩
  | 3 => ⟨S2x128x128x512, .f32⟩
  | 4 => ⟨S2x128x128x512, .f32⟩
  | 5 => ⟨S2x128x128x256, .f32⟩
  | 6 => ⟨S1x1x256x512, .f32⟩
  | 7 => ⟨S256x512, .f32⟩
  | 8 => ⟨S2x128x128x512, .f32⟩
  | 9 => ⟨S2x128x128x512, .f32⟩
  | 10 => ⟨S2x128x128x256, .f32⟩
  | 11 => ⟨S1x1x256x512, .f32⟩
  | 12 => ⟨S256x512, .f32⟩
  | 13 => ⟨S2x128x128x512, .f32⟩
  | 14 => ⟨S2x128x128x512, .f32⟩
  | 15 => ⟨S1x1x1x512, .f32⟩
  | 16 => ⟨S2x128x128x512, .f32⟩
  | 17 => ⟨S2x128x128x512, .f32⟩
  | 18 => ⟨S_, .f32⟩
  | 19 => ⟨S2x128x128x512, .f32⟩
  | 20 => ⟨S2x128x128x512, .f32⟩
  | 21 => ⟨S512x6, .f32⟩
  | 22 => ⟨S2x128x128x6, .f32⟩
  | 23 => ⟨S1x1x1x6, .f32⟩
  | 24 => ⟨S2x128x128x6, .f32⟩
  | 25 => ⟨S2x128x128x6, .f32⟩
  | 26 => ⟨S2x49152x2, .f32⟩
  | 27 => ⟨S_, .f32⟩
  | 28 => ⟨S2x49152, .f32⟩
  | 29 => ⟨S_, .f32⟩
  | 30 => ⟨S2x49152, .f32⟩
  | 31 => ⟨S2x49152, .f32⟩
  | 32 => ⟨S2x49152x1, .f32⟩
  | 33 => ⟨S2x49152x2, .f32⟩
  | 34 => ⟨S2x49152x2, .f32⟩
  | 35 => ⟨S2x49152x2, .f32⟩
  | 36 => ⟨S_, .f32⟩
  | 37 => ⟨S2x49152, .f32⟩
  | 38 => ⟨S2x49152x1, .f32⟩
  | 39 => ⟨S2x49152x2, .f32⟩
  | 40 => ⟨S2x49152x2, .f32⟩
  | 41 => ⟨S512x12, .f32⟩
  | 42 => ⟨S2x128x128x12, .f32⟩
  | 43 => ⟨S1x1x1x12, .f32⟩
  | 44 => ⟨S2x128x128x12, .f32⟩
  | 45 => ⟨S2x128x128x12, .f32⟩
  | 46 => ⟨S2x49152x4, .f32⟩
  | 47 => ⟨S_, .i32⟩
  | 48 => ⟨S_, .f32⟩
  | 49 => ⟨S2x66x66x256, .f32⟩
  | 50 => ⟨S2x64x64x256, .f32⟩
  | 51 => ⟨S1x1x256x512, .f32⟩
  | 52 => ⟨S256x512, .f32⟩
  | 53 => ⟨S2x64x64x512, .f32⟩
  | 54 => ⟨S_, .f32⟩
  | 55 => ⟨S2x64x64x512, .f32⟩
  | 56 => ⟨S2x64x64x512, .f32⟩
  | 57 => ⟨S2x64x64x256, .f32⟩
  | 58 => ⟨S1x1x256x512, .f32⟩
  | 59 => ⟨S256x512, .f32⟩
  | 60 => ⟨S2x64x64x512, .f32⟩
  | 61 => ⟨S2x64x64x512, .f32⟩
  | 62 => ⟨S2x64x64x256, .f32⟩
  | 63 => ⟨S1x1x256x512, .f32⟩
  | 64 => ⟨S256x512, .f32⟩
  | 65 => ⟨S2x64x64x512, .f32⟩
  | 66 => ⟨S2x64x64x512, .f32⟩
  | 67 => ⟨S2x64x64x256, .f32⟩
  | 68 => ⟨S1x1x256x512, .f32⟩
  | 69 => ⟨S256x512, .f32⟩
  | 70 => ⟨S2x64x64x512, .f32⟩
  | 71 => ⟨S2x64x64x512, .f32⟩
  | 72 => ⟨S2x64x64x256, .f32⟩
  | 73 => ⟨S1x1x256x512, .f32⟩
  | 74 => ⟨S256x512, .f32⟩
  | 75 => ⟨S2x64x64x512, .f32⟩
  | 76 => ⟨S2x64x64x512, .f32⟩
  | 77 => ⟨S2x64x64x256, .f32⟩
  | 78 => ⟨S1x1x256x512, .f32⟩
  | 79 => ⟨S256x512, .f32⟩
  | 80 => ⟨S2x64x64x512, .f32⟩
  | 81 => ⟨S2x64x64x512, .f32⟩
  | 82 => ⟨S2x64x64x256, .f32⟩
  | 83 => ⟨S1x1x256x512, .f32⟩
  | 84 => ⟨S256x512, .f32⟩
  | 85 => ⟨S2x64x64x512, .f32⟩
  | 86 => ⟨S2x64x64x512, .f32⟩
  | 87 => ⟨S2x64x64x256, .f32⟩
  | 88 => ⟨S1x1x256x512, .f32⟩
  | 89 => ⟨S256x512, .f32⟩
  | 90 => ⟨S2x64x64x512, .f32⟩
  | 91 => ⟨S2x64x64x512, .f32⟩
  | 92 => ⟨S2x64x64x256, .f32⟩
  | 93 => ⟨S1x1x256x512, .f32⟩
  | 94 => ⟨S256x512, .f32⟩
  | 95 => ⟨S2x64x64x512, .f32⟩
  | 96 => ⟨S2x64x64x512, .f32⟩
  | 97 => ⟨S1x1x1x512, .f32⟩
  | 98 => ⟨S2x64x64x512, .f32⟩
  | 99 => ⟨S2x64x64x512, .f32⟩
  | 100 => ⟨S_, .f32⟩
  | 101 => ⟨S2x64x64x512, .f32⟩
  | 102 => ⟨S2x64x64x512, .f32⟩
  | 103 => ⟨S512x6, .f32⟩
  | 104 => ⟨S2x64x64x6, .f32⟩
  | 105 => ⟨S1x1x1x6, .f32⟩
  | 106 => ⟨S2x64x64x6, .f32⟩
  | 107 => ⟨S2x64x64x6, .f32⟩
  | 108 => ⟨S2x12288x2, .f32⟩
  | 109 => ⟨S_, .f32⟩
  | 110 => ⟨S2x12288, .f32⟩
  | 111 => ⟨S_, .f32⟩
  | 112 => ⟨S2x12288, .f32⟩
  | 113 => ⟨S2x12288, .f32⟩
  | 114 => ⟨S2x12288x1, .f32⟩
  | 115 => ⟨S2x12288x2, .f32⟩
  | 116 => ⟨S2x12288x2, .f32⟩
  | 117 => ⟨S2x12288x2, .f32⟩
  | 118 => ⟨S_, .f32⟩
  | 119 => ⟨S2x12288, .f32⟩
  | 120 => ⟨S2x12288x1, .f32⟩
  | 121 => ⟨S2x12288x2, .f32⟩
  | 122 => ⟨S2x12288x2, .f32⟩
  | 123 => ⟨S512x12, .f32⟩
  | 124 => ⟨S2x64x64x12, .f32⟩
  | 125 => ⟨S1x1x1x12, .f32⟩
  | 126 => ⟨S2x64x64x12, .f32⟩
  | 127 => ⟨S2x64x64x12, .f32⟩
  | _ => ⟨S2x256x256x256, .f32⟩

abbrev hbmTy0_2 (i : Nat) : BufTy := match i % 128 with
  | 0 => ⟨S2x12288x4, .f32⟩
  | 1 => ⟨S_, .i32⟩
  | 2 => ⟨S_, .f32⟩
  | 3 => ⟨S2x34x34x256, .f32⟩
  | 4 => ⟨S2x32x32x256, .f32⟩
  | 5 => ⟨S1x1x256x512, .f32⟩
  | 6 => ⟨S256x512, .f32⟩
  | 7 => ⟨S2x32x32x512, .f32⟩
  | 8 => ⟨S_, .f32⟩
  | 9 => ⟨S2x32x32x512, .f32⟩
  | 10 => ⟨S2x32x32x512, .f32⟩
  | 11 => ⟨S2x32x32x256, .f32⟩
  | 12 => ⟨S1x1x256x512, .f32⟩
  | 13 => ⟨S256x512, .f32⟩
  | 14 => ⟨S2x32x32x512, .f32⟩
  | 15 => ⟨S2x32x32x512, .f32⟩
  | 16 => ⟨S2x32x32x256, .f32⟩
  | 17 => ⟨S1x1x256x512, .f32⟩
  | 18 => ⟨S256x512, .f32⟩
  | 19 => ⟨S2x32x32x512, .f32⟩
  | 20 => ⟨S2x32x32x512, .f32⟩
  | 21 => ⟨S2x32x32x256, .f32⟩
  | 22 => ⟨S1x1x256x512, .f32⟩
  | 23 => ⟨S256x512, .f32⟩
  | 24 => ⟨S2x32x32x512, .f32⟩
  | 25 => ⟨S2x32x32x512, .f32⟩
  | 26 => ⟨S2x32x32x256, .f32⟩
  | 27 => ⟨S1x1x256x512, .f32⟩
  | 28 => ⟨S256x512, .f32⟩
  | 29 => ⟨S2x32x32x512, .f32⟩
  | 30 => ⟨S2x32x32x512, .f32⟩
  | 31 => ⟨S2x32x32x256, .f32⟩
  | 32 => ⟨S1x1x256x512, .f32⟩
  | 33 => ⟨S256x512, .f32⟩
  | 34 => ⟨S2x32x32x512, .f32⟩
  | 35 => ⟨S2x32x32x512, .f32⟩
  | 36 => ⟨S2x32x32x256, .f32⟩
  | 37 => ⟨S1x1x256x512, .f32⟩
  | 38 => ⟨S256x512, .f32⟩
  | 39 => ⟨S2x32x32x512, .f32⟩
  | 40 => ⟨S2x32x32x512, .f32⟩
  | 41 => ⟨S2x32x32x256, .f32⟩
  | 42 => ⟨S1x1x256x512, .f32⟩
  | 43 => ⟨S256x512, .f32⟩
  | 44 => ⟨S2x32x32x512, .f32⟩
  | 45 => ⟨S2x32x32x512, .f32⟩
  | 46 => ⟨S2x32x32x256, .f32⟩
  | 47 => ⟨S1x1x256x512, .f32⟩
  | 48 => ⟨S256x512, .f32⟩
  | 49 => ⟨S2x32x32x512, .f32⟩
  | 50 => ⟨S2x32x32x512, .f32⟩
  | 51 => ⟨S1x1x1x512, .f32⟩
  | 52 => ⟨S2x32x32x512, .f32⟩
  | 53 => ⟨S2x32x32x512, .f32⟩
  | 54 => ⟨S_, .f32⟩
  | 55 => ⟨S2x32x32x512, .f32⟩
  | 56 => ⟨S2x32x32x512, .f32⟩
  | 57 => ⟨S512x6, .f32⟩
  | 58 => ⟨S2x32x32x6, .f32⟩
  | 59 => ⟨S1x1x1x6, .f32⟩
  | 60 => ⟨S2x32x32x6, .f32⟩
  | 61 => ⟨S2x32x32x6, .f32⟩
  | 62 => ⟨S2x3072x2, .f32⟩
  | 63 => ⟨S_, .f32⟩
  | 64 => ⟨S2x3072, .f32⟩
  | 65 => ⟨S_, .f32⟩
  | 66 => ⟨S2x3072, .f32⟩
  | 67 => ⟨S2x3072, .f32⟩
  | 68 => ⟨S2x3072x1, .f32⟩
  | 69 => ⟨S2x3072x2, .f32⟩
  | 70 => ⟨S2x3072x2, .f32⟩
  | 71 => ⟨S2x3072x2, .f32⟩
  | 72 => ⟨S_, .f32⟩
  | 73 => ⟨S2x3072, .f32⟩
  | 74 => ⟨S2x3072x1, .f32⟩
  | 75 => ⟨S2x3072x2, .f32⟩
  | 76 => ⟨S2x3072x2, .f32⟩
  | 77 => ⟨S512x12, .f32⟩
  | 78 => ⟨S2x32x32x12, .f32⟩
  | 79 => ⟨S1x1x1x12, .f32⟩
  | 80 => ⟨S2x32x32x12, .f32⟩
  | 81 => ⟨S2x32x32x12, .f32⟩
  | 82 => ⟨S2x3072x4, .f32⟩
  | 83 => ⟨S_, .i32⟩
  | 84 => ⟨S_, .f32⟩
  | 85 => ⟨S2x18x18x256, .f32⟩
  | 86 => ⟨S2x16x16x256, .f32⟩
  | 87 => ⟨S1x1x256x512, .f32⟩
  | 88 => ⟨S256x512, .f32⟩
  | 89 => ⟨S2x16x16x512, .f32⟩
  | 90 => ⟨S_, .f32⟩
  | 91 => ⟨S2x16x16x512, .f32⟩
  | 92 => ⟨S2x16x16x512, .f32⟩
  | 93 => ⟨S2x16x16x256, .f32⟩
  | 94 => ⟨S1x1x256x512, .f32⟩
  | 95 => ⟨S256x512, .f32⟩
  | 96 => ⟨S2x16x16x512, .f32⟩
  | 97 => ⟨S2x16x16x512, .f32⟩
  | 98 => ⟨S2x16x16x256, .f32⟩
  | 99 => ⟨S1x1x256x512, .f32⟩
  | 100 => ⟨S256x512, .f32⟩
  | 101 => ⟨S2x16x16x512, .f32⟩
  | 102 => ⟨S2x16x16x512, .f32⟩
  | 103 => ⟨S2x16x16x256, .f32⟩
  | 104 => ⟨S1x1x256x512, .f32⟩
  | 105 => ⟨S256x512, .f32⟩
  | 106 => ⟨S2x16x16x512, .f32⟩
  | 107 => ⟨S2x16x16x512, .f32⟩
  | 108 => ⟨S2x16x16x256, .f32⟩
  | 109 => ⟨S1x1x256x512, .f32⟩
  | 110 => ⟨S256x512, .f32⟩
  | 111 => ⟨S2x16x16x512, .f32⟩
  | 112 => ⟨S2x16x16x512, .f32⟩
  | 113 => ⟨S2x16x16x256, .f32⟩
  | 114 => ⟨S1x1x256x512, .f32⟩
  | 115 => ⟨S256x512, .f32⟩
  | 116 => ⟨S2x16x16x512, .f32⟩
  | 117 => ⟨S2x16x16x512, .f32⟩
  | 118 => ⟨S2x16x16x256, .f32⟩
  | 119 => ⟨S1x1x256x512, .f32⟩
  | 120 => ⟨S256x512, .f32⟩
  | 121 => ⟨S2x16x16x512, .f32⟩
  | 122 => ⟨S2x16x16x512, .f32⟩
  | 123 => ⟨S2x16x16x256, .f32⟩
  | 124 => ⟨S1x1x256x512, .f32⟩
  | 125 => ⟨S256x512, .f32⟩
  | 126 => ⟨S2x16x16x512, .f32⟩
  | 127 => ⟨S2x16x16x512, .f32⟩
  | _ => ⟨S2x256x256x256, .f32⟩

abbrev hbmTy0_3 (i : Nat) : BufTy := match i % 128 with
  | 0 => ⟨S2x16x16x256, .f32⟩
  | 1 => ⟨S1x1x256x512, .f32⟩
  | 2 => ⟨S256x512, .f32⟩
  | 3 => ⟨S2x16x16x512, .f32⟩
  | 4 => ⟨S2x16x16x512, .f32⟩
  | 5 => ⟨S1x1x1x512, .f32⟩
  | 6 => ⟨S2x16x16x512, .f32⟩
  | 7 => ⟨S2x16x16x512, .f32⟩
  | 8 => ⟨S_, .f32⟩
  | 9 => ⟨S2x16x16x512, .f32⟩
  | 10 => ⟨S2x16x16x512, .f32⟩
  | 11 => ⟨S512x6, .f32⟩
  | 12 => ⟨S2x16x16x6, .f32⟩
  | 13 => ⟨S1x1x1x6, .f32⟩
  | 14 => ⟨S2x16x16x6, .f32⟩
  | 15 => ⟨S2x16x16x6, .f32⟩
  | 16 => ⟨S2x768x2, .f32⟩
  | 17 => ⟨S_, .f32⟩
  | 18 => ⟨S2x768, .f32⟩
  | 19 => ⟨S_, .f32⟩
  | 20 => ⟨S2x768, .f32⟩
  | 21 => ⟨S2x768, .f32⟩
  | 22 => ⟨S2x768x1, .f32⟩
  | 23 => ⟨S2x768x2, .f32⟩
  | 24 => ⟨S2x768x2, .f32⟩
  | 25 => ⟨S2x768x2, .f32⟩
  | 26 => ⟨S_, .f32⟩
  | 27 => ⟨S2x768, .f32⟩
  | 28 => ⟨S2x768x1, .f32⟩
  | 29 => ⟨S2x768x2, .f32⟩
  | 30 => ⟨S2x768x2, .f32⟩
  | 31 => ⟨S512x12, .f32⟩
  | 32 => ⟨S2x16x16x12, .f32⟩
  | 33 => ⟨S1x1x1x12, .f32⟩
  | 34 => ⟨S2x16x16x12, .f32⟩
  | 35 => ⟨S2x16x16x12, .f32⟩
  | 36 => ⟨S2x768x4, .f32⟩
  | 37 => ⟨S2x261888x2, .f32⟩
  | 38 => ⟨S2x261888x2, .f32⟩
  | 39 => ⟨S2x261888x4, .f32⟩
  | _ => ⟨S2x256x256x256, .f32⟩

abbrev hbmTy (i : Nat) : BufTy := match i / 128 with
  | 0 => hbmTy0_0 i
  | 1 => hbmTy0_1 i
  | 2 => hbmTy0_2 i
  | 3 => hbmTy0_3 i
  | _ => ⟨S2x256x256x256, .f32⟩

abbrev bufTy : (tb : Table) → Fin (tcTables nBuf tb) → BufTy
  | .hbm, ⟨i, _⟩ => hbmTy i
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_1 : Ref sig .tc := ⟨.hbm, 73, rfl⟩
abbrev main_v58 : Ref sig .tc := ⟨.hbm, 74, rfl⟩
abbrev main_cst_2 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_3 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c_4 : Ref sig .tc := ⟨.hbm, 93, rfl⟩
abbrev main_call1_v0 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_5 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_6 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_cst_7 : Ref sig .tc := ⟨.hbm, 155, rfl⟩
abbrev main_v133 : Ref sig .tc := ⟨.hbm, 156, rfl⟩
abbrev main_cst_8 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_cst_9 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_c_10 : Ref sig .tc := ⟨.hbm, 175, rfl⟩
abbrev main_call2_v0 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_cst_11 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_cst_12 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_cst_13 : Ref sig .tc := ⟨.hbm, 237, rfl⟩
abbrev main_v208 : Ref sig .tc := ⟨.hbm, 238, rfl⟩
abbrev main_cst_14 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_cst_15 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_c_16 : Ref sig .tc := ⟨.hbm, 257, rfl⟩
abbrev main_call3_v0 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_cst_17 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩
abbrev main_cst_18 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_cst_19 : Ref sig .tc := ⟨.hbm, 319, rfl⟩
abbrev main_v283 : Ref sig .tc := ⟨.hbm, 320, rfl⟩
abbrev main_cst_20 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_cst_21 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_c_22 : Ref sig .tc := ⟨.hbm, 339, rfl⟩
abbrev main_call4_v0 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_cst_23 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_cst_24 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_cst_25 : Ref sig .tc := ⟨.hbm, 401, rfl⟩
abbrev main_v358 : Ref sig .tc := ⟨.hbm, 402, rfl⟩
abbrev main_cst_26 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_cst_27 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩

abbrev nD : Nat := 1
abbrev τ : Topo := Topo.v7x

variable {F : FTy → Type} [FloatOps F]
-- ==== Proof.Block.lean ====
/- One level of the head on one block of rows, as a function of the slab and of the weights, at any sizes: what a grid point
   leaves in its output window.  The five launches are this function at five sizes. -/
module

public import Idealize.ShloMosaic.Lib.Pipeline.FrameBody
public import Idealize.ShloMosaic.Lib.VecWindow
public import Idealize.ShloMosaic.Lib.WritesUnit

@[expose] public section

set_option maxRecDepth 16384

noncomputable section

namespace Rpn

open Idealize.ShloMosaic

variable {F : FTy → Type} [FloatOps F]

/-- The shape conditions of one level: `T` slab rows of `wp` columns (`R = T·wp` in a row), `th` output rows of `s` columns
    (`M = th·wp` positions computed, `n = th·s` kept), `nc` chunks of 128 positions and `O = 3·n` output rows. -/
structure Fits (T wp R M s th n nc O : ℕ) : Prop where
  sc0 : Shape.ShapeCasts ⟨3, ![T, wp, 256]⟩ ⟨2, ![R, 256]⟩
  sl : ∀ a b : Fin 3, Shape.Slices ⟨2, ![R, 256]⟩ ![a.val * wp + b.val, 0] ⟨2, ![M, 256]⟩
  b1 : Shape.Broadcasts ⟨2, ![1, 512]⟩ ⟨2, ![M, 512]⟩
  b2 : Shape.Broadcasts ⟨2, ![1, 24]⟩ ⟨2, ![M, 24]⟩
  sc1 : Shape.ShapeCasts ⟨2, ![M, 24]⟩ ⟨3, ![th, wp, 24]⟩
  sl1 : Shape.Slices ⟨3, ![th, wp, 24]⟩ ![0, 0, 0] ⟨3, ![th, s, 24]⟩
  sc2 : Shape.ShapeCasts ⟨3, ![th, s, 24]⟩ ⟨2, ![n, 24]⟩
  p0 : Shape.Slices ⟨2, ![n, 24]⟩ ![0, 0] ⟨2, ![n, 2]⟩
  p2 : Shape.Slices ⟨2, ![n, 24]⟩ ![0, 2] ⟨2, ![n, 2]⟩
  p4 : Shape.Slices ⟨2, ![n, 24]⟩ ![0, 4] ⟨2, ![n, 6]⟩
  p10 : Shape.Slices ⟨2, ![n, 24]⟩ ![0, 10] ⟨2, ![n, 2]⟩
  p12 : Shape.Slices ⟨2, ![n, 24]⟩ ![0, 12] ⟨2, ![n, 6]⟩
  p18 : Shape.Slices ⟨2, ![n, 24]⟩ ![0, 18] ⟨2, ![n, 2]⟩
  p20 : Shape.Slices ⟨2, ![n, 24]⟩ ![0, 20] ⟨2, ![n, 4]⟩
  cc : Shape.Concatenates [⟨2, ![n, 2]⟩, ⟨2, ![n, 2]⟩, ⟨2, ![n, 6]⟩, ⟨2, ![n, 2]⟩, ⟨2, ![n, 6]⟩, ⟨2, ![n, 2]⟩, ⟨2, ![n, 4]⟩] ⟨2, ![n, 24]⟩ 1
  ch : ∀ q : Fin nc, Shape.Slices ⟨2, ![n, 24]⟩ ![128 * q.val, 0] ⟨2, ![128, 24]⟩
  co : Shape.Concatenates (List.ofFn fun _ : Fin nc => (⟨2, ![384, 8]⟩ : Shape)) ⟨2, ![O, 8]⟩ 0
  sc3 : Shape.ShapeCasts ⟨2, ![O, 8]⟩ ⟨4, ![1, 1, O, 8]⟩

instance (T wp R M s th n nc O : ℕ) : Decidable (Fits T wp R M s th n nc O) :=
  decidable_of_iff
    (Shape.ShapeCasts ⟨3, ![T, wp, 256]⟩ ⟨2, ![R, 256]⟩ ∧ (∀ a b : Fin 3, Shape.Slices ⟨2, ![R, 256]⟩ ![a.val * wp + b.val, 0] ⟨2, ![M, 256]⟩)
      ∧ Shape.Broadcasts ⟨2, ![1, 512]⟩ ⟨2, ![M, 512]⟩ ∧ Shape.Broadcasts ⟨2, ![1, 24]⟩ ⟨2, ![M, 24]⟩
      ∧ Shape.ShapeCasts ⟨2, ![M, 24]⟩ ⟨3, ![th, wp, 24]⟩ ∧ Shape.Slices ⟨3, ![th, wp, 24]⟩ ![0, 0, 0] ⟨3, ![th, s, 24]⟩
      ∧ Shape.ShapeCasts ⟨3, ![th, s, 24]⟩ ⟨2, ![n, 24]⟩
      ∧ Shape.Slices ⟨2, ![n, 24]⟩ ![0, 0] ⟨2, ![n, 2]⟩ ∧ Shape.Slices ⟨2, ![n, 24]⟩ ![0, 2] ⟨2, ![n, 2]⟩
      ∧ Shape.Slices ⟨2, ![n, 24]⟩ ![0, 4] ⟨2, ![n, 6]⟩ ∧ Shape.Slices ⟨2, ![n, 24]⟩ ![0, 10] ⟨2, ![n, 2]⟩
      ∧ Shape.Slices ⟨2, ![n, 24]⟩ ![0, 12] ⟨2, ![n, 6]⟩ ∧ Shape.Slices ⟨2, ![n, 24]⟩ ![0, 18] ⟨2, ![n, 2]⟩
      ∧ Shape.Slices ⟨2, ![n, 24]⟩ ![0, 20] ⟨2, ![n, 4]⟩
      ∧ Shape.Concatenates [⟨2, ![n, 2]⟩, ⟨2, ![n, 2]⟩, ⟨2, ![n, 6]⟩, ⟨2, ![n, 2]⟩, ⟨2, ![n, 6]⟩, ⟨2, ![n, 2]⟩, ⟨2, ![n, 4]⟩] ⟨2, ![n, 24]⟩ 1
      ∧ (∀ q : Fin nc, Shape.Slices ⟨2, ![n, 24]⟩ ![128 * q.val, 0] ⟨2, ![128, 24]⟩)
      ∧ Shape.Concatenates (List.ofFn fun _ : Fin nc => (⟨2, ![384, 8]⟩ : Shape)) ⟨2, ![O, 8]⟩ 0
      ∧ Shape.ShapeCasts ⟨2, ![O, 8]⟩ ⟨4, ![1, 1, O, 8]⟩)
    ⟨fun ⟨a1, a2, a3, a4, a5, a6, a7, a8, a9, a10, a11, a12, a13, a14, a15, a16, a17, a18⟩ =>
        ⟨a1, a2, a3, a4, a5, a6, a7, a8, a9, a10, a11, a12, a13, a14, a15, a16, a17, a18⟩,
      fun ⟨a1, a2, a3, a4, a5, a6, a7, a8, a9, a10, a11, a12, a13, a14, a15, a16, a17, a18⟩ =>
        ⟨a1, a2, a3, a4, a5, a6, a7, a8, a9, a10, a11, a12, a13, a14, a15, a16, a17, a18⟩⟩

theorem fits0 : Fits 11 264 2904 2112 256 8 2048 16 6144 := by decide +kernel
theorem fits1 : Fits 19 136 2584 2176 128 16 2048 16 6144 := by decide +kernel
theorem fits2 : Fits 35 72 2520 2304 64 32 2048 16 6144 := by decide +kernel
theorem fits3 : Fits 35 40 1400 1280 32 32 1024 8 3072 := by decide +kernel
theorem fits4 : Fits 19 24 456 384 16 16 256 2 768 := by decide +kernel

/-- One position of the 3×3 filter: rows `o, …, o+M−1` of the flattened slab against the filter's matrix there. -/
def tap {R M : ℕ} (A : FVec F ⟨2, ![R, 256]⟩ .bf16) (o : ℕ) (h : Shape.Slices ⟨2, ![R, 256]⟩ ![o, 0] ⟨2, ![M, 256]⟩)
    (w : Vec F ⟨4, ![1, 1, 256, 512]⟩ .bf16) : FVec F ⟨2, ![M, 512]⟩ .f32 :=
  matmul (DotDims.plain M 256 512) none (extractStridedSlice ⟨2, ![M, 256]⟩ ![o, 0] A h)
    (shapeCast ⟨2, ![256, 512]⟩ w (by decide)) (constant ⟨2, ![M, 512]⟩ .f32 0x00000000#32)

section
variable {T wp R M s th n nc O : ℕ} (hf : Fits T wp R M s th n nc O)

/-- The nine positions' sum, in the order they are added. -/
def conv (slab : FVec F ⟨3, ![T, wp, 256]⟩ .bf16) (w : Fin 3 → Fin 3 → Vec F ⟨4, ![1, 1, 256, 512]⟩ .bf16) : FVec F ⟨2, ![M, 512]⟩ .f32 :=
  let A : FVec F ⟨2, ![R, 256]⟩ .bf16 := shapeCast ⟨2, ![R, 256]⟩ slab hf.sc0
  let t (a b : Fin 3) : FVec F ⟨2, ![M, 512]⟩ .f32 := tap A (a.val * wp + b.val) (hf.sl a b) (w a b)
  addf (addf (addf (addf (addf (addf (addf (addf (t 0 0) (t 0 1)) (t 0 2)) (t 1 0)) (t 1 1)) (t 1 2)) (t 2 0)) (t 2 1)) (t 2 2)

/-- The 24 numbers of each kept position: the activated sum against the joined 1×1 weights, plus their bias. -/
def joined (acc : FVec F ⟨2, ![M, 512]⟩ .f32) (b : Vec F ⟨2, ![1, 512]⟩ .f32) (wa : Vec F ⟨2, ![512, 24]⟩ .f32) (ba : Vec F ⟨2, ![1, 24]⟩ .f32) :
    FVec F ⟨2, ![n, 24]⟩ .f32 :=
  shapeCast ⟨2, ![n, 24]⟩ (extractStridedSlice ⟨3, ![th, s, 24]⟩ ![0, 0, 0] (shapeCast ⟨3, ![th, wp, 24]⟩
    (addf (matmul (DotDims.plain M 512 24) none
        (maximumf (addf acc (broadcastTo ⟨2, ![M, 512]⟩ (shapeCast ⟨2, ![1, 512]⟩ b (by decide)) hf.b1))
          (broadcast ⟨2, ![M, 512]⟩ (Scalar.ofBits .f32 0x00000000#32)))
        (shapeCast ⟨2, ![512, 24]⟩ wa (by decide)) (constant ⟨2, ![M, 24]⟩ .f32 0x00000000#32))
      (broadcastTo ⟨2, ![M, 24]⟩ (shapeCast ⟨2, ![1, 24]⟩ ba (by decide)) hf.b2)) hf.sc1) hf.sl1) hf.sc2

/-- The columns holding differences of logits through the logistic function, all rounded. -/
def squashed (v : FVec F ⟨2, ![n, 24]⟩ .f32) : FVec F ⟨2, ![n, 24]⟩ .bf16 :=
  truncf .bf16 (concatenate ⟨2, ![n, 24]⟩ 1
    [⟨⟨2, ![n, 2]⟩, extractStridedSlice ⟨2, ![n, 2]⟩ ![0, 0] v hf.p0⟩, ⟨⟨2, ![n, 2]⟩, logistic (extractStridedSlice ⟨2, ![n, 2]⟩ ![0, 2] v hf.p2)⟩,
     ⟨⟨2, ![n, 6]⟩, extractStridedSlice ⟨2, ![n, 6]⟩ ![0, 4] v hf.p4⟩, ⟨⟨2, ![n, 2]⟩, logistic (extractStridedSlice ⟨2, ![n, 2]⟩ ![0, 10] v hf.p10)⟩,
     ⟨⟨2, ![n, 6]⟩, extractStridedSlice ⟨2, ![n, 6]⟩ ![0, 12] v hf.p12⟩, ⟨⟨2, ![n, 2]⟩, logistic (extractStridedSlice ⟨2, ![n, 2]⟩ ![0, 18] v hf.p18)⟩,
     ⟨⟨2, ![n, 4]⟩, extractStridedSlice ⟨2, ![n, 4]⟩ ![0, 20] v hf.p20⟩] hf.cc) (by decide)

/-- One chunk's product with one of the three spreading matrices. -/
def spread1 (c : ℕ) (hc : Shape.Slices ⟨2, ![128, 24]⟩ ![0, c] ⟨2, ![128, 8]⟩) (p : Vec F ⟨3, ![1, 384, 128]⟩ .bf16) (x : FVec F ⟨2, ![128, 24]⟩ .bf16) :
    FVec F ⟨2, ![384, 8]⟩ .f32 :=
  matmul (DotDims.plain 384 128 8) none (shapeCast ⟨2, ![384, 128]⟩ p (by decide)) (extractStridedSlice ⟨2, ![128, 8]⟩ ![0, c] x hc)
    (constant ⟨2, ![384, 8]⟩ .f32 0x00000000#32)

/-- One chunk's 384 output rows. -/
def spread (p : Fin 3 → Vec F ⟨3, ![1, 384, 128]⟩ .bf16) (x : FVec F ⟨2, ![128, 24]⟩ .bf16) : FVec F ⟨2, ![384, 8]⟩ .f32 :=
  addf (addf (spread1 0 (by decide) (p 0) x) (spread1 8 (by decide) (p 1) x)) (spread1 16 (by decide) (p 2) x)

/-- The block's output rows from the kept positions' numbers. -/
def stacked (p : Fin 3 → Vec F ⟨3, ![1, 384, 128]⟩ .bf16) (v : FVec F ⟨2, ![n, 24]⟩ .bf16) : FVec F ⟨4, ![1, 1, O, 8]⟩ .f32 :=
  shapeCast ⟨4, ![1, 1, O, 8]⟩ (concatenate ⟨2, ![O, 8]⟩ 0
    (List.ofFn fun q : Fin nc => (⟨⟨2, ![384, 8]⟩, spread p (extractStridedSlice ⟨2, ![128, 24]⟩ ![128 * q.val, 0] v (hf.ch q))⟩ : (s : Shape) × (s.Idx → F .f32)))
    (by rw [List.map_ofFn]; exact hf.co)) hf.sc3

/-- What a grid point leaves in its output window. -/
def block (slab : FVec F ⟨3, ![T, wp, 256]⟩ .bf16) (w : Fin 3 → Fin 3 → Vec F ⟨4, ![1, 1, 256, 512]⟩ .bf16) (b : Vec F ⟨2, ![1, 512]⟩ .f32)
    (wa : Vec F ⟨2, ![512, 24]⟩ .f32) (ba : Vec F ⟨2, ![1, 24]⟩ .f32) (p : Fin 3 → Vec F ⟨3, ![1, 384, 128]⟩ .bf16) : FVec F ⟨4, ![1, 1, O, 8]⟩ .f32 :=
  stacked hf p (squashed hf (joined hf (conv hf slab w) b wa ba))

end

/-! ## The slab -/

section
variable {T wp s th : ℕ} (S0 : Shape.Slices ⟨3, ![T, wp, 256]⟩ ![0, 1, 0] ⟨3, ![1, s, 256]⟩)
  (S1 : Shape.Slices ⟨3, ![T, wp, 256]⟩ ![1, 1, 0] ⟨3, ![th, s, 256]⟩) (S2 : Shape.Slices ⟨3, ![T, wp, 256]⟩ ![th + 1, 1, 0] ⟨3, ![1, s, 256]⟩)

/-- The slab: the row above, the block's own rows and the row below, each between a zero column and zero columns, and a zero row. -/
def slabOf {α : Type} (z : α) (up : (⟨3, ![1, s, 256]⟩ : Shape).Idx → α) (cur : (⟨3, ![th, s, 256]⟩ : Shape).Idx → α) (dn : (⟨3, ![1, s, 256]⟩ : Shape).Idx → α) :
    (⟨3, ![T, wp, 256]⟩ : Shape).Idx → α :=
  updateSlice (updateSlice (updateSlice (fun _ => z) up ![0, 1, 0] S0) cur ![1, 1, 0] S1) dn ![th + 1, 1, 0] S2
end

theorem upd_mem {α : Type} {sh u : Shape} (x : sh.Idx → α) (w : u.Idx → α) (o : Fin sh.rank → ℕ) (h : sh.Slices o u) (i : sh.Idx)
    (hin : ∀ a, o a ≤ (i a).val ∧ (i a).val < o a + u.size (a.cast h.1.symm)) (k : u.Idx)
    (hk : ∀ b, (k b).val = (i (b.cast h.1)).val - o (b.cast h.1)) : updateSlice x w o h i = w k :=
  (dif_pos hin).trans (congrArg w (funext fun b => Fin.ext (hk b).symm))

theorem upd_not {α : Type} {sh u : Shape} (x : sh.Idx → α) (w : u.Idx → α) (o : Fin sh.rank → ℕ) (h : sh.Slices o u) (i : sh.Idx)
    (hin : ¬ ∀ a, o a ≤ (i a).val ∧ (i a).val < o a + u.size (a.cast h.1.symm)) : updateSlice x w o h i = x i :=
  dif_neg hin

/-- Writing back a window with part of it changed changes that part. -/
theorem upd_upd {α : Type} {sh u : Shape} (X : sh.Idx → α) (w : u.Idx → α) {off off' size : Fin sh.rank → ℕ} (inb : ∀ a, off a + size a ≤ sh.size a)
    (sub : Fin sh.rank → ℕ) (hs : Shape.Slices (⟨sh.rank, size⟩ : Shape) sub u) (hsum : ∀ a, off' a = off a + sub a) (h' : sh.Slices off' u) :
    updateSlice (u := ⟨sh.rank, size⟩) X (updateSlice (s := ⟨sh.rank, size⟩) (VecWindow.window X off size inb) w sub hs) off ⟨rfl, inb⟩ = updateSlice X w off' h' := by
  funext i
  have hr : u.rank = sh.rank := hs.1
  by_cases hout : ∀ a, off a ≤ (i a).val ∧ (i a).val < off a + size a
  · rw [upd_mem (u := ⟨sh.rank, size⟩) X _ off ⟨rfl, inb⟩ i hout
      (fun a => ⟨(i a).val - off a, by have := hout a; show (i a).val - off a < size a; omega⟩) fun _ => rfl]
    by_cases hin : ∀ a, off' a ≤ (i a).val ∧ (i a).val < off' a + u.size (a.cast hr.symm)
    · have hlt : ∀ b : Fin u.rank, (i (b.cast hr)).val - off' (b.cast hr) < u.size b := fun b => by
        have h2 : (i (b.cast hr)).val < off' (b.cast hr) + u.size b := (hin (b.cast hr)).2
        have h1 := (hin (b.cast hr)).1
        omega
      rw [upd_mem X w off' h' i hin (fun b => ⟨(i (b.cast hr)).val - off' (b.cast hr), hlt b⟩) fun _ => rfl]
      refine upd_mem (sh := ⟨sh.rank, size⟩) _ w sub hs _ (fun a => ?_) _ fun b => ?_
      · have h1 := hin a
        have h2 := hsum a
        have h3 := hout a
        show sub a ≤ (i a).val - off a ∧ (i a).val - off a < sub a + u.size (a.cast hr.symm)
        omega
      · have h2 := hsum (b.cast hr)
        show (i (b.cast hr)).val - off' (b.cast hr) = (i (b.cast hr)).val - off (b.cast hr) - sub (b.cast hr)
        omega
    · rw [upd_not X w off' h' i hin]
      refine (upd_not (sh := ⟨sh.rank, size⟩) _ w sub hs _ fun hc => hin fun a => ?_).trans (congrArg X (funext fun a => Fin.ext ?_))
      · have h1 : sub a ≤ (i a).val - off a ∧ (i a).val - off a < sub a + u.size (a.cast hr.symm) := hc a
        have h2 := hsum a
        have h3 := hout a
        omega
      · have h3 := hout a
        show off a + 1 * ((i a).val - off a) = (i a).val
        omega
  · have hin : ¬ ∀ a, off' a ≤ (i a).val ∧ (i a).val < off' a + u.size (a.cast hr.symm) := fun hc => hout fun a => by
      have h1 := hc a
      have h2 := hsum a
      obtain ⟨hr', h4⟩ := hs
      have h3 : sub a + u.size (a.cast hr.symm) ≤ size a := h4 a
      omega
    rw [upd_not X w off' h' i hin]
    exact upd_not (u := ⟨sh.rank, size⟩) X _ off ⟨rfl, inb⟩ i hout

/-- A store of part of a rectangle's contents, the rest put back as read: only the part changes. -/
theorem sub_put {κ : Kind} {sp : Space} {sig : RefSig} {sh u : Shape} {e : EltTy} (v : View sig κ sp sh e) (f : v.ty.Contents (Elt F))
    {off off' size : Fin sh.rank → ℕ} (inb : ∀ a, off a + size a ≤ sh.size a) (old : (Rect.unit off size inb).shape.Idx → Elt F e)
    (w : u.Idx → Elt F e) (sub : Fin sh.rank → ℕ) (hs : Shape.Slices (⟨sh.rank, size⟩ : Shape) sub u) (L : List (View.Piece (Elt F) sh e))
    (hsum : ∀ a, off' a = off a + sub a) (h' : sh.Slices off' u)
    (hold : old = v.readAt (Elt F) (Rect.unit off size inb).toLoadRect (v.writes (Elt F) f L)) :
    v.read (Elt F) (v.writes (Elt F) f (⟨Rect.unit off size inb, updateSlice (s := ⟨sh.rank, size⟩) old w sub hs⟩ :: L))
      = updateSlice (v.read (Elt F) (v.writes (Elt F) f L)) w off' h' := by
  subst hold
  refine (View.read_writes_cons_put v f inb _ L rfl).trans ((VecWindow.put_eq_updateSlice _ _ _ inb _).trans ?_)
  exact upd_upd (v.read (Elt F) (v.writes (Elt F) f L)) w inb sub hs hsum h'

/-- The same of a store of a whole rectangle. -/
theorem whole_put {κ : Kind} {sp : Space} {sig : RefSig} {sh : Shape} {e : EltTy} (v : View sig κ sp sh e) (f : v.ty.Contents (Elt F))
    {off size : Fin sh.rank → ℕ} (inb : ∀ a, off a + size a ≤ sh.size a) (w : (Rect.unit off size inb).shape.Idx → Elt F e)
    (L : List (View.Piece (Elt F) sh e)) :
    v.read (Elt F) (v.writes (Elt F) f (⟨Rect.unit off size inb, w⟩ :: L))
      = updateSlice (u := ⟨sh.rank, size⟩) (v.read (Elt F) (v.writes (Elt F) f L)) w off ⟨rfl, inb⟩ := by
  rw [View.read_writes_cons_put v f inb _ L rfl, VecWindow.put_eq_updateSlice _ _ _ inb]

/-- Blanking the first column, the columns after the kept ones and the last row, then storing the three row groups, leaves
    the slab whatever was there before. -/
theorem slab_chain {T wp s th cz : ℕ} (hT : T = th + 3) (hz : s + 1 + cz = wp)
    (Z0 : Shape.Slices ⟨3, ![T, wp, 256]⟩ ![0, 0, 0] ⟨3, ![T, 1, 256]⟩) (Z1 : Shape.Slices ⟨3, ![T, wp, 256]⟩ ![0, s + 1, 0] ⟨3, ![T, cz, 256]⟩)
    (Z2 : Shape.Slices ⟨3, ![T, wp, 256]⟩ ![th + 2, 0, 0] ⟨3, ![1, wp, 256]⟩) (S0 : Shape.Slices ⟨3, ![T, wp, 256]⟩ ![0, 1, 0] ⟨3, ![1, s, 256]⟩)
    (S1 : Shape.Slices ⟨3, ![T, wp, 256]⟩ ![1, 1, 0] ⟨3, ![th, s, 256]⟩) (S2 : Shape.Slices ⟨3, ![T, wp, 256]⟩ ![th + 1, 1, 0] ⟨3, ![1, s, 256]⟩)
    {α : Type} (z : α) (X : (⟨3, ![T, wp, 256]⟩ : Shape).Idx → α) (up : (⟨3, ![1, s, 256]⟩ : Shape).Idx → α)
    (cur : (⟨3, ![th, s, 256]⟩ : Shape).Idx → α) (dn : (⟨3, ![1, s, 256]⟩ : Shape).Idx → α)
    (z0 : (⟨3, ![T, 1, 256]⟩ : Shape).Idx → α) (z1 : (⟨3, ![T, cz, 256]⟩ : Shape).Idx → α) (z2 : (⟨3, ![1, wp, 256]⟩ : Shape).Idx → α)
    (e0 : z0 = fun _ => z) (e1 : z1 = fun _ => z) (e2 : z2 = fun _ => z) :
    updateSlice (updateSlice (updateSlice (updateSlice (updateSlice (updateSlice X z0 ![0, 0, 0] Z0) z1 ![0, s + 1, 0] Z1) z2 ![th + 2, 0, 0] Z2)
        up ![0, 1, 0] S0) cur ![1, 1, 0] S1) dn ![th + 1, 1, 0] S2
      = slabOf S0 S1 S2 z up cur dn := by
  subst e0 e1 e2 hT
  funext i
  have l0 : (i 0).val < th + 3 := (i 0).isLt
  have l1 : (i 1).val < wp := (i 1).isLt
  have l2 : (i 2).val < 256 := (i 2).isLt
  unfold slabOf
  rw [updateSlice]
  conv_rhs => rw [updateSlice]
  split_ifs with h1
  · rfl
  rw [updateSlice]
  conv_rhs => rw [updateSlice]
  split_ifs with h2
  · rfl
  rw [updateSlice]
  conv_rhs => rw [updateSlice]
  split_ifs with h3
  · rfl
  rw [updateSlice]
  split_ifs with h4
  · rfl
  rw [updateSlice]
  split_ifs with h5
  · rfl
  rw [updateSlice]
  split_ifs with h6
  · rfl
  exfalso
  have q1 := fun a0 a1 a2 => h1 fun a => match a with | 0 => a0 | 1 => a1 | 2 => a2
  have q2 := fun a0 a1 a2 => h2 fun a => match a with | 0 => a0 | 1 => a1 | 2 => a2
  have q3 := fun a0 a1 a2 => h3 fun a => match a with | 0 => a0 | 1 => a1 | 2 => a2
  have q4 := fun a0 a1 a2 => h4 fun a => match a with | 0 => a0 | 1 => a1 | 2 => a2
  have q5 := fun a0 a1 a2 => h5 fun a => match a with | 0 => a0 | 1 => a1 | 2 => a2
  have q6 := fun a0 a1 a2 => h6 fun a => match a with | 0 => a0 | 1 => a1 | 2 => a2
  have r1 : ¬ ((th + 1 ≤ (i 0).val ∧ (i 0).val < th + 1 + 1) ∧ (1 ≤ (i 1).val ∧ (i 1).val < 1 + s)) := fun h => q1 h.1 h.2 ⟨Nat.zero_le _, by simpa using l2⟩
  have r2 : ¬ ((1 ≤ (i 0).val ∧ (i 0).val < 1 + th) ∧ (1 ≤ (i 1).val ∧ (i 1).val < 1 + s)) := fun h => q2 h.1 h.2 ⟨Nat.zero_le _, by simpa using l2⟩
  have r3 : ¬ ((0 ≤ (i 0).val ∧ (i 0).val < 0 + 1) ∧ (1 ≤ (i 1).val ∧ (i 1).val < 1 + s)) := fun h => q3 h.1 h.2 ⟨Nat.zero_le _, by simpa using l2⟩
  have r4 : ¬ (th + 2 ≤ (i 0).val) := fun h => q4 ⟨h, by show (i 0).val < th + 2 + 1; omega⟩ ⟨Nat.zero_le _, by show (i 1).val < 0 + wp; omega⟩ ⟨Nat.zero_le _, by simpa using l2⟩
  have r5 : ¬ (s + 1 ≤ (i 1).val) := fun h => q5 ⟨Nat.zero_le _, by show (i 0).val < 0 + (th + 3); omega⟩ ⟨h, by show (i 1).val < s + 1 + cz; omega⟩ ⟨Nat.zero_le _, by simpa using l2⟩
  have r6 : ¬ ((i 1).val = 0) := fun h => q6 ⟨Nat.zero_le _, by show (i 0).val < 0 + (th + 3); omega⟩ ⟨Nat.zero_le _, by show (i 1).val < 0 + 1; omega⟩ ⟨Nat.zero_le _, by simpa using l2⟩
  omega

section
variable {T wp s th cz : ℕ}

/-- The rectangles the slab's six stores go to. -/
structure Boxes (T wp s th cz : ℕ) : Prop where
  hT : T = th + 3
  hz : s + 1 + cz = wp
  hs : 2 ≤ s
  hc : 1 ≤ cz

theorem boxes0 : Boxes 11 264 256 8 7 := ⟨rfl, rfl, by decide, by decide⟩
theorem boxes1 : Boxes 19 136 128 16 7 := ⟨rfl, rfl, by decide, by decide⟩
theorem boxes2 : Boxes 35 72 64 32 7 := ⟨rfl, rfl, by decide, by decide⟩
theorem boxes3 : Boxes 35 40 32 32 7 := ⟨rfl, rfl, by decide, by decide⟩
theorem boxes4 : Boxes 19 24 16 16 7 := ⟨rfl, rfl, by decide, by decide⟩

theorem ex_head {α : Type} {p : α} {L : List α} {P : α → Prop} (h : P p) : ∃ q ∈ p :: L, P q := ⟨p, List.mem_cons_self, h⟩

theorem ex_tail {α : Type} {p : α} {L : List α} {P : α → Prop} (h : ∃ q ∈ L, P q) : ∃ q ∈ p :: L, P q :=
  let ⟨q, hq, hP⟩ := h
  ⟨q, List.mem_cons_of_mem _ hq, hP⟩

/-- The slab read whole after its six stores is `slabOf` of what the last three stored. -/
theorem slab_read {κ : Kind} {sp : Space} {sig : RefSig} (hb : Boxes T wp s th cz) (v : View sig κ sp ⟨3, ![T, wp, 256]⟩ .bf16) (f : v.ty.Contents (Elt F))
    (z : Elt F .bf16) (z0 : (⟨3, ![T, 1, 256]⟩ : Shape).Idx → Elt F .bf16) (z1 : (⟨3, ![T, cz, 256]⟩ : Shape).Idx → Elt F .bf16)
    (z2 : (⟨3, ![1, wp, 256]⟩ : Shape).Idx → Elt F .bf16) (up dn : (⟨3, ![1, s, 256]⟩ : Shape).Idx → Elt F .bf16)
    (cur : (⟨3, ![th, s, 256]⟩ : Shape).Idx → Elt F .bf16) (e0 : z0 = fun _ => z) (e1 : z1 = fun _ => z) (e2 : z2 = fun _ => z)
    (i0 : ∀ a, (![0, 0, 0] : Fin 3 → ℕ) a + (![T, 2, 256] : Fin 3 → ℕ) a ≤ (![T, wp, 256] : Fin 3 → ℕ) a)
    (i1 : ∀ a, (![0, s, 0] : Fin 3 → ℕ) a + (![T, cz + 1, 256] : Fin 3 → ℕ) a ≤ (![T, wp, 256] : Fin 3 → ℕ) a)
    (i2 : ∀ a, (![th + 2, 0, 0] : Fin 3 → ℕ) a + (![1, wp, 256] : Fin 3 → ℕ) a ≤ (![T, wp, 256] : Fin 3 → ℕ) a)
    (i3 : ∀ a, (![0, 0, 0] : Fin 3 → ℕ) a + (![1, s + 2, 256] : Fin 3 → ℕ) a ≤ (![T, wp, 256] : Fin 3 → ℕ) a)
    (i4 : ∀ a, (![1, 0, 0] : Fin 3 → ℕ) a + (![th, s + 2, 256] : Fin 3 → ℕ) a ≤ (![T, wp, 256] : Fin 3 → ℕ) a)
    (i5 : ∀ a, (![th + 1, 0, 0] : Fin 3 → ℕ) a + (![1, s + 2, 256] : Fin 3 → ℕ) a ≤ (![T, wp, 256] : Fin 3 → ℕ) a)
    (iw : ∀ a, (![0, 0, 0] : Fin 3 → ℕ) a + (![T, wp, 256] : Fin 3 → ℕ) a ≤ (![T, wp, 256] : Fin 3 → ℕ) a)
    (t0 : Shape.Slices ⟨3, ![T, 2, 256]⟩ ![0, 0, 0] ⟨3, ![T, 1, 256]⟩) (t1 : Shape.Slices ⟨3, ![T, cz + 1, 256]⟩ ![0, 1, 0] ⟨3, ![T, cz, 256]⟩)
    (t3 : Shape.Slices ⟨3, ![1, s + 2, 256]⟩ ![0, 1, 0] ⟨3, ![1, s, 256]⟩) (t4 : Shape.Slices ⟨3, ![th, s + 2, 256]⟩ ![0, 1, 0] ⟨3, ![th, s, 256]⟩)
    (t5 : Shape.Slices ⟨3, ![1, s + 2, 256]⟩ ![0, 1, 0] ⟨3, ![1, s, 256]⟩)
    (S0 : Shape.Slices ⟨3, ![T, wp, 256]⟩ ![0, 1, 0] ⟨3, ![1, s, 256]⟩) (S1 : Shape.Slices ⟨3, ![T, wp, 256]⟩ ![1, 1, 0] ⟨3, ![th, s, 256]⟩)
    (S2 : Shape.Slices ⟨3, ![T, wp, 256]⟩ ![th + 1, 1, 0] ⟨3, ![1, s, 256]⟩)
    (L1 L2 L3 L4 L5 L6 : List (View.Piece (Elt F) ⟨3, ![T, wp, 256]⟩ .bf16))
    (h1 : L1 = [⟨Rect.unit (s := ⟨3, ![T, wp, 256]⟩) ![0, 0, 0] ![T, 2, 256] i0, updateSlice (s := ⟨3, ![T, 2, 256]⟩) (v.readAt (Elt F) (Rect.unit (s := ⟨3, ![T, wp, 256]⟩) ![0, 0, 0] ![T, 2, 256] i0).toLoadRect f) z0 ![0, 0, 0] t0⟩])
    (h2 : L2 = ⟨Rect.unit (s := ⟨3, ![T, wp, 256]⟩) ![0, s, 0] ![T, cz + 1, 256] i1, updateSlice (s := ⟨3, ![T, cz + 1, 256]⟩) (v.readAt (Elt F) (Rect.unit (s := ⟨3, ![T, wp, 256]⟩) ![0, s, 0] ![T, cz + 1, 256] i1).toLoadRect f) z1 ![0, 1, 0] t1⟩ :: L1)
    (h3 : L3 = ⟨Rect.unit (s := ⟨3, ![T, wp, 256]⟩) ![th + 2, 0, 0] ![1, wp, 256] i2, z2⟩ :: L2)
    (h4 : L4 = ⟨Rect.unit (s := ⟨3, ![T, wp, 256]⟩) ![0, 0, 0] ![1, s + 2, 256] i3, updateSlice (s := ⟨3, ![1, s + 2, 256]⟩) (v.readAt (Elt F) (Rect.unit (s := ⟨3, ![T, wp, 256]⟩) ![0, 0, 0] ![1, s + 2, 256] i3).toLoadRect (v.writes (Elt F) f L3)) up ![0, 1, 0] t3⟩ :: L3)
    (h5 : L5 = ⟨Rect.unit (s := ⟨3, ![T, wp, 256]⟩) ![1, 0, 0] ![th, s + 2, 256] i4, updateSlice (s := ⟨3, ![th, s + 2, 256]⟩) (v.readAt (Elt F) (Rect.unit (s := ⟨3, ![T, wp, 256]⟩) ![1, 0, 0] ![th, s + 2, 256] i4).toLoadRect (v.writes (Elt F) f L4)) cur ![0, 1, 0] t4⟩ :: L4)
    (h6 : L6 = ⟨Rect.unit (s := ⟨3, ![T, wp, 256]⟩) ![th + 1, 0, 0] ![1, s + 2, 256] i5, updateSlice (s := ⟨3, ![1, s + 2, 256]⟩) (v.readAt (Elt F) (Rect.unit (s := ⟨3, ![T, wp, 256]⟩) ![th + 1, 0, 0] ![1, s + 2, 256] i5).toLoadRect (v.writes (Elt F) f L5)) dn ![0, 1, 0] t5⟩ :: L5) :
    v.readCov L6 (Rect.unit (s := ⟨3, ![T, wp, 256]⟩) ![0, 0, 0] ![T, wp, 256] iw).toLoadRect = slabOf S0 S1 S2 z up cur dn := by
  obtain ⟨hT, hz, hs, hc⟩ := hb
  have hcov : ∀ y : (⟨3, ![T, wp, 256]⟩ : Shape).Idx, ∃ p ∈ L6, y ∈ p.1.set := fun y => by
    have l0 : (y 0).val < T := (y 0).isLt
    have l1 : (y 1).val < wp := (y 1).isLt
    have l2 : (y 2).val < 256 := (y 2).isLt
    by_cases c1 : s ≤ (y 1).val
    · rw [h6, h5, h4, h3, h2]
      refine ex_tail (ex_tail (ex_tail (ex_tail (ex_head ?_))))
      exact (Rect.mem_set_unit (s := ⟨3, ![T, wp, 256]⟩) (inb := i1)).mpr fun a => match a with
        | 0 => by show 0 ≤ (y 0).val ∧ (y 0).val < 0 + T; omega
        | 1 => by show s ≤ (y 1).val ∧ (y 1).val < s + (cz + 1); omega
        | 2 => by show 0 ≤ (y 2).val ∧ (y 2).val < 0 + 256; omega
    by_cases c2 : (y 0).val = 0
    · rw [h6, h5, h4]
      refine ex_tail (ex_tail (ex_head ?_))
      exact (Rect.mem_set_unit (s := ⟨3, ![T, wp, 256]⟩) (inb := i3)).mpr fun a => match a with
        | 0 => by show 0 ≤ (y 0).val ∧ (y 0).val < 0 + 1; omega
        | 1 => by show 0 ≤ (y 1).val ∧ (y 1).val < 0 + (s + 2); omega
        | 2 => by show 0 ≤ (y 2).val ∧ (y 2).val < 0 + 256; omega
    by_cases c3 : (y 0).val ≤ th
    · rw [h6, h5]
      refine ex_tail (ex_head ?_)
      exact (Rect.mem_set_unit (s := ⟨3, ![T, wp, 256]⟩) (inb := i4)).mpr fun a => match a with
        | 0 => by show 1 ≤ (y 0).val ∧ (y 0).val < 1 + th; omega
        | 1 => by show 0 ≤ (y 1).val ∧ (y 1).val < 0 + (s + 2); omega
        | 2 => by show 0 ≤ (y 2).val ∧ (y 2).val < 0 + 256; omega
    by_cases c4 : (y 0).val = th + 1
    · rw [h6]
      refine ex_head ?_
      exact (Rect.mem_set_unit (s := ⟨3, ![T, wp, 256]⟩) (inb := i5)).mpr fun a => match a with
        | 0 => by show th + 1 ≤ (y 0).val ∧ (y 0).val < th + 1 + 1; omega
        | 1 => by show 0 ≤ (y 1).val ∧ (y 1).val < 0 + (s + 2); omega
        | 2 => by show 0 ≤ (y 2).val ∧ (y 2).val < 0 + 256; omega
    · rw [h6, h5, h4, h3]
      refine ex_tail (ex_tail (ex_tail (ex_head ?_)))
      exact (Rect.mem_set_unit (s := ⟨3, ![T, wp, 256]⟩) (inb := i2)).mpr fun a => match a with
        | 0 => by show th + 2 ≤ (y 0).val ∧ (y 0).val < th + 2 + 1; omega
        | 1 => by show 0 ≤ (y 1).val ∧ (y 1).val < 0 + wp; omega
        | 2 => by show 0 ≤ (y 2).val ∧ (y 2).val < 0 + 256; omega
  rw [← View.readAt_writes_of_cover v f L6 _ fun j => hcov _, View.readAt_full]
  have Z0 : Shape.Slices ⟨3, ![T, wp, 256]⟩ ![0, 0, 0] ⟨3, ![T, 1, 256]⟩ := ⟨rfl, fun a => match a with
    | 0 => by show 0 + T ≤ T; omega
    | 1 => by show 0 + 1 ≤ wp; omega
    | 2 => by show 0 + 256 ≤ 256; omega⟩
  have Z1 : Shape.Slices ⟨3, ![T, wp, 256]⟩ ![0, s + 1, 0] ⟨3, ![T, cz, 256]⟩ := ⟨rfl, fun a => match a with
    | 0 => by show 0 + T ≤ T; omega
    | 1 => by show s + 1 + cz ≤ wp; omega
    | 2 => by show 0 + 256 ≤ 256; omega⟩
  have hold : v.readAt (Elt F) (Rect.unit (s := ⟨3, ![T, wp, 256]⟩) ![0, s, 0] ![T, cz + 1, 256] i1).toLoadRect f
      = v.readAt (Elt F) (Rect.unit (s := ⟨3, ![T, wp, 256]⟩) ![0, s, 0] ![T, cz + 1, 256] i1).toLoadRect (v.writes (Elt F) f L1) :=
    (View.readAt_writes_of_forall_not_mem v f L1 _ fun j p hp hm => by
      rw [h1, List.mem_singleton] at hp
      subst hp
      have hm' : (Rect.unit (s := ⟨3, ![T, wp, 256]⟩) ![0, s, 0] ![T, cz + 1, 256] i1).emb j
          ∈ (Rect.unit (s := ⟨3, ![T, wp, 256]⟩) ![0, 0, 0] ![T, 2, 256] i0).set := hm
      have h := (Rect.mem_set_unit.mp hm' 1).2
      have h' : s + 1 * (j 1).val < 0 + 2 := h
      omega).symm
  have r6 : v.read (Elt F) (v.writes (Elt F) f L6) = updateSlice (v.read (Elt F) (v.writes (Elt F) f L5)) dn ![th + 1, 1, 0] S2 := by
    rw [h6]; exact sub_put v f i5 _ dn ![0, 1, 0] t5 L5 (fun a => match a with | 0 => rfl | 1 => rfl | 2 => rfl) S2 rfl
  have r5 : v.read (Elt F) (v.writes (Elt F) f L5) = updateSlice (v.read (Elt F) (v.writes (Elt F) f L4)) cur ![1, 1, 0] S1 := by
    rw [h5]; exact sub_put v f i4 _ cur ![0, 1, 0] t4 L4 (fun a => match a with | 0 => rfl | 1 => rfl | 2 => rfl) S1 rfl
  have r4 : v.read (Elt F) (v.writes (Elt F) f L4) = updateSlice (v.read (Elt F) (v.writes (Elt F) f L3)) up ![0, 1, 0] S0 := by
    rw [h4]; exact sub_put v f i3 _ up ![0, 1, 0] t3 L3 (fun a => match a with | 0 => rfl | 1 => rfl | 2 => rfl) S0 rfl
  have r3 : v.read (Elt F) (v.writes (Elt F) f L3) = updateSlice (v.read (Elt F) (v.writes (Elt F) f L2)) z2 ![th + 2, 0, 0] ⟨rfl, i2⟩ := by
    rw [h3]; exact whole_put v f i2 z2 L2
  have r2 : v.read (Elt F) (v.writes (Elt F) f L2) = updateSlice (v.read (Elt F) (v.writes (Elt F) f L1)) z1 ![0, s + 1, 0] Z1 := by
    rw [h2]; exact sub_put v f i1 _ z1 ![0, 1, 0] t1 L1 (fun a => match a with | 0 => rfl | 1 => rfl | 2 => rfl) Z1 hold
  have r1 : v.read (Elt F) (v.writes (Elt F) f L1) = updateSlice (v.read (Elt F) f) z0 ![0, 0, 0] Z0 := by
    rw [h1]; exact sub_put v f i0 _ z0 ![0, 0, 0] t0 [] (fun a => match a with | 0 => rfl | 1 => rfl | 2 => rfl) Z0 rfl
  rw [r6, r5, r4, r3, r2, r1]
  exact slab_chain hT hz Z0 Z1 ⟨rfl, i2⟩ S0 S1 S2 z _ up cur dn z0 z1 z2 e0 e1 e2

end

end Rpn
end
-- ==== Proof.Region0.lean ====
/- Launch 0 of the kernel at any contents of its arrays: what a grid point leaves, and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of a grid point, from the row above, the block and the row below. -/
def slab0 (i : grid0.Coords) (x0 : Vec F S1x1x256x256 .f32) (x1 : Vec F S1x8x256x256 .f32) (x2 : Vec F S1x1x256x256 .f32) : Vec F S11x264x256 .bf16 :=
  Rpn.slabOf (T := 11) (wp := 264) (s := 256) (th := 8) (by decide) (by decide) (by decide) (Scalar.ofBits .bf16 0x0000#16)
    (k0_pay7 i x0) (k0_pay8 x1) (k0_pay9 (k0_pay6 i x2))

/-- What a grid point leaves in the output window. -/
def out0 (i : grid0.Coords) (x0 : Vec F S1x1x256x256 .f32) (x1 : Vec F S1x8x256x256 .f32) (x2 : Vec F S1x1x256x256 .f32) (x3 : Vec F S3x3x256x512 .bf16) (x4 : Vec F S1x512 .f32) (x5 : Vec F S512x24 .f32) (x6 : Vec F S1x24 .f32) (x7 : Vec F S3x384x128 .bf16) : Vec F S1x1x6144x8 .f32 :=
  Rpn.block Rpn.fits0 (slab0 i x0 x1 x2) (fun a b => View.ld (Val := Elt F) (e' := .bf16) x3 (Rect.unit (s := S3x3x256x512) ![a.val, b.val, 0, 0] ![1, 1, 256, 512]
      (fun k => match k with | 0 => by have := a.isLt; show a.val + 1 ≤ 3; omega | 1 => by have := b.isLt; show b.val + 1 ≤ 3; omega | 2 => Nat.le_refl _ | 3 => Nat.le_refl _)))
    x4 x5 x6 (fun a => View.ld (Val := Elt F) (e' := .bf16) x7 (Rect.unit (s := S3x384x128) ![a.val, 0, 0] ![1, 384, 128]
      (fun k => match k with | 0 => by have := a.isLt; show a.val + 1 ≤ 3; omega | 1 => Nat.le_refl _ | 2 => Nat.le_refl _)))

set_option maxHeartbeats 8000000 in
/-- The body on any whole buffers: it leaves the inputs as they were and its output at `out0`, whatever the output and the slab held. -/
theorem run0 (c : Dev nD) (i : grid0.Coords) (arg2 : Memref sig .tc .vmem S1x1x256x256 .f32) (harg2 : arg2.IsWhole) (arg3 : Memref sig .tc .vmem S1x8x256x256 .f32) (harg3 : arg3.IsWhole) (arg4 : Memref sig .tc .vmem S1x1x256x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x24 .f32) (harg7 : arg7.IsWhole) (arg8 : Memref sig .tc .vmem S1x24 .f32) (harg8 : arg8.IsWhole) (arg9 : Memref sig .tc .vmem S3x384x128 .bf16) (harg9 : arg9.IsWhole) (arg10 : Memref sig .tc .vmem S1x1x6144x8 .f32) (harg10 : arg10.IsWhole) (arg11 : Memref sig .tc .vmem S11x264x256 .bf16) (harg11 : arg11.IsWhole)
    (x0 : Vec F S1x1x256x256 .f32) (x1 : Vec F S1x8x256x256 .f32) (x2 : Vec F S1x1x256x256 .f32) (x3 : Vec F S3x3x256x512 .bf16) (x4 : Vec F S1x512 .f32) (x5 : Vec F S512x24 .f32) (x6 : Vec F S1x24 .f32) (x7 : Vec F S3x384x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0 i x0 x1 x2 x3 x4 x5 x6 x7) ∗ (∃ d, owns (c : Thread nD τ) arg11 fullShare d)) -∗ K ⟨⟩))
      ⊢ wp frame (wpE (defs₀ (F := F)) Variants.none c none) E (cc0__rpn_level_kernel i arg2 harg2 arg3 harg3 arg4 harg4 arg5 harg5 arg6 harg6 arg7 harg7 arg8 harg8 arg9 harg9 arg10 harg10 arg11 harg11) K := by
  simp only [cc0__rpn_level_kernel_eq_skeleton]; unfold cc0__rpn_level_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := hf0; obtain rfl := hf1; obtain rfl := hf2; obtain rfl := hf3; obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_full _ _ _ _ _).trans ?_
    have e0 := View.readAt_full (Val := Elt F) arg2.view f0 (off := ![0, 0, 0, 0]) inb_S1x1x256x256_S1x1x256x256_0_0_0_0
    have e1 := View.readAt_full (Val := Elt F) arg3.view f1 (off := ![0, 0, 0, 0]) inb_S1x8x256x256_S1x8x256x256_0_0_0_0
    have e2 := View.readAt_full (Val := Elt F) arg4.view f2 (off := ![0, 0, 0, 0]) inb_S1x1x256x256_S1x1x256x256_0_0_0_0
    have e4 := View.readAt_full (Val := Elt F) arg6.view f4 (off := ![0, 0]) inb_S1x512_S1x512_0_0
    have e5 := View.readAt_full (Val := Elt F) arg7.view f5 (off := ![0, 0]) inb_S512x24_S512x24_0_0
    have e6 := View.readAt_full (Val := Elt F) arg8.view f6 (off := ![0, 0]) inb_S1x24_S1x24_0_0
    have hv := Rpn.slab_read Rpn.boxes0 arg11.view fs0 (Scalar.ofBits .bf16 0x0000#16) k0_pay3 k0_pay4 k0_pay5
      (k0_pay7 i (View.readAt (Elt F) arg2.view (Rect.unit (s := S1x1x256x256) ![0, 0, 0, 0] S1x1x256x256.size inb_S1x1x256x256_S1x1x256x256_0_0_0_0).toLoadRect f0))
      (k0_pay9 (k0_pay6 i (View.readAt (Elt F) arg4.view (Rect.unit (s := S1x1x256x256) ![0, 0, 0, 0] S1x1x256x256.size inb_S1x1x256x256_S1x1x256x256_0_0_0_0).toLoadRect f2)))
      (k0_pay8 (View.readAt (Elt F) arg3.view (Rect.unit (s := S1x8x256x256) ![0, 0, 0, 0] S1x8x256x256.size inb_S1x8x256x256_S1x8x256x256_0_0_0_0).toLoadRect f1))
      rfl rfl rfl (by decide) (by decide) (by decide) (by decide) (by decide) (by decide) (by decide) (by decide) (by decide) (by decide) (by decide) (by decide)
      (by decide) (by decide) (by decide) _ _ _ _ _ _ rfl rfl rfl rfl rfl rfl
    unfold out0 slab0
    rw [← e0, ← e1, ← e2, ← e4, ← e5, ← e6]
    refine Eq.trans ?_ (congrArg (fun S => Rpn.block Rpn.fits0 S _ _ _ _ _) hv)
    chain_rfl
  · iexists _; iexists _; isplitr
    swap; · iexact HS0
    ipureintro; rfl

/-! ## The proof data -/

/-- The scratch slab. -/
abbrev scM0_0 : Memref sig .tc .vmem S11x264x256 .bf16 := Memref.whole cc0_scratch0

/-- The invariant between grid points, with the slab taken out: it holds anything. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; rfl

abbrev ms0_0 (t : Fin cfg0.N) : Memref sig .tc .vmem S1x1x256x256 .f32 := win0_0.stage (cfg0.slots t 0)
abbrev ms0_1 (t : Fin cfg0.N) : Memref sig .tc .vmem S1x8x256x256 .f32 := win0_1.stage (cfg0.slots t 1)
abbrev ms0_2 (t : Fin cfg0.N) : Memref sig .tc .vmem S1x1x256x256 .f32 := win0_2.stage (cfg0.slots t 2)
abbrev ms0_3 (t : Fin cfg0.N) : Memref sig .tc .vmem S3x3x256x512 .bf16 := win0_3.stage (cfg0.slots t 3)
abbrev ms0_4 (t : Fin cfg0.N) : Memref sig .tc .vmem S1x512 .f32 := win0_4.stage (cfg0.slots t 4)
abbrev ms0_5 (t : Fin cfg0.N) : Memref sig .tc .vmem S512x24 .f32 := win0_5.stage (cfg0.slots t 5)
abbrev ms0_6 (t : Fin cfg0.N) : Memref sig .tc .vmem S1x24 .f32 := win0_6.stage (cfg0.slots t 6)
abbrev ms0_7 (t : Fin cfg0.N) : Memref sig .tc .vmem S3x384x128 .bf16 := win0_7.stage (cfg0.slots t 7)
abbrev ms0_8 (t : Fin cfg0.N) : Memref sig .tc .vmem S1x1x6144x8 .f32 := win0_8.stage (cfg0.slots t 8)

section
variable (V : (c : Dev nD) → (b : Ref sig .tc) → Buf (Elt F) ((c : Thread nD τ).loc b))

/-- Window `w`'s block at point `t` of its array's contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output window holds after point `t`. -/
def outAt0 (c : Dev nD) (t : Fin cfg0.N) : Vec F S1x1x6144x8 .f32 :=
  out0 (grid0.coords t) (iblk0 V c 0 t) (iblk0 V c 1 t) (iblk0 V c 2 t) (iblk0 V c 3 t) (iblk0 V c 4 t) (iblk0 V c 5 t) (iblk0 V c 6 t) (iblk0 V c 7 t)

/-- The proof data: inputs stay at their blocks, the output is `outAt0`, nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outAt0 V c t
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = outAt0 V c t := by dsimp only [dat0]

/-- Each input's staging buffer holds its block when the body starts. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) := by
  refine ⟨?_, ?_, ?_, ?_, ?_, ?_, ?_, ?_⟩ <;> intro d
  · exact ((dat0 V c).before_in_eq_fetched 0 rfl (fun _ => rfl) (fun _ _ _ => rfl) (fun t => rfl) t d).trans rfl
  · exact ((dat0 V c).before_in_eq_fetched 1 rfl (fun _ => rfl) (fun _ _ _ => rfl) (fun t => rfl) t d).trans rfl
  · exact ((dat0 V c).before_in_eq_fetched 2 rfl (fun _ => rfl) (fun _ _ _ => rfl) (fun t => rfl) t d).trans rfl
  · exact ((dat0 V c).before_in_eq_fetched 3 rfl (fun _ => rfl) (fun _ _ _ => rfl) (fun t => rfl) t d).trans rfl
  · exact ((dat0 V c).before_in_eq_fetched 4 rfl (fun _ => rfl) (fun _ _ _ => rfl) (fun t => rfl) t d).trans rfl
  · exact ((dat0 V c).before_in_eq_fetched 5 rfl (fun _ => rfl) (fun _ _ _ => rfl) (fun t => rfl) t d).trans rfl
  · exact ((dat0 V c).before_in_eq_fetched 6 rfl (fun _ => rfl) (fun _ _ _ => rfl) (fun t => rfl) t d).trans rfl
  · exact ((dat0 V c).before_in_eq_fetched 7 rfl (fun _ => rfl) (fun _ _ _ => rfl) (fun t => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d)) ∗ (∃ d, owns (c : Thread nD τ) (ms0_1 t) fullShare ((dat0 V c).before 1 t d)) ∗ (∃ d, owns (c : Thread nD τ) (ms0_2 t) fullShare ((dat0 V c).before 2 t d)) ∗ (∃ d, owns (c : Thread nD τ) (ms0_3 t) fullShare ((dat0 V c).before 3 t d)) ∗ (∃ d, owns (c : Thread nD τ) (ms0_4 t) fullShare ((dat0 V c).before 4 t d)) ∗ (∃ d, owns (c : Thread nD τ) (ms0_5 t) fullShare ((dat0 V c).before 5 t d)) ∗ (∃ d, owns (c : Thread nD τ) (ms0_6 t) fullShare ((dat0 V c).before 6 t d)) ∗ (∃ d, owns (c : Thread nD τ) (ms0_7 t) fullShare ((dat0 V c).before 7 t d)) ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t) ∗ owns (c : Thread nD τ) (ms0_1 t) fullShare ((dat0 V c).after 1 t) ∗ owns (c : Thread nD τ) (ms0_2 t) fullShare ((dat0 V c).after 2 t) ∗ owns (c : Thread nD τ) (ms0_3 t) fullShare ((dat0 V c).after 3 t) ∗ owns (c : Thread nD τ) (ms0_4 t) fullShare ((dat0 V c).after 4 t) ∗ owns (c : Thread nD τ) (ms0_5 t) fullShare ((dat0 V c).after 5 t) ∗ owns (c : Thread nD τ) (ms0_6 t) fullShare ((dat0 V c).after 6 t) ∗ owns (c : Thread nD τ) (ms0_7 t) fullShare ((dat0 V c).after 7 t) ∗ owns (c : Thread nD τ) (ms0_8 t) fullShare ((dat0 V c).after 8 t))

set_option maxHeartbeats 800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  obtain ⟨b0, b1, b2, b3, b4, b5, b6, b7⟩ := before0 V c t
  unfold bodyPre0 bodyPost0 bodyAt0
  simp only [b0, b1, b2, b3, b4, b5, b6, b7]
  rw [show (dat0 V c).Φ t.succ = (dat0 V c).Φ t.castSucc from rfl,
    show (dat0 V c).owesAt () t.succ = (dat0 V c).owesAt () t.castSucc from rfl, after0_8]
  rw [show (dat0 V c).Φ t.castSucc = Pipeline.ΦA spec0 c from rfl, PhiA0_eq]
  unfold outAt0
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0 c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body0 V c t) rfl .rfl fun _ => .rfl

end

end Cert.KernelIdeal.Gen
end
-- ==== Proof.Region1.lean ====
/- Launch 1 of the kernel at any contents of its arrays: what a grid point leaves, and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of a grid point, from the row above, the block and the row below. -/
def slab1 (i : grid1.Coords) (x0 : Vec F S1x1x128x256 .f32) (x1 : Vec F S1x16x128x256 .f32) (x2 : Vec F S1x1x128x256 .f32) : Vec F S19x136x256 .bf16 :=
  Rpn.slabOf (T := 19) (wp := 136) (s := 128) (th := 16) (by decide) (by decide) (by decide) (Scalar.ofBits .bf16 0x0000#16)
    (k1_pay7 i x0) (k1_pay8 x1) (k1_pay9 (k1_pay6 i x2))

/-- What a grid point leaves in the output window. -/
def out1 (i : grid1.Coords) (x0 : Vec F S1x1x128x256 .f32) (x1 : Vec F S1x16x128x256 .f32) (x2 : Vec F S1x1x128x256 .f32) (x3 : Vec F S3x3x256x512 .bf16) (x4 : Vec F S1x512 .f32) (x5 : Vec F S512x24 .f32) (x6 : Vec F S1x24 .f32) (x7 : Vec F S3x384x128 .bf16) : Vec F S1x1x6144x8 .f32 :=
  Rpn.block Rpn.fits1 (slab1 i x0 x1 x2) (fun a b => View.ld (Val := Elt F) (e' := .bf16) x3 (Rect.unit (s := S3x3x256x512) ![a.val, b.val, 0, 0] ![1, 1, 256, 512]
      (fun k => match k with | 0 => by have := a.isLt; show a.val + 1 ≤ 3; omega | 1 => by have := b.isLt; show b.val + 1 ≤ 3; omega | 2 => Nat.le_refl _ | 3 => Nat.le_refl _)))
    x4 x5 x6 (fun a => View.ld (Val := Elt F) (e' := .bf16) x7 (Rect.unit (s := S3x384x128) ![a.val, 0, 0] ![1, 384, 128]
      (fun k => match k with | 0 => by have := a.isLt; show a.val + 1 ≤ 3; omega | 1 => Nat.le_refl _ | 2 => Nat.le_refl _)))

set_option maxHeartbeats 8000000 in
/-- The body on any whole buffers: it leaves the inputs as they were and its output at `out1`, whatever the output and the slab held. -/
theorem run1 (c : Dev nD) (i : grid1.Coords) (arg2 : Memref sig .tc .vmem S1x1x128x256 .f32) (harg2 : arg2.IsWhole) (arg3 : Memref sig .tc .vmem S1x16x128x256 .f32) (harg3 : arg3.IsWhole) (arg4 : Memref sig .tc .vmem S1x1x128x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x24 .f32) (harg7 : arg7.IsWhole) (arg8 : Memref sig .tc .vmem S1x24 .f32) (harg8 : arg8.IsWhole) (arg9 : Memref sig .tc .vmem S3x384x128 .bf16) (harg9 : arg9.IsWhole) (arg10 : Memref sig .tc .vmem S1x1x6144x8 .f32) (harg10 : arg10.IsWhole) (arg11 : Memref sig .tc .vmem S19x136x256 .bf16) (harg11 : arg11.IsWhole)
    (x0 : Vec F S1x1x128x256 .f32) (x1 : Vec F S1x16x128x256 .f32) (x2 : Vec F S1x1x128x256 .f32) (x3 : Vec F S3x3x256x512 .bf16) (x4 : Vec F S1x512 .f32) (x5 : Vec F S512x24 .f32) (x6 : Vec F S1x24 .f32) (x7 : Vec F S3x384x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out1 i x0 x1 x2 x3 x4 x5 x6 x7) ∗ (∃ d, owns (c : Thread nD τ) arg11 fullShare d)) -∗ K ⟨⟩))
      ⊢ wp frame (wpE (defs₀ (F := F)) Variants.none c none) E (cc1__rpn_level_kernel i arg2 harg2 arg3 harg3 arg4 harg4 arg5 harg5 arg6 harg6 arg7 harg7 arg8 harg8 arg9 harg9 arg10 harg10 arg11 harg11) K := by
  simp only [cc1__rpn_level_kernel_eq_skeleton]; unfold cc1__rpn_level_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := hf0; obtain rfl := hf1; obtain rfl := hf2; obtain rfl := hf3; obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_full _ _ _ _ _).trans ?_
    have e0 := View.readAt_full (Val := Elt F) arg2.view f0 (off := ![0, 0, 0, 0]) inb_S1x1x128x256_S1x1x128x256_0_0_0_0
    have e1 := View.readAt_full (Val := Elt F) arg3.view f1 (off := ![0, 0, 0, 0]) inb_S1x16x128x256_S1x16x128x256_0_0_0_0
    have e2 := View.readAt_full (Val := Elt F) arg4.view f2 (off := ![0, 0, 0, 0]) inb_S1x1x128x256_S1x1x128x256_0_0_0_0
    have e4 := View.readAt_full (Val := Elt F) arg6.view f4 (off := ![0, 0]) inb_S1x512_S1x512_0_0
    have e5 := View.readAt_full (Val := Elt F) arg7.view f5 (off := ![0, 0]) inb_S512x24_S512x24_0_0
    have e6 := View.readAt_full (Val := Elt F) arg8.view f6 (off := ![0, 0]) inb_S1x24_S1x24_0_0
    have hv := Rpn.slab_read Rpn.boxes1 arg11.view fs0 (Scalar.ofBits .bf16 0x0000#16) k1_pay3 k1_pay4 k1_pay5
      (k1_pay7 i (View.readAt (Elt F) arg2.view (Rect.unit (s := S1x1x128x256) ![0, 0, 0, 0] S1x1x128x256.size inb_S1x1x128x256_S1x1x128x256_0_0_0_0).toLoadRect f0))
      (k1_pay9 (k1_pay6 i (View.readAt (Elt F) arg4.view (Rect.unit (s := S1x1x128x256) ![0, 0, 0, 0] S1x1x128x256.size inb_S1x1x128x256_S1x1x128x256_0_0_0_0).toLoadRect f2)))
      (k1_pay8 (View.readAt (Elt F) arg3.view (Rect.unit (s := S1x16x128x256) ![0, 0, 0, 0] S1x16x128x256.size inb_S1x16x128x256_S1x16x128x256_0_0_0_0).toLoadRect f1))
      rfl rfl rfl (by decide) (by decide) (by decide) (by decide) (by decide) (by decide) (by decide) (by decide) (by decide) (by decide) (by decide) (by decide)
      (by decide) (by decide) (by decide) _ _ _ _ _ _ rfl rfl rfl rfl rfl rfl
    unfold out1 slab1
    rw [← e0, ← e1, ← e2, ← e4, ← e5, ← e6]
    refine Eq.trans ?_ (congrArg (fun S => Rpn.block Rpn.fits1 S _ _ _ _ _) hv)
    chain_rfl
  · iexists _; iexists _; isplitr
    swap; · iexact HS0
    ipureintro; rfl

/-! ## The proof data -/

/-- The scratch slab. -/
abbrev scM1_0 : Memref sig .tc .vmem S19x136x256 .bf16 := Memref.whole cc1_scratch0

/-- The invariant between grid points, with the slab taken out: it holds anything. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_split]; simp only [scM1_0, owns_whole]; rfl

abbrev ms1_0 (t : Fin cfg1.N) : Memref sig .tc .vmem S1x1x128x256 .f32 := win1_0.stage (cfg1.slots t 0)
abbrev ms1_1 (t : Fin cfg1.N) : Memref sig .tc .vmem S1x16x128x256 .f32 := win1_1.stage (cfg1.slots t 1)
abbrev ms1_2 (t : Fin cfg1.N) : Memref sig .tc .vmem S1x1x128x256 .f32 := win1_2.stage (cfg1.slots t 2)
abbrev ms1_3 (t : Fin cfg1.N) : Memref sig .tc .vmem S3x3x256x512 .bf16 := win1_3.stage (cfg1.slots t 3)
abbrev ms1_4 (t : Fin cfg1.N) : Memref sig .tc .vmem S1x512 .f32 := win1_4.stage (cfg1.slots t 4)
abbrev ms1_5 (t : Fin cfg1.N) : Memref sig .tc .vmem S512x24 .f32 := win1_5.stage (cfg1.slots t 5)
abbrev ms1_6 (t : Fin cfg1.N) : Memref sig .tc .vmem S1x24 .f32 := win1_6.stage (cfg1.slots t 6)
abbrev ms1_7 (t : Fin cfg1.N) : Memref sig .tc .vmem S3x384x128 .bf16 := win1_7.stage (cfg1.slots t 7)
abbrev ms1_8 (t : Fin cfg1.N) : Memref sig .tc .vmem S1x1x6144x8 .f32 := win1_8.stage (cfg1.slots t 8)

section
variable (V : (c : Dev nD) → (b : Ref sig .tc) → Buf (Elt F) ((c : Thread nD τ).loc b))

/-- Window `w`'s block at point `t` of its array's contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output window holds after point `t`. -/
def outAt1 (c : Dev nD) (t : Fin cfg1.N) : Vec F S1x1x6144x8 .f32 :=
  out1 (grid1.coords t) (iblk1 V c 0 t) (iblk1 V c 1 t) (iblk1 V c 2 t) (iblk1 V c 3 t) (iblk1 V c 4 t) (iblk1 V c 5 t) (iblk1 V c 6 t) (iblk1 V c 7 t)

/-- The proof data: inputs stay at their blocks, the output is `outAt1`, nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt1 V c t
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = outAt1 V c t := by dsimp only [dat1]

/-- Each input's staging buffer holds its block when the body starts. -/
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) := by
  refine ⟨?_, ?_, ?_, ?_, ?_, ?_, ?_, ?_⟩ <;> intro d
  · exact ((dat1 V c).before_in_eq_fetched 0 rfl (fun _ => rfl) (fun _ _ _ => rfl) (fun t => rfl) t d).trans rfl
  · exact ((dat1 V c).before_in_eq_fetched 1 rfl (fun _ => rfl) (fun _ _ _ => rfl) (fun t => rfl) t d).trans rfl
  · exact ((dat1 V c).before_in_eq_fetched 2 rfl (fun _ => rfl) (fun _ _ _ => rfl) (fun t => rfl) t d).trans rfl
  · exact ((dat1 V c).before_in_eq_fetched 3 rfl (fun _ => rfl) (fun _ _ _ => rfl) (fun t => rfl) t d).trans rfl
  · exact ((dat1 V c).before_in_eq_fetched 4 rfl (fun _ => rfl) (fun _ _ _ => rfl) (fun t => rfl) t d).trans rfl
  · exact ((dat1 V c).before_in_eq_fetched 5 rfl (fun _ => rfl) (fun _ _ _ => rfl) (fun t => rfl) t d).trans rfl
  · exact ((dat1 V c).before_in_eq_fetched 6 rfl (fun _ => rfl) (fun _ _ _ => rfl) (fun t => rfl) t d).trans rfl
  · exact ((dat1 V c).before_in_eq_fetched 7 rfl (fun _ => rfl) (fun _ _ _ => rfl) (fun t => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)) ∗ (∃ d, owns (c : Thread nD τ) (ms1_4 t) fullShare ((dat1 V c).before 4 t d)) ∗ (∃ d, owns (c : Thread nD τ) (ms1_5 t) fullShare ((dat1 V c).before 5 t d)) ∗ (∃ d, owns (c : Thread nD τ) (ms1_6 t) fullShare ((dat1 V c).before 6 t d)) ∗ (∃ d, owns (c : Thread nD τ) (ms1_7 t) fullShare ((dat1 V c).before 7 t d)) ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t) ∗ owns (c : Thread nD τ) (ms1_4 t) fullShare ((dat1 V c).after 4 t) ∗ owns (c : Thread nD τ) (ms1_5 t) fullShare ((dat1 V c).after 5 t) ∗ owns (c : Thread nD τ) (ms1_6 t) fullShare ((dat1 V c).after 6 t) ∗ owns (c : Thread nD τ) (ms1_7 t) fullShare ((dat1 V c).after 7 t) ∗ owns (c : Thread nD τ) (ms1_8 t) fullShare ((dat1 V c).after 8 t))

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  obtain ⟨b0, b1, b2, b3, b4, b5, b6, b7⟩ := before1 V c t
  unfold bodyPre1 bodyPost1 bodyAt1
  simp only [b0, b1, b2, b3, b4, b5, b6, b7]
  rw [show (dat1 V c).Φ t.succ = (dat1 V c).Φ t.castSucc from rfl,
    show (dat1 V c).owesAt () t.succ = (dat1 V c).owesAt () t.castSucc from rfl, after1_8]
  rw [show (dat1 V c).Φ t.castSucc = Pipeline.ΦA spec1 c from rfl, PhiA1_eq]
  unfold outAt1
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (sound_body1 V c t) rfl .rfl fun _ => .rfl

end

end Cert.KernelIdeal.Gen
end
-- ==== Proof.Region2.lean ====
/- Launch 2 of the kernel at any contents of its arrays: what a grid point leaves, and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of a grid point, from the row above, the block and the row below. -/
def slab2 (i : grid2.Coords) (x0 : Vec F S1x1x64x256 .f32) (x1 : Vec F S1x32x64x256 .f32) (x2 : Vec F S1x1x64x256 .f32) : Vec F S35x72x256 .bf16 :=
  Rpn.slabOf (T := 35) (wp := 72) (s := 64) (th := 32) (by decide) (by decide) (by decide) (Scalar.ofBits .bf16 0x0000#16)
    (k2_pay7 i x0) (k2_pay8 x1) (k2_pay9 (k2_pay6 i x2))

/-- What a grid point leaves in the output window. -/
def out2 (i : grid2.Coords) (x0 : Vec F S1x1x64x256 .f32) (x1 : Vec F S1x32x64x256 .f32) (x2 : Vec F S1x1x64x256 .f32) (x3 : Vec F S3x3x256x512 .bf16) (x4 : Vec F S1x512 .f32) (x5 : Vec F S512x24 .f32) (x6 : Vec F S1x24 .f32) (x7 : Vec F S3x384x128 .bf16) : Vec F S1x1x6144x8 .f32 :=
  Rpn.block Rpn.fits2 (slab2 i x0 x1 x2) (fun a b => View.ld (Val := Elt F) (e' := .bf16) x3 (Rect.unit (s := S3x3x256x512) ![a.val, b.val, 0, 0] ![1, 1, 256, 512]
      (fun k => match k with | 0 => by have := a.isLt; show a.val + 1 ≤ 3; omega | 1 => by have := b.isLt; show b.val + 1 ≤ 3; omega | 2 => Nat.le_refl _ | 3 => Nat.le_refl _)))
    x4 x5 x6 (fun a => View.ld (Val := Elt F) (e' := .bf16) x7 (Rect.unit (s := S3x384x128) ![a.val, 0, 0] ![1, 384, 128]
      (fun k => match k with | 0 => by have := a.isLt; show a.val + 1 ≤ 3; omega | 1 => Nat.le_refl _ | 2 => Nat.le_refl _)))

set_option maxHeartbeats 8000000 in
/-- The body on any whole buffers: it leaves the inputs as they were and its output at `out2`, whatever the output and the slab held. -/
theorem run2 (c : Dev nD) (i : grid2.Coords) (arg2 : Memref sig .tc .vmem S1x1x64x256 .f32) (harg2 : arg2.IsWhole) (arg3 : Memref sig .tc .vmem S1x32x64x256 .f32) (harg3 : arg3.IsWhole) (arg4 : Memref sig .tc .vmem S1x1x64x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x24 .f32) (harg7 : arg7.IsWhole) (arg8 : Memref sig .tc .vmem S1x24 .f32) (harg8 : arg8.IsWhole) (arg9 : Memref sig .tc .vmem S3x384x128 .bf16) (harg9 : arg9.IsWhole) (arg10 : Memref sig .tc .vmem S1x1x6144x8 .f32) (harg10 : arg10.IsWhole) (arg11 : Memref sig .tc .vmem S35x72x256 .bf16) (harg11 : arg11.IsWhole)
    (x0 : Vec F S1x1x64x256 .f32) (x1 : Vec F S1x32x64x256 .f32) (x2 : Vec F S1x1x64x256 .f32) (x3 : Vec F S3x3x256x512 .bf16) (x4 : Vec F S1x512 .f32) (x5 : Vec F S512x24 .f32) (x6 : Vec F S1x24 .f32) (x7 : Vec F S3x384x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out2 i x0 x1 x2 x3 x4 x5 x6 x7) ∗ (∃ d, owns (c : Thread nD τ) arg11 fullShare d)) -∗ K ⟨⟩))
      ⊢ wp frame (wpE (defs₀ (F := F)) Variants.none c none) E (cc2__rpn_level_kernel i arg2 harg2 arg3 harg3 arg4 harg4 arg5 harg5 arg6 harg6 arg7 harg7 arg8 harg8 arg9 harg9 arg10 harg10 arg11 harg11) K := by
  simp only [cc2__rpn_level_kernel_eq_skeleton]; unfold cc2__rpn_level_kernel_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := hf0; obtain rfl := hf1; obtain rfl := hf2; obtain rfl := hf3; obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_full _ _ _ _ _).trans ?_
    have e0 := View.readAt_full (Val := Elt F) arg2.view f0 (off := ![0, 0, 0, 0]) inb_S1x1x64x256_S1x1x64x256_0_0_0_0
    have e1 := View.readAt_full (Val := Elt F) arg3.view f1 (off := ![0, 0, 0, 0]) inb_S1x32x64x256_S1x32x64x256_0_0_0_0
    have e2 := View.readAt_full (Val := Elt F) arg4.view f2 (off := ![0, 0, 0, 0]) inb_S1x1x64x256_S1x1x64x256_0_0_0_0
    have e4 := View.readAt_full (Val := Elt F) arg6.view f4 (off := ![0, 0]) inb_S1x512_S1x512_0_0
    have e5 := View.readAt_full (Val := Elt F) arg7.view f5 (off := ![0, 0]) inb_S512x24_S512x24_0_0
    have e6 := View.readAt_full (Val := Elt F) arg8.view f6 (off := ![0, 0]) inb_S1x24_S1x24_0_0
    have hv := Rpn.slab_read Rpn.boxes2 arg11.view fs0 (Scalar.ofBits .bf16 0x0000#16) k2_pay3 k2_pay4 k2_pay5
      (k2_pay7 i (View.readAt (Elt F) arg2.view (Rect.unit (s := S1x1x64x256) ![0, 0, 0, 0] S1x1x64x256.size inb_S1x1x64x256_S1x1x64x256_0_0_0_0).toLoadRect f0))
      (k2_pay9 (k2_pay6 i (View.readAt (Elt F) arg4.view (Rect.unit (s := S1x1x64x256) ![0, 0, 0, 0] S1x1x64x256.size inb_S1x1x64x256_S1x1x64x256_0_0_0_0).toLoadRect f2)))
      (k2_pay8 (View.readAt (Elt F) arg3.view (Rect.unit (s := S1x32x64x256) ![0, 0, 0, 0] S1x32x64x256.size inb_S1x32x64x256_S1x32x64x256_0_0_0_0).toLoadRect f1))
      rfl rfl rfl (by decide) (by decide) (by decide) (by decide) (by decide) (by decide) (by decide) (by decide) (by decide) (by decide) (by decide) (by decide)
      (by decide) (by decide) (by decide) _ _ _ _ _ _ rfl rfl rfl rfl rfl rfl
    unfold out2 slab2
    rw [← e0, ← e1, ← e2, ← e4, ← e5, ← e6]
    refine Eq.trans ?_ (congrArg (fun S => Rpn.block Rpn.fits2 S _ _ _ _ _) hv)
    chain_rfl
  · iexists _; iexists _; isplitr
    swap; · iexact HS0
    ipureintro; rfl

/-! ## The proof data -/

/-- The scratch slab. -/
abbrev scM2_0 : Memref sig .tc .vmem S35x72x256 .bf16 := Memref.whole cc2_scratch0

/-- The invariant between grid points, with the slab taken out: it holds anything. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_split]; simp only [scM2_0, owns_whole]; rfl

abbrev ms2_0 (t : Fin cfg2.N) : Memref sig .tc .vmem S1x1x64x256 .f32 := win2_0.stage (cfg2.slots t 0)
abbrev ms2_1 (t : Fin cfg2.N) : Memref sig .tc .vmem S1x32x64x256 .f32 := win2_1.stage (cfg2.slots t 1)
abbrev ms2_2 (t : Fin cfg2.N) : Memref sig .tc .vmem S1x1x64x256 .f32 := win2_2.stage (cfg2.slots t 2)
abbrev ms2_3 (t : Fin cfg2.N) : Memref sig .tc .vmem S3x3x256x512 .bf16 := win2_3.stage (cfg2.slots t 3)
abbrev ms2_4 (t : Fin cfg2.N) : Memref sig .tc .vmem S1x512 .f32 := win2_4.stage (cfg2.slots t 4)
abbrev ms2_5 (t : Fin cfg2.N) : Memref sig .tc .vmem S512x24 .f32 := win2_5.stage (cfg2.slots t 5)
abbrev ms2_6 (t : Fin cfg2.N) : Memref sig .tc .vmem S1x24 .f32 := win2_6.stage (cfg2.slots t 6)
abbrev ms2_7 (t : Fin cfg2.N) : Memref sig .tc .vmem S3x384x128 .bf16 := win2_7.stage (cfg2.slots t 7)
abbrev ms2_8 (t : Fin cfg2.N) : Memref sig .tc .vmem S1x1x6144x8 .f32 := win2_8.stage (cfg2.slots t 8)

section
variable (V : (c : Dev nD) → (b : Ref sig .tc) → Buf (Elt F) ((c : Thread nD τ).loc b))

/-- Window `w`'s block at point `t` of its array's contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output window holds after point `t`. -/
def outAt2 (c : Dev nD) (t : Fin cfg2.N) : Vec F S1x1x6144x8 .f32 :=
  out2 (grid2.coords t) (iblk2 V c 0 t) (iblk2 V c 1 t) (iblk2 V c 2 t) (iblk2 V c 3 t) (iblk2 V c 4 t) (iblk2 V c 5 t) (iblk2 V c 6 t) (iblk2 V c 7 t)

/-- The proof data: inputs stay at their blocks, the output is `outAt2`, nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => outAt2 V c t
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_8 (c : Dev nD) (t : Fin cfg2.N) : (dat2 V c).after 8 t = outAt2 V c t := by dsimp only [dat2]

/-- Each input's staging buffer holds its block when the body starts. -/
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) := by
  refine ⟨?_, ?_, ?_, ?_, ?_, ?_, ?_, ?_⟩ <;> intro d
  · exact ((dat2 V c).before_in_eq_fetched 0 rfl (fun _ => rfl) (fun _ _ _ => rfl) (fun t => rfl) t d).trans rfl
  · exact ((dat2 V c).before_in_eq_fetched 1 rfl (fun _ => rfl) (fun _ _ _ => rfl) (fun t => rfl) t d).trans rfl
  · exact ((dat2 V c).before_in_eq_fetched 2 rfl (fun _ => rfl) (fun _ _ _ => rfl) (fun t => rfl) t d).trans rfl
  · exact ((dat2 V c).before_in_eq_fetched 3 rfl (fun _ => rfl) (fun _ _ _ => rfl) (fun t => rfl) t d).trans rfl
  · exact ((dat2 V c).before_in_eq_fetched 4 rfl (fun _ => rfl) (fun _ _ _ => rfl) (fun t => rfl) t d).trans rfl
  · exact ((dat2 V c).before_in_eq_fetched 5 rfl (fun _ => rfl) (fun _ _ _ => rfl) (fun t => rfl) t d).trans rfl
  · exact ((dat2 V c).before_in_eq_fetched 6 rfl (fun _ => rfl) (fun _ _ _ => rfl) (fun t => rfl) t d).trans rfl
  · exact ((dat2 V c).before_in_eq_fetched 7 rfl (fun _ => rfl) (fun _ _ _ => rfl) (fun t => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d)) ∗ (∃ d, owns (c : Thread nD τ) (ms2_1 t) fullShare ((dat2 V c).before 1 t d)) ∗ (∃ d, owns (c : Thread nD τ) (ms2_2 t) fullShare ((dat2 V c).before 2 t d)) ∗ (∃ d, owns (c : Thread nD τ) (ms2_3 t) fullShare ((dat2 V c).before 3 t d)) ∗ (∃ d, owns (c : Thread nD τ) (ms2_4 t) fullShare ((dat2 V c).before 4 t d)) ∗ (∃ d, owns (c : Thread nD τ) (ms2_5 t) fullShare ((dat2 V c).before 5 t d)) ∗ (∃ d, owns (c : Thread nD τ) (ms2_6 t) fullShare ((dat2 V c).before 6 t d)) ∗ (∃ d, owns (c : Thread nD τ) (ms2_7 t) fullShare ((dat2 V c).before 7 t d)) ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t) ∗ owns (c : Thread nD τ) (ms2_1 t) fullShare ((dat2 V c).after 1 t) ∗ owns (c : Thread nD τ) (ms2_2 t) fullShare ((dat2 V c).after 2 t) ∗ owns (c : Thread nD τ) (ms2_3 t) fullShare ((dat2 V c).after 3 t) ∗ owns (c : Thread nD τ) (ms2_4 t) fullShare ((dat2 V c).after 4 t) ∗ owns (c : Thread nD τ) (ms2_5 t) fullShare ((dat2 V c).after 5 t) ∗ owns (c : Thread nD τ) (ms2_6 t) fullShare ((dat2 V c).after 6 t) ∗ owns (c : Thread nD τ) (ms2_7 t) fullShare ((dat2 V c).after 7 t) ∗ owns (c : Thread nD τ) (ms2_8 t) fullShare ((dat2 V c).after 8 t))

set_option maxHeartbeats 800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  obtain ⟨b0, b1, b2, b3, b4, b5, b6, b7⟩ := before2 V c t
  unfold bodyPre2 bodyPost2 bodyAt2
  simp only [b0, b1, b2, b3, b4, b5, b6, b7]
  rw [show (dat2 V c).Φ t.succ = (dat2 V c).Φ t.castSucc from rfl,
    show (dat2 V c).owesAt () t.succ = (dat2 V c).owesAt () t.castSucc from rfl, after2_8]
  rw [show (dat2 V c).Φ t.castSucc = Pipeline.ΦA spec2 c from rfl, PhiA2_eq]
  unfold outAt2
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2 c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t by unfold defs₀; rw [Defs.onTc_tc]]
  exact triple_restated (sound_body2 V c t) rfl .rfl fun _ => .rfl

end

end Cert.KernelIdeal.Gen
end
-- ==== Proof.Region3.lean ====
/- Launch 3 of the kernel at any contents of its arrays: what a grid point leaves, and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of a grid point, from the row above, the block and the row below. -/
def slab3 (i : grid3.Coords) (x0 : Vec F S1x1x32x256 .f32) (x1 : Vec F S1x32x32x256 .f32) (x2 : Vec F S1x1x32x256 .f32) : Vec F S35x40x256 .bf16 :=
  Rpn.slabOf (T := 35) (wp := 40) (s := 32) (th := 32) (by decide) (by decide) (by decide) (Scalar.ofBits .bf16 0x0000#16)
    (k3_pay7 i x0) (k3_pay8 x1) (k3_pay9 (k3_pay6 i x2))

/-- What a grid point leaves in the output window. -/
def out3 (i : grid3.Coords) (x0 : Vec F S1x1x32x256 .f32) (x1 : Vec F S1x32x32x256 .f32) (x2 : Vec F S1x1x32x256 .f32) (x3 : Vec F S3x3x256x512 .bf16) (x4 : Vec F S1x512 .f32) (x5 : Vec F S512x24 .f32) (x6 : Vec F S1x24 .f32) (x7 : Vec F S3x384x128 .bf16) : Vec F S1x1x3072x8 .f32 :=
  Rpn.block Rpn.fits3 (slab3 i x0 x1 x2) (fun a b => View.ld (Val := Elt F) (e' := .bf16) x3 (Rect.unit (s := S3x3x256x512) ![a.val, b.val, 0, 0] ![1, 1, 256, 512]
      (fun k => match k with | 0 => by have := a.isLt; show a.val + 1 ≤ 3; omega | 1 => by have := b.isLt; show b.val + 1 ≤ 3; omega | 2 => Nat.le_refl _ | 3 => Nat.le_refl _)))
    x4 x5 x6 (fun a => View.ld (Val := Elt F) (e' := .bf16) x7 (Rect.unit (s := S3x384x128) ![a.val, 0, 0] ![1, 384, 128]
      (fun k => match k with | 0 => by have := a.isLt; show a.val + 1 ≤ 3; omega | 1 => Nat.le_refl _ | 2 => Nat.le_refl _)))

set_option maxHeartbeats 8000000 in
/-- The body on any whole buffers: it leaves the inputs as they were and its output at `out3`, whatever the output and the slab held. -/
theorem run3 (c : Dev nD) (i : grid3.Coords) (arg2 : Memref sig .tc .vmem S1x1x32x256 .f32) (harg2 : arg2.IsWhole) (arg3 : Memref sig .tc .vmem S1x32x32x256 .f32) (harg3 : arg3.IsWhole) (arg4 : Memref sig .tc .vmem S1x1x32x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x24 .f32) (harg7 : arg7.IsWhole) (arg8 : Memref sig .tc .vmem S1x24 .f32) (harg8 : arg8.IsWhole) (arg9 : Memref sig .tc .vmem S3x384x128 .bf16) (harg9 : arg9.IsWhole) (arg10 : Memref sig .tc .vmem S1x1x3072x8 .f32) (harg10 : arg10.IsWhole) (arg11 : Memref sig .tc .vmem S35x40x256 .bf16) (harg11 : arg11.IsWhole)
    (x0 : Vec F S1x1x32x256 .f32) (x1 : Vec F S1x32x32x256 .f32) (x2 : Vec F S1x1x32x256 .f32) (x3 : Vec F S3x3x256x512 .bf16) (x4 : Vec F S1x512 .f32) (x5 : Vec F S512x24 .f32) (x6 : Vec F S1x24 .f32) (x7 : Vec F S3x384x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out3 i x0 x1 x2 x3 x4 x5 x6 x7) ∗ (∃ d, owns (c : Thread nD τ) arg11 fullShare d)) -∗ K ⟨⟩))
      ⊢ wp frame (wpE (defs₀ (F := F)) Variants.none c none) E (cc3__rpn_level_kernel i arg2 harg2 arg3 harg3 arg4 harg4 arg5 harg5 arg6 harg6 arg7 harg7 arg8 harg8 arg9 harg9 arg10 harg10 arg11 harg11) K := by
  simp only [cc3__rpn_level_kernel_eq_skeleton]; unfold cc3__rpn_level_kernel_skel
  simp only [k3_part1_eq_skeleton, k3_part2_eq_skeleton, k3_part3_eq_skeleton, k3_part4_eq_skeleton, k3_part5_eq_skeleton, k3_part6_eq_skeleton, k3_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := hf0; obtain rfl := hf1; obtain rfl := hf2; obtain rfl := hf3; obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_full _ _ _ _ _).trans ?_
    have e0 := View.readAt_full (Val := Elt F) arg2.view f0 (off := ![0, 0, 0, 0]) inb_S1x1x32x256_S1x1x32x256_0_0_0_0
    have e1 := View.readAt_full (Val := Elt F) arg3.view f1 (off := ![0, 0, 0, 0]) inb_S1x32x32x256_S1x32x32x256_0_0_0_0
    have e2 := View.readAt_full (Val := Elt F) arg4.view f2 (off := ![0, 0, 0, 0]) inb_S1x1x32x256_S1x1x32x256_0_0_0_0
    have e4 := View.readAt_full (Val := Elt F) arg6.view f4 (off := ![0, 0]) inb_S1x512_S1x512_0_0
    have e5 := View.readAt_full (Val := Elt F) arg7.view f5 (off := ![0, 0]) inb_S512x24_S512x24_0_0
    have e6 := View.readAt_full (Val := Elt F) arg8.view f6 (off := ![0, 0]) inb_S1x24_S1x24_0_0
    have hv := Rpn.slab_read Rpn.boxes3 arg11.view fs0 (Scalar.ofBits .bf16 0x0000#16) k3_pay3 k3_pay4 k3_pay5
      (k3_pay7 i (View.readAt (Elt F) arg2.view (Rect.unit (s := S1x1x32x256) ![0, 0, 0, 0] S1x1x32x256.size inb_S1x1x32x256_S1x1x32x256_0_0_0_0).toLoadRect f0))
      (k3_pay9 (k3_pay6 i (View.readAt (Elt F) arg4.view (Rect.unit (s := S1x1x32x256) ![0, 0, 0, 0] S1x1x32x256.size inb_S1x1x32x256_S1x1x32x256_0_0_0_0).toLoadRect f2)))
      (k3_pay8 (View.readAt (Elt F) arg3.view (Rect.unit (s := S1x32x32x256) ![0, 0, 0, 0] S1x32x32x256.size inb_S1x32x32x256_S1x32x32x256_0_0_0_0).toLoadRect f1))
      rfl rfl rfl (by decide) (by decide) (by decide) (by decide) (by decide) (by decide) (by decide) (by decide) (by decide) (by decide) (by decide) (by decide)
      (by decide) (by decide) (by decide) _ _ _ _ _ _ rfl rfl rfl rfl rfl rfl
    unfold out3 slab3
    rw [← e0, ← e1, ← e2, ← e4, ← e5, ← e6]
    refine Eq.trans ?_ (congrArg (fun S => Rpn.block Rpn.fits3 S _ _ _ _ _) hv)
    chain_rfl
  · iexists _; iexists _; isplitr
    swap; · iexact HS0
    ipureintro; rfl

/-! ## The proof data -/

/-- The scratch slab. -/
abbrev scM3_0 : Memref sig .tc .vmem S35x40x256 .bf16 := Memref.whole cc3_scratch0

/-- The invariant between grid points, with the slab taken out: it holds anything. -/
theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_split]; simp only [scM3_0, owns_whole]; rfl

abbrev ms3_0 (t : Fin cfg3.N) : Memref sig .tc .vmem S1x1x32x256 .f32 := win3_0.stage (cfg3.slots t 0)
abbrev ms3_1 (t : Fin cfg3.N) : Memref sig .tc .vmem S1x32x32x256 .f32 := win3_1.stage (cfg3.slots t 1)
abbrev ms3_2 (t : Fin cfg3.N) : Memref sig .tc .vmem S1x1x32x256 .f32 := win3_2.stage (cfg3.slots t 2)
abbrev ms3_3 (t : Fin cfg3.N) : Memref sig .tc .vmem S3x3x256x512 .bf16 := win3_3.stage (cfg3.slots t 3)
abbrev ms3_4 (t : Fin cfg3.N) : Memref sig .tc .vmem S1x512 .f32 := win3_4.stage (cfg3.slots t 4)
abbrev ms3_5 (t : Fin cfg3.N) : Memref sig .tc .vmem S512x24 .f32 := win3_5.stage (cfg3.slots t 5)
abbrev ms3_6 (t : Fin cfg3.N) : Memref sig .tc .vmem S1x24 .f32 := win3_6.stage (cfg3.slots t 6)
abbrev ms3_7 (t : Fin cfg3.N) : Memref sig .tc .vmem S3x384x128 .bf16 := win3_7.stage (cfg3.slots t 7)
abbrev ms3_8 (t : Fin cfg3.N) : Memref sig .tc .vmem S1x1x3072x8 .f32 := win3_8.stage (cfg3.slots t 8)

section
variable (V : (c : Dev nD) → (b : Ref sig .tc) → Buf (Elt F) ((c : Thread nD τ).loc b))

/-- Window `w`'s block at point `t` of its array's contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the output window holds after point `t`. -/
def outAt3 (c : Dev nD) (t : Fin cfg3.N) : Vec F S1x1x3072x8 .f32 :=
  out3 (grid3.coords t) (iblk3 V c 0 t) (iblk3 V c 1 t) (iblk3 V c 2 t) (iblk3 V c 3 t) (iblk3 V c 4 t) (iblk3 V c 5 t) (iblk3 V c 6 t) (iblk3 V c 7 t)

/-- The proof data: inputs stay at their blocks, the output is `outAt3`, nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => outAt3 V c t
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_8 (c : Dev nD) (t : Fin cfg3.N) : (dat3 V c).after 8 t = outAt3 V c t := by dsimp only [dat3]

/-- Each input's staging buffer holds its block when the body starts. -/
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) := by
  refine ⟨?_, ?_, ?_, ?_, ?_, ?_, ?_, ?_⟩ <;> intro d
  · exact ((dat3 V c).before_in_eq_fetched 0 rfl (fun _ => rfl) (fun _ _ _ => rfl) (fun t => rfl) t d).trans rfl
  · exact ((dat3 V c).before_in_eq_fetched 1 rfl (fun _ => rfl) (fun _ _ _ => rfl) (fun t => rfl) t d).trans rfl
  · exact ((dat3 V c).before_in_eq_fetched 2 rfl (fun _ => rfl) (fun _ _ _ => rfl) (fun t => rfl) t d).trans rfl
  · exact ((dat3 V c).before_in_eq_fetched 3 rfl (fun _ => rfl) (fun _ _ _ => rfl) (fun t => rfl) t d).trans rfl
  · exact ((dat3 V c).before_in_eq_fetched 4 rfl (fun _ => rfl) (fun _ _ _ => rfl) (fun t => rfl) t d).trans rfl
  · exact ((dat3 V c).before_in_eq_fetched 5 rfl (fun _ => rfl) (fun _ _ _ => rfl) (fun t => rfl) t d).trans rfl
  · exact ((dat3 V c).before_in_eq_fetched 6 rfl (fun _ => rfl) (fun _ _ _ => rfl) (fun t => rfl) t d).trans rfl
  · exact ((dat3 V c).before_in_eq_fetched 7 rfl (fun _ => rfl) (fun _ _ _ => rfl) (fun t => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d)) ∗ (∃ d, owns (c : Thread nD τ) (ms3_1 t) fullShare ((dat3 V c).before 1 t d)) ∗ (∃ d, owns (c : Thread nD τ) (ms3_2 t) fullShare ((dat3 V c).before 2 t d)) ∗ (∃ d, owns (c : Thread nD τ) (ms3_3 t) fullShare ((dat3 V c).before 3 t d)) ∗ (∃ d, owns (c : Thread nD τ) (ms3_4 t) fullShare ((dat3 V c).before 4 t d)) ∗ (∃ d, owns (c : Thread nD τ) (ms3_5 t) fullShare ((dat3 V c).before 5 t d)) ∗ (∃ d, owns (c : Thread nD τ) (ms3_6 t) fullShare ((dat3 V c).before 6 t d)) ∗ (∃ d, owns (c : Thread nD τ) (ms3_7 t) fullShare ((dat3 V c).before 7 t d)) ∗ (∃ d, owns (c : Thread nD τ) (ms3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t) ∗ owns (c : Thread nD τ) (ms3_1 t) fullShare ((dat3 V c).after 1 t) ∗ owns (c : Thread nD τ) (ms3_2 t) fullShare ((dat3 V c).after 2 t) ∗ owns (c : Thread nD τ) (ms3_3 t) fullShare ((dat3 V c).after 3 t) ∗ owns (c : Thread nD τ) (ms3_4 t) fullShare ((dat3 V c).after 4 t) ∗ owns (c : Thread nD τ) (ms3_5 t) fullShare ((dat3 V c).after 5 t) ∗ owns (c : Thread nD τ) (ms3_6 t) fullShare ((dat3 V c).after 6 t) ∗ owns (c : Thread nD τ) (ms3_7 t) fullShare ((dat3 V c).after 7 t) ∗ owns (c : Thread nD τ) (ms3_8 t) fullShare ((dat3 V c).after 8 t))

set_option maxHeartbeats 800000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  obtain ⟨b0, b1, b2, b3, b4, b5, b6, b7⟩ := before3 V c t
  unfold bodyPre3 bodyPost3 bodyAt3
  simp only [b0, b1, b2, b3, b4, b5, b6, b7]
  rw [show (dat3 V c).Φ t.succ = (dat3 V c).Φ t.castSucc from rfl,
    show (dat3 V c).owesAt () t.succ = (dat3 V c).owesAt () t.castSucc from rfl, after3_8]
  rw [show (dat3 V c).Φ t.castSucc = Pipeline.ΦA spec3 c from rfl, PhiA3_eq]
  unfold outAt3
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3 c (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t by unfold defs₀; rw [Defs.onTc_tc]]
  exact triple_restated (sound_body3 V c t) rfl .rfl fun _ => .rfl

end

end Cert.KernelIdeal.Gen
end
-- ==== Proof.Region4.lean ====
/- Launch 4 of the kernel at any contents of its arrays: what a grid point leaves, and the pipeline's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Block

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of a grid point, from the row above, the block and the row below. -/
def slab4 (i : grid4.Coords) (x0 : Vec F S1x1x16x256 .f32) (x1 : Vec F S1x16x16x256 .f32) (x2 : Vec F S1x1x16x256 .f32) : Vec F S19x24x256 .bf16 :=
  Rpn.slabOf (T := 19) (wp := 24) (s := 16) (th := 16) (by decide) (by decide) (by decide) (Scalar.ofBits .bf16 0x0000#16)
    (k4_pay7 i x0) (k4_pay8 x1) (k4_pay9 (k4_pay6 i x2))

/-- What a grid point leaves in the output window. -/
def out4 (i : grid4.Coords) (x0 : Vec F S1x1x16x256 .f32) (x1 : Vec F S1x16x16x256 .f32) (x2 : Vec F S1x1x16x256 .f32) (x3 : Vec F S3x3x256x512 .bf16) (x4 : Vec F S1x512 .f32) (x5 : Vec F S512x24 .f32) (x6 : Vec F S1x24 .f32) (x7 : Vec F S3x384x128 .bf16) : Vec F S1x1x768x8 .f32 :=
  Rpn.block Rpn.fits4 (slab4 i x0 x1 x2) (fun a b => View.ld (Val := Elt F) (e' := .bf16) x3 (Rect.unit (s := S3x3x256x512) ![a.val, b.val, 0, 0] ![1, 1, 256, 512]
      (fun k => match k with | 0 => by have := a.isLt; show a.val + 1 ≤ 3; omega | 1 => by have := b.isLt; show b.val + 1 ≤ 3; omega | 2 => Nat.le_refl _ | 3 => Nat.le_refl _)))
    x4 x5 x6 (fun a => View.ld (Val := Elt F) (e' := .bf16) x7 (Rect.unit (s := S3x384x128) ![a.val, 0, 0] ![1, 384, 128]
      (fun k => match k with | 0 => by have := a.isLt; show a.val + 1 ≤ 3; omega | 1 => Nat.le_refl _ | 2 => Nat.le_refl _)))

set_option maxHeartbeats 8000000 in
/-- The body on any whole buffers: it leaves the inputs as they were and its output at `out4`, whatever the output and the slab held. -/
theorem run4 (c : Dev nD) (i : grid4.Coords) (arg2 : Memref sig .tc .vmem S1x1x16x256 .f32) (harg2 : arg2.IsWhole) (arg3 : Memref sig .tc .vmem S1x16x16x256 .f32) (harg3 : arg3.IsWhole) (arg4 : Memref sig .tc .vmem S1x1x16x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x24 .f32) (harg7 : arg7.IsWhole) (arg8 : Memref sig .tc .vmem S1x24 .f32) (harg8 : arg8.IsWhole) (arg9 : Memref sig .tc .vmem S3x384x128 .bf16) (harg9 : arg9.IsWhole) (arg10 : Memref sig .tc .vmem S1x1x768x8 .f32) (harg10 : arg10.IsWhole) (arg11 : Memref sig .tc .vmem S19x24x256 .bf16) (harg11 : arg11.IsWhole)
    (x0 : Vec F S1x1x16x256 .f32) (x1 : Vec F S1x16x16x256 .f32) (x2 : Vec F S1x1x16x256 .f32) (x3 : Vec F S3x3x256x512 .bf16) (x4 : Vec F S1x512 .f32) (x5 : Vec F S512x24 .f32) (x6 : Vec F S1x24 .f32) (x7 : Vec F S3x384x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out4 i x0 x1 x2 x3 x4 x5 x6 x7) ∗ (∃ d, owns (c : Thread nD τ) arg11 fullShare d)) -∗ K ⟨⟩))
      ⊢ wp frame (wpE (defs₀ (F := F)) Variants.none c none) E (cc4__rpn_level_kernel i arg2 harg2 arg3 harg3 arg4 harg4 arg5 harg5 arg6 harg6 arg7 harg7 arg8 harg8 arg9 harg9 arg10 harg10 arg11 harg11) K := by
  simp only [cc4__rpn_level_kernel_eq_skeleton]; unfold cc4__rpn_level_kernel_skel
  simp only [k4_part1_eq_skeleton, k4_part2_eq_skeleton, k4_part3_eq_skeleton, k4_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := hf0; obtain rfl := hf1; obtain rfl := hf2; obtain rfl := hf3; obtain rfl := hf4; obtain rfl := hf5; obtain rfl := hf6; obtain rfl := hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_full _ _ _ _ _).trans ?_
    have e0 := View.readAt_full (Val := Elt F) arg2.view f0 (off := ![0, 0, 0, 0]) inb_S1x1x16x256_S1x1x16x256_0_0_0_0
    have e1 := View.readAt_full (Val := Elt F) arg3.view f1 (off := ![0, 0, 0, 0]) inb_S1x16x16x256_S1x16x16x256_0_0_0_0
    have e2 := View.readAt_full (Val := Elt F) arg4.view f2 (off := ![0, 0, 0, 0]) inb_S1x1x16x256_S1x1x16x256_0_0_0_0
    have e4 := View.readAt_full (Val := Elt F) arg6.view f4 (off := ![0, 0]) inb_S1x512_S1x512_0_0
    have e5 := View.readAt_full (Val := Elt F) arg7.view f5 (off := ![0, 0]) inb_S512x24_S512x24_0_0
    have e6 := View.readAt_full (Val := Elt F) arg8.view f6 (off := ![0, 0]) inb_S1x24_S1x24_0_0
    have hv := Rpn.slab_read Rpn.boxes4 arg11.view fs0 (Scalar.ofBits .bf16 0x0000#16) k4_pay3 k4_pay4 k4_pay5
      (k4_pay7 i (View.readAt (Elt F) arg2.view (Rect.unit (s := S1x1x16x256) ![0, 0, 0, 0] S1x1x16x256.size inb_S1x1x16x256_S1x1x16x256_0_0_0_0).toLoadRect f0))
      (k4_pay9 (k4_pay6 i (View.readAt (Elt F) arg4.view (Rect.unit (s := S1x1x16x256) ![0, 0, 0, 0] S1x1x16x256.size inb_S1x1x16x256_S1x1x16x256_0_0_0_0).toLoadRect f2)))
      (k4_pay8 (View.readAt (Elt F) arg3.view (Rect.unit (s := S1x16x16x256) ![0, 0, 0, 0] S1x16x16x256.size inb_S1x16x16x256_S1x16x16x256_0_0_0_0).toLoadRect f1))
      rfl rfl rfl (by decide) (by decide) (by decide) (by decide) (by decide) (by decide) (by decide) (by decide) (by decide) (by decide) (by decide) (by decide)
      (by decide) (by decide) (by decide) _ _ _ _ _ _ rfl rfl rfl rfl rfl rfl
    unfold out4 slab4
    rw [← e0, ← e1, ← e2, ← e4, ← e5, ← e6]
    refine Eq.trans ?_ (congrArg (fun S => Rpn.block Rpn.fits4 S _ _ _ _ _) hv)
    chain_rfl
  · iexists _; iexists _; isplitr
    swap; · iexact HS0
    ipureintro; rfl

/-! ## The proof data -/

/-- The scratch slab. -/
abbrev scM4_0 : Memref sig .tc .vmem S19x24x256 .bf16 := Memref.whole cc4_scratch0

/-- The invariant between grid points, with the slab taken out: it holds anything. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_split]; simp only [scM4_0, owns_whole]; rfl

abbrev ms4_0 (t : Fin cfg4.N) : Memref sig .tc .vmem S1x1x16x256 .f32 := win4_0.stage (cfg4.slots t 0)
abbrev ms4_1 (t : Fin cfg4.N) : Memref sig .tc .vmem S1x16x16x256 .f32 := win4_1.stage (cfg4.slots t 1)
abbrev ms4_2 (t : Fin cfg4.N) : Memref sig .tc .vmem S1x1x16x256 .f32 := win4_2.stage (cfg4.slots t 2)
abbrev ms4_3 (t : Fin cfg4.N) : Memref sig .tc .vmem S3x3x256x512 .bf16 := win4_3.stage (cfg4.slots t 3)
abbrev ms4_4 (t : Fin cfg4.N) : Memref sig .tc .vmem S1x512 .f32 := win4_4.stage (cfg4.slots t 4)
abbrev ms4_5 (t : Fin cfg4.N) : Memref sig .tc .vmem S512x24 .f32 := win4_5.stage (cfg4.slots t 5)
abbrev ms4_6 (t : Fin cfg4.N) : Memref sig .tc .vmem S1x24 .f32 := win4_6.stage (cfg4.slots t 6)
abbrev ms4_7 (t : Fin cfg4.N) : Memref sig .tc .vmem S3x384x128 .bf16 := win4_7.stage (cfg4.slots t 7)
abbrev ms4_8 (t : Fin cfg4.N) : Memref sig .tc .vmem S1x1x768x8 .f32 := win4_8.stage (cfg4.slots t 8)

section
variable (V : (c : Dev nD) → (b : Ref sig .tc) → Buf (Elt F) ((c : Thread nD τ).loc b))

/-- Window `w`'s block at point `t` of its array's contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the output window holds after point `t`. -/
def outAt4 (c : Dev nD) (t : Fin cfg4.N) : Vec F S1x1x768x8 .f32 :=
  out4 (grid4.coords t) (iblk4 V c 0 t) (iblk4 V c 1 t) (iblk4 V c 2 t) (iblk4 V c 3 t) (iblk4 V c 4 t) (iblk4 V c 5 t) (iblk4 V c 6 t) (iblk4 V c 7 t)

/-- The proof data: inputs stay at their blocks, the output is `outAt4`, nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => outAt4 V c t
  Φ _ := Pipeline.ΦA spec4 c
  q w := Pipeline.shareOf spec4 w
  owed _ := 0

theorem A_eq4 (c : Dev nD) (w : Fin cfg4.W) : (dat4 V c).A w = V c (Pipeline.arrRef spec4 w) := by
  dsimp only [dat4]

theorem after4_8 (c : Dev nD) (t : Fin cfg4.N) : (dat4 V c).after 8 t = outAt4 V c t := by dsimp only [dat4]

/-- Each input's staging buffer holds its block when the body starts. -/
theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) ∧ (∀ d, (dat4 V c).before 5 t d = iblk4 V c 5 t) ∧ (∀ d, (dat4 V c).before 6 t d = iblk4 V c 6 t) ∧ (∀ d, (dat4 V c).before 7 t d = iblk4 V c 7 t) := by
  refine ⟨?_, ?_, ?_, ?_, ?_, ?_, ?_, ?_⟩ <;> intro d
  · exact ((dat4 V c).before_in_eq_fetched 0 rfl (fun _ => rfl) (fun _ _ _ => rfl) (fun t => rfl) t d).trans rfl
  · exact ((dat4 V c).before_in_eq_fetched 1 rfl (fun _ => rfl) (fun _ _ _ => rfl) (fun t => rfl) t d).trans rfl
  · exact ((dat4 V c).before_in_eq_fetched 2 rfl (fun _ => rfl) (fun _ _ _ => rfl) (fun t => rfl) t d).trans rfl
  · exact ((dat4 V c).before_in_eq_fetched 3 rfl (fun _ => rfl) (fun _ _ _ => rfl) (fun t => rfl) t d).trans rfl
  · exact ((dat4 V c).before_in_eq_fetched 4 rfl (fun _ => rfl) (fun _ _ _ => rfl) (fun t => rfl) t d).trans rfl
  · exact ((dat4 V c).before_in_eq_fetched 5 rfl (fun _ => rfl) (fun _ _ _ => rfl) (fun t => rfl) t d).trans rfl
  · exact ((dat4 V c).before_in_eq_fetched 6 rfl (fun _ => rfl) (fun _ _ _ => rfl) (fun t => rfl) t d).trans rfl
  · exact ((dat4 V c).before_in_eq_fetched 7 rfl (fun _ => rfl) (fun _ _ _ => rfl) (fun t => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d)) ∗ (∃ d, owns (c : Thread nD τ) (ms4_1 t) fullShare ((dat4 V c).before 1 t d)) ∗ (∃ d, owns (c : Thread nD τ) (ms4_2 t) fullShare ((dat4 V c).before 2 t d)) ∗ (∃ d, owns (c : Thread nD τ) (ms4_3 t) fullShare ((dat4 V c).before 3 t d)) ∗ (∃ d, owns (c : Thread nD τ) (ms4_4 t) fullShare ((dat4 V c).before 4 t d)) ∗ (∃ d, owns (c : Thread nD τ) (ms4_5 t) fullShare ((dat4 V c).before 5 t d)) ∗ (∃ d, owns (c : Thread nD τ) (ms4_6 t) fullShare ((dat4 V c).before 6 t d)) ∗ (∃ d, owns (c : Thread nD τ) (ms4_7 t) fullShare ((dat4 V c).before 7 t d)) ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t) ∗ owns (c : Thread nD τ) (ms4_1 t) fullShare ((dat4 V c).after 1 t) ∗ owns (c : Thread nD τ) (ms4_2 t) fullShare ((dat4 V c).after 2 t) ∗ owns (c : Thread nD τ) (ms4_3 t) fullShare ((dat4 V c).after 3 t) ∗ owns (c : Thread nD τ) (ms4_4 t) fullShare ((dat4 V c).after 4 t) ∗ owns (c : Thread nD τ) (ms4_5 t) fullShare ((dat4 V c).after 5 t) ∗ owns (c : Thread nD τ) (ms4_6 t) fullShare ((dat4 V c).after 6 t) ∗ owns (c : Thread nD τ) (ms4_7 t) fullShare ((dat4 V c).after 7 t) ∗ owns (c : Thread nD τ) (ms4_8 t) fullShare ((dat4 V c).after 8 t))

set_option maxHeartbeats 800000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  obtain ⟨b0, b1, b2, b3, b4, b5, b6, b7⟩ := before4 V c t
  unfold bodyPre4 bodyPost4 bodyAt4
  simp only [b0, b1, b2, b3, b4, b5, b6, b7]
  rw [show (dat4 V c).Φ t.succ = (dat4 V c).Φ t.castSucc from rfl,
    show (dat4 V c).owesAt () t.succ = (dat4 V c).owesAt () t.castSucc from rfl, after4_8]
  rw [show (dat4 V c).Φ t.castSucc = Pipeline.ΦA spec4 c from rfl, PhiA4_eq]
  unfold outAt4
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run4 c (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, H8, HS0⟩
  isplitl [HS0 HR1 Hg]
  · isplitl [HS0 HR1]
    · isplitl [HS0]; · iexact HS0
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t by unfold defs₀; rw [Defs.onTc_tc]]
  exact triple_restated (sound_body4 V c t) rfl .rfl fun _ => .rfl

end

end Cert.KernelIdeal.Gen
end
-- ==== Proof.Run.lean ====
/- The run of the whole kernel: the contents of every buffer between its segments, and its end. -/
module

public import proofs.«01_k».proof.Proof.Gen.KernelIdeal.Regions
public import proofs.«01_k».proof.Proof.Region0
public import proofs.«01_k».proof.Proof.Region1
public import proofs.«01_k».proof.Proof.Region2
public import proofs.«01_k».proof.Proof.Region3
public import proofs.«01_k».proof.Proof.Region4

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references. -/
abbrev atRefs (W : Dev nD → Valuation τ sig (Elt F)) : (c : Dev nD) → (b : Ref sig .tc) → Buf (Elt F) ((c : Thread nD τ).loc b) :=
  fun c b => W c b

/-- The contents at launch. -/
abbrev W0 : Dev nD → Valuation τ sig (Elt F) := fun c b => m ((c : Dev nD), b)
/-- After the host operations before the first launch. -/
def W1 : Dev nD → Valuation τ sig (Elt F) := fun c => StableHlo.after hostOps0 (W0 m c)

/-- After launch 0: its arrays at what its write-backs leave. -/
def W2 : Dev nD → Valuation τ sig (Elt F) := fun c =>
  Pipeline.withArrays spec0 c (W1 m c) fun w => (dat0 (atRefs (W1 m)) c).arrAt w cfg0.N
theorem W2_arr (c : Dev nD) (w : Fin cfg0.W) :
    W2 m c (Proc.devRef .tc (Pipeline.arrRef spec0 w)) = (dat0 (atRefs (W1 m)) c).arrAt w cfg0.N := by
  unfold W2; exact (dat0 (atRefs (W1 m)) c).withArrays_arrAt launch₀0.sharedIn _ (A_eq0 (atRefs (W1 m)) c) w
theorem W2_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (atRefs (W1 m)) c).arrAt_in w (h w rfl) _).trans (A_eq0 (atRefs (W1 m)) c w))
  · exact W2_ne m c r fun w e => hw ⟨w, e⟩
/-- After the host operations that follow launch 0. -/
def W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h

/-- After launch 1: its arrays at what its write-backs leave. -/
def W4 : Dev nD → Valuation τ sig (Elt F) := fun c =>
  Pipeline.withArrays spec1 c (W3 m c) fun w => (dat1 (atRefs (W3 m)) c).arrAt w cfg1.N
theorem W4_arr (c : Dev nD) (w : Fin cfg1.W) :
    W4 m c (Proc.devRef .tc (Pipeline.arrRef spec1 w)) = (dat1 (atRefs (W3 m)) c).arrAt w cfg1.N := by
  unfold W4; exact (dat1 (atRefs (W3 m)) c).withArrays_arrAt launch₀1.sharedIn _ (A_eq1 (atRefs (W3 m)) c) w
theorem W4_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (atRefs (W3 m)) c).arrAt_in w (h w rfl) _).trans (A_eq1 (atRefs (W3 m)) c w))
  · exact W4_ne m c r fun w e => hw ⟨w, e⟩
/-- After the host operations that follow launch 1. -/
def W5 : Dev nD → Valuation τ sig (Elt F) := fun c => StableHlo.after hostOps2 (W4 m c)
theorem W5_of (c : Dev nD) (r : Ref sig .tc) (h : r ∉ hostOps2_W) : W5 m c (Proc.devRef .tc r) = W4 m c (Proc.devRef .tc r) :=
  StableHlo.after_of_writes_sub hostOps2 _ hostOps2_writes h

/-- After launch 2: its arrays at what its write-backs leave. -/
def W6 : Dev nD → Valuation τ sig (Elt F) := fun c =>
  Pipeline.withArrays spec2 c (W5 m c) fun w => (dat2 (atRefs (W5 m)) c).arrAt w cfg2.N
theorem W6_arr (c : Dev nD) (w : Fin cfg2.W) :
    W6 m c (Proc.devRef .tc (Pipeline.arrRef spec2 w)) = (dat2 (atRefs (W5 m)) c).arrAt w cfg2.N := by
  unfold W6; exact (dat2 (atRefs (W5 m)) c).withArrays_arrAt launch₀2.sharedIn _ (A_eq2 (atRefs (W5 m)) c) w
theorem W6_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m c (Proc.devRef .tc r) = W5 m c (Proc.devRef .tc r) := by
  by_cases hw : ∃ w : Fin cfg2.W, Pipeline.arrRef spec2 w = r
  · obtain ⟨w, rfl⟩ := hw
    exact (W6_arr m c w).trans (((dat2 (atRefs (W5 m)) c).arrAt_in w (h w rfl) _).trans (A_eq2 (atRefs (W5 m)) c w))
  · exact W6_ne m c r fun w e => hw ⟨w, e⟩
/-- After the host operations that follow launch 2. -/
def W7 : Dev nD → Valuation τ sig (Elt F) := fun c => StableHlo.after hostOps3 (W6 m c)
theorem W7_of (c : Dev nD) (r : Ref sig .tc) (h : r ∉ hostOps3_W) : W7 m c (Proc.devRef .tc r) = W6 m c (Proc.devRef .tc r) :=
  StableHlo.after_of_writes_sub hostOps3 _ hostOps3_writes h

/-- After launch 3: its arrays at what its write-backs leave. -/
def W8 : Dev nD → Valuation τ sig (Elt F) := fun c =>
  Pipeline.withArrays spec3 c (W7 m c) fun w => (dat3 (atRefs (W7 m)) c).arrAt w cfg3.N
theorem W8_arr (c : Dev nD) (w : Fin cfg3.W) :
    W8 m c (Proc.devRef .tc (Pipeline.arrRef spec3 w)) = (dat3 (atRefs (W7 m)) c).arrAt w cfg3.N := by
  unfold W8; exact (dat3 (atRefs (W7 m)) c).withArrays_arrAt launch₀3.sharedIn _ (A_eq3 (atRefs (W7 m)) c) w
theorem W8_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((dat3 (atRefs (W7 m)) c).arrAt_in w (h w rfl) _).trans (A_eq3 (atRefs (W7 m)) c w))
  · exact W8_ne m c r fun w e => hw ⟨w, e⟩
/-- After the host operations that follow launch 3. -/
def W9 : Dev nD → Valuation τ sig (Elt F) := fun c => StableHlo.after hostOps4 (W8 m c)
theorem W9_of (c : Dev nD) (r : Ref sig .tc) (h : r ∉ hostOps4_W) : W9 m c (Proc.devRef .tc r) = W8 m c (Proc.devRef .tc r) :=
  StableHlo.after_of_writes_sub hostOps4 _ hostOps4_writes h

/-- After launch 4: its arrays at what its write-backs leave. -/
def W10 : Dev nD → Valuation τ sig (Elt F) := fun c =>
  Pipeline.withArrays spec4 c (W9 m c) fun w => (dat4 (atRefs (W9 m)) c).arrAt w cfg4.N
theorem W10_arr (c : Dev nD) (w : Fin cfg4.W) :
    W10 m c (Proc.devRef .tc (Pipeline.arrRef spec4 w)) = (dat4 (atRefs (W9 m)) c).arrAt w cfg4.N := by
  unfold W10; exact (dat4 (atRefs (W9 m)) c).withArrays_arrAt launch₀4.sharedIn _ (A_eq4 (atRefs (W9 m)) c) w
theorem W10_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem W10_of (c : Dev nD) (r : Ref sig .tc) (h : ∀ w : Fin cfg4.W, Pipeline.arrRef spec4 w = r → (cfg4.win w).isOut = false) :
    W10 m c (Proc.devRef .tc r) = W9 m c (Proc.devRef .tc r) := by
  by_cases hw : ∃ w : Fin cfg4.W, Pipeline.arrRef spec4 w = r
  · obtain ⟨w, rfl⟩ := hw
    exact (W10_arr m c w).trans (((dat4 (atRefs (W9 m)) c).arrAt_in w (h w rfl) _).trans (A_eq4 (atRefs (W9 m)) c w))
  · exact W10_ne m c r fun w e => hw ⟨w, e⟩
/-- After the host operations that follow launch 4. -/
def W11 : Dev nD → Valuation τ sig (Elt F) := fun c => StableHlo.after hostOps5 (W10 m c)
theorem W11_of (c : Dev nD) (r : Ref sig .tc) (h : r ∉ hostOps5_W) : W11 m c (Proc.devRef .tc r) = W10 m c (Proc.devRef .tc r) :=
  StableHlo.after_of_writes_sub hostOps5 _ hostOps5_writes h

/-- The references of the arguments. -/
abbrev argRefs : List (Ref sig .tc) := [main_arg0, main_arg1, main_arg2, main_arg3, main_arg4, main_arg5, main_arg6, main_arg7, main_arg8, main_arg9, main_arg10]

/-- The references a launch writes to. -/
abbrev launchW : List (Ref sig .tc) := [main_v47, main_v49, main_v51, main_v53, main_v55]
theorem keeps0 : ∀ w : Fin cfg0.W, (cfg0.win w).isOut = true → Pipeline.arrRef spec0 w = main_v47 := by decide +kernel
theorem keeps1 : ∀ w : Fin cfg1.W, (cfg1.win w).isOut = true → Pipeline.arrRef spec1 w = main_v49 := by decide +kernel
theorem keeps2 : ∀ w : Fin cfg2.W, (cfg2.win w).isOut = true → Pipeline.arrRef spec2 w = main_v51 := by decide +kernel
theorem keeps3 : ∀ w : Fin cfg3.W, (cfg3.win w).isOut = true → Pipeline.arrRef spec3 w = main_v53 := by decide +kernel
theorem keeps4 : ∀ w : Fin cfg4.W, (cfg4.win w).isOut = true → Pipeline.arrRef spec4 w = main_v55 := by decide +kernel

/-- What no launch writes and no later host operation writes keeps its contents from the first launch on. -/
theorem W_late (c : Dev nD) (r : Ref sig .tc) (h : r ∉ launchW) (h' : r ∉ hostOps1_W ++ hostOps2_W ++ hostOps3_W ++ hostOps4_W) :
    W3 m c (Proc.devRef .tc r) = W1 m c (Proc.devRef .tc r) ∧ W5 m c (Proc.devRef .tc r) = W1 m c (Proc.devRef .tc r) ∧ W7 m c (Proc.devRef .tc r) = W1 m c (Proc.devRef .tc r) ∧ W9 m c (Proc.devRef .tc r) = W1 m c (Proc.devRef .tc r)
    ∧ W10 m c (Proc.devRef .tc r) = W1 m c (Proc.devRef .tc r) := by
  simp only [List.mem_append, not_or] at h'
  obtain ⟨⟨⟨h1, h2⟩, h3⟩, h4⟩ := h'
  simp only [launchW, List.mem_cons, not_or, List.not_mem_nil, not_false_eq_true, and_true] at h
  obtain ⟨g0, g1, g2, g3, g4⟩ := h
  have k0 : W2 m c (Proc.devRef .tc r) = W1 m c (Proc.devRef .tc r) := W2_of m c r fun w e => by
    by_contra hn; exact g0 (e.symm.trans (keeps0 w (by simpa using hn)))
  have k1 : W4 m c (Proc.devRef .tc r) = W3 m c (Proc.devRef .tc r) := W4_of m c r fun w e => by
    by_contra hn; exact g1 (e.symm.trans (keeps1 w (by simpa using hn)))
  have k2 : W6 m c (Proc.devRef .tc r) = W5 m c (Proc.devRef .tc r) := W6_of m c r fun w e => by
    by_contra hn; exact g2 (e.symm.trans (keeps2 w (by simpa using hn)))
  have k3 : W8 m c (Proc.devRef .tc r) = W7 m c (Proc.devRef .tc r) := W8_of m c r fun w e => by
    by_contra hn; exact g3 (e.symm.trans (keeps3 w (by simpa using hn)))
  have k4 : W10 m c (Proc.devRef .tc r) = W9 m c (Proc.devRef .tc r) := W10_of m c r fun w e => by
    by_contra hn; exact g4 (e.symm.trans (keeps4 w (by simpa using hn)))
  have e3 := (W3_of m c r h1).trans k0
  have e5 := ((W5_of m c r h2).trans k1).trans e3
  have e7 := ((W7_of m c r h3).trans k2).trans e5
  have e9 := ((W9_of m c r h4).trans k3).trans e7
  exact ⟨e3, e5, e7, e9, k4.trans e9⟩

/-- The arguments end as launched. -/
theorem W11_args (c : Dev nD) : ∀ a ∈ argRefs, W11 m c (Proc.devRef .tc a) = m ((c : Thread nD τ).loc a) := fun a ha =>
  have h : ∀ a ∈ argRefs, (a ∉ hostOps5_W ∧ a ∉ launchW) ∧ a ∉ hostOps1_W ++ hostOps2_W ++ hostOps3_W ++ hostOps4_W ∧ a ∉ hostOps0_W := by
    decide +kernel
  (W11_of m c a (h a ha).1.1).trans (((W_late m c a (h a ha).1.2 (h a ha).2.1).2.2.2.2).trans
    (StableHlo.after_of_writes_sub hostOps0 _ hostOps0_writes (h a ha).2.2))

/-! ## The segments -/

/-- Every pipeline's proof data, each at its launch's entry contents. -/
def pdats : (p : Fin 5) → (c : Dev nD) → Dat τ (Elt F) Unit ℕ (UR sig nD τ) ℕ (Pipeline.pin (pcfgs (F := F)) adm p) c
  | ⟨0, _⟩ => fun c => dat0 (atRefs (W1 m)) c
  | ⟨1, _⟩ => fun c => dat1 (atRefs (W3 m)) c
  | ⟨2, _⟩ => fun c => dat2 (atRefs (W5 m)) c
  | ⟨3, _⟩ => fun c => dat3 (atRefs (W7 m)) c
  | ⟨4, _⟩ => fun c => dat4 (atRefs (W9 m)) c
/-- No core owes another anything. -/
abbrev noLevels : GSem nD τ sig → Finset Unit := fun _ => ∅
abbrev noLevel : GSem nD τ sig → Unit → ℕ := fun _ _ => 0
/-- What rides beside the buffers: the generator register and nothing owed. -/
abbrev beside (c : Dev nD) : sProp 𝕄 := iprop((∃ r, prngReg c r) ∗ ∃ W, owes (c : Thread nD τ) (0 : CellTallies nD τ sig Unit) W)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev lastState (c : Dev nD) : sProp 𝕄 := iprop(StableHlo.held (c : Thread nD τ) (Pipeline.ucRefs τ sig) (W11 m c) ∗ ∃ r, prngReg c r)

set_option backward.isDefEq.respectTransparency.types false in
/-- Launch 0 as a segment: its arrays split out of the unscoped buffers and put back. -/
def reg0 : Pipeline.RegionSeg (pcfgs (F := F)) adm (pdats m) () defs₀ Variants.none noLevels noLevel 0 where
  win := launch₀0.win
  block_pos := launch₀0.block_pos
  stage_whole := launch₀0.stage_whole
  K := PEmpty
  osem k := k.elim
  ho := Pipeline.OwnSemFacts.none _
  hbody c := (body_obligation0 (atRefs (W1 m)) c).loose
  hwaits := Pipeline.hwaits_of_owed_zero _ _ _ _ noLevels noLevel 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (atRefs (W1 m) c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (atRefs (W1 m) c) (A_eq0 (atRefs (W1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (atRefs (W1 m) c) (atRefs (W2 m) c) ((pdats m 0 c).arrAt · cfg0.N) (fun w => (W2_arr m c w).symm) (fun b hb => W2_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: its arrays split out of the unscoped buffers and put back. -/
def reg1 : Pipeline.RegionSeg (pcfgs (F := F)) adm (pdats m) () defs₀ Variants.none noLevels noLevel 1 where
  win := launch₀1.win
  block_pos := launch₀1.block_pos
  stage_whole := launch₀1.stage_whole
  K := PEmpty
  osem k := k.elim
  ho := Pipeline.OwnSemFacts.none _
  hbody c := (body_obligation1 (atRefs (W3 m)) c).loose
  hwaits := Pipeline.hwaits_of_owed_zero _ _ _ _ noLevels noLevel 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (atRefs (W3 m) c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (atRefs (W3 m) c) (A_eq1 (atRefs (W3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (atRefs (W3 m) c) (atRefs (W4 m) c) ((pdats m 1 c).arrAt · cfg1.N) (fun w => (W4_arr m c w).symm) (fun b hb => W4_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: its arrays split out of the unscoped buffers and put back. -/
def reg2 : Pipeline.RegionSeg (pcfgs (F := F)) adm (pdats m) () defs₀ Variants.none noLevels noLevel 2 where
  win := launch₀2.win
  block_pos := launch₀2.block_pos
  stage_whole := launch₀2.stage_whole
  K := PEmpty
  osem k := k.elim
  ho := Pipeline.OwnSemFacts.none _
  hbody c := (body_obligation2 (atRefs (W5 m)) c).loose
  hwaits := Pipeline.hwaits_of_owed_zero _ _ _ _ noLevels noLevel 2 fun _ _ => rfl
  pre c := iprop(StableHlo.held (c : Thread nD τ) (Pipeline.ucRefs τ sig) (W5 m c) ∗ beside c)
  post c := iprop(StableHlo.held (c : Thread nD τ) (Pipeline.ucRefs τ sig) (W6 m c) ∗ beside c)
  X c := iprop(∃ r, prngReg c r)
  Y c := iprop(∃ r, prngReg c r)
  Z c := Pipeline.unscopedRest (Ix := Unit) (Name := ℕ) (U := UR sig nD τ) (Lvl := ℕ) spec2 c (atRefs (W5 m) c)
  hentry c := by
    rw [Pipeline.ownSems0_none]
    have hsplit := Pipeline.arrays_of_unscopedBufs_shared (p := 2) (pcfgs (F := F)) adm (pdats m) launch₀2.win launch₀2.sharedIn launch₀2.arr_whole c
      (fun _ _ => rfl) (atRefs (W5 m) c) (A_eq2 (atRefs (W5 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m) (fun _ _ => rfl)
      (atRefs (W5 m) c) (atRefs (W6 m) c) ((pdats m 2 c).arrAt · cfg2.N) (fun w => (W6_arr m c w).symm) (fun b hb => W6_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment: its arrays split out of the unscoped buffers and put back. -/
def reg3 : Pipeline.RegionSeg (pcfgs (F := F)) adm (pdats m) () defs₀ Variants.none noLevels noLevel 3 where
  win := launch₀3.win
  block_pos := launch₀3.block_pos
  stage_whole := launch₀3.stage_whole
  K := PEmpty
  osem k := k.elim
  ho := Pipeline.OwnSemFacts.none _
  hbody c := (body_obligation3 (atRefs (W7 m)) c).loose
  hwaits := Pipeline.hwaits_of_owed_zero _ _ _ _ noLevels noLevel 3 fun _ _ => rfl
  pre c := iprop(StableHlo.held (c : Thread nD τ) (Pipeline.ucRefs τ sig) (W7 m c) ∗ beside c)
  post c := iprop(StableHlo.held (c : Thread nD τ) (Pipeline.ucRefs τ sig) (W8 m c) ∗ beside c)
  X c := iprop(∃ r, prngReg c r)
  Y c := iprop(∃ r, prngReg c r)
  Z c := Pipeline.unscopedRest (Ix := Unit) (Name := ℕ) (U := UR sig nD τ) (Lvl := ℕ) spec3 c (atRefs (W7 m) c)
  hentry c := by
    rw [Pipeline.ownSems0_none]
    have hsplit := Pipeline.arrays_of_unscopedBufs_shared (p := 3) (pcfgs (F := F)) adm (pdats m) launch₀3.win launch₀3.sharedIn launch₀3.arr_whole c
      (fun _ _ => rfl) (atRefs (W7 m) c) (A_eq3 (atRefs (W7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m) (fun _ _ => rfl)
      (atRefs (W7 m) c) (atRefs (W8 m) c) ((pdats m 3 c).arrAt · cfg3.N) (fun w => (W8_arr m c w).symm) (fun b hb => W8_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 as a segment: its arrays split out of the unscoped buffers and put back. -/
def reg4 : Pipeline.RegionSeg (pcfgs (F := F)) adm (pdats m) () defs₀ Variants.none noLevels noLevel 4 where
  win := launch₀4.win
  block_pos := launch₀4.block_pos
  stage_whole := launch₀4.stage_whole
  K := PEmpty
  osem k := k.elim
  ho := Pipeline.OwnSemFacts.none _
  hbody c := (body_obligation4 (atRefs (W9 m)) c).loose
  hwaits := Pipeline.hwaits_of_owed_zero _ _ _ _ noLevels noLevel 4 fun _ _ => rfl
  pre c := iprop(StableHlo.held (c : Thread nD τ) (Pipeline.ucRefs τ sig) (W9 m c) ∗ beside c)
  post c := iprop(StableHlo.held (c : Thread nD τ) (Pipeline.ucRefs τ sig) (W10 m c) ∗ beside c)
  X c := iprop(∃ r, prngReg c r)
  Y c := iprop(∃ r, prngReg c r)
  Z c := Pipeline.unscopedRest (Ix := Unit) (Name := ℕ) (U := UR sig nD τ) (Lvl := ℕ) spec4 c (atRefs (W9 m) c)
  hentry c := by
    rw [Pipeline.ownSems0_none]
    have hsplit := Pipeline.arrays_of_unscopedBufs_shared (p := 4) (pcfgs (F := F)) adm (pdats m) launch₀4.win launch₀4.sharedIn launch₀4.arr_whole c
      (fun _ _ => rfl) (atRefs (W9 m) c) (A_eq4 (atRefs (W9 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m) (fun _ _ => rfl)
      (atRefs (W9 m) c) (atRefs (W10 m) c) ((pdats m 4 c).arrAt · cfg4.N) (fun w => (W10_arr m c w).symm) (fun b hb => W10_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The kernel's segments in order. -/
abbrev segments : List (Pipeline.Seg (pcfgs (F := F)) adm (pdats m) () defs₀ Variants.none noLevels noLevel) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .host (hostSeg hostOps3 hostOps3_sub hostOps3_fresh (W6 m)),
    .region (reg3 m),
    .host (hostSeg hostOps4 hostOps4_sub hostOps4_fresh (W8 m)),
    .region (reg4 m),
    .host (hostSeg hostOps5 hostOps5_sub hostOps5_fresh (W10 m)) ]
theorem main_run (c : Dev nD) : main (F := F) c = Pipeline.Seg.run (segments m) := (main_chain c).trans (by chain_rfl)

set_option backward.isDefEq.respectTransparency.types false in
/-- The kernel ends, on every core, with every unscoped buffer at the contents `W11` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W11 m c b) ∧ r.2.sem = fun _ => 0) :=
  Pipeline.θ_run_regions_kit_sems (pcfgs (F := F)) adm (pdats m) () cellOf_inj emb₁ defs₀ Variants.none noLevels noLevel m ρ main (segments m)
    (fun c Q => by rw [main_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach noLevels noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h hz => ⟨h, funext fun g => hz g (.inr (regions_no_unscoped g.2))⟩)

/-- The frame: the arguments end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s h => ⟨fun c =>
    have k : ∀ a ∈ argRefs, s.2.mem ((c.tc : Thread nD τ).loc a) = m ((c.tc : Thread nD τ).loc a) := fun a ha =>
      (h.1 c _ (mem_uc a ((by decide +kernel : ∀ a ∈ argRefs, ¬ (Proc.devRef .tc a : DevRef τ sig).isScoped) a ha))).trans (W11_args m c a ha)
    ⟨k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel)⟩, h.2⟩) (run_all m ρ)

end Cert.KernelIdeal.Gen

end
-- ==== Proof.Transfer.lean ====
/- The printed kernel and its idealized print are one program up to names: the run of the one is the run of the other. -/
module

public import proofs.«01_k».proof.Kernel
public import proofs.«01_k».proof.Proof.Gen.Kernel
public import proofs.«01_k».proof.Proof.Run

@[expose] public section

set_option maxRecDepth 100000
set_option maxHeartbeats 10000000

noncomputable section

namespace Rpn

open Idealize.ShloMosaic Idealize.ShloMosaic.TcCoe Idealize.SL.Sem

variable {F : FTy → Type} [FloatOps F]

theorem main_same (c : Dev Cert.Kernel.nD) : Cert.Kernel.main (F := F) c = Cert.KernelIdeal.main (F := F) c := by chain_rfl

theorem defs_same : Cert.Kernel.defs (F := F) = Cert.KernelIdeal.defs (F := F) := by chain_rfl

/-- The frame of the printed kernel. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) := by
  have hm : Cert.Kernel.main (F := F) = Cert.KernelIdeal.main (F := F) := funext main_same
  rw [hm, defs_same]
  exact Cert.KernelIdeal.Gen.run_frame m ρ

end Rpn

end
-- ==== Proof.Table.lean ====
/- The table of ones and zeros the kernel spreads its rows with: entry (a, q, j) is a one exactly where q = 3·j + a. -/
module

public import proofs.«01_k».proof.KernelIdeal
public import Idealize.ShloMosaic.Lib.Pointwise
public import Mathlib.Tactic.FinCases

@[expose] public section

set_option maxRecDepth 100000

noncomputable section

namespace Cert.KernelIdeal

open Idealize.ShloMosaic

/-- A row of 128 entries, spelled by its entries. -/
abbrev rowM (f : ℕ → BitVec 16) (n : ℕ) : BitVec 16 := match n with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

theorem rowM_at (f : ℕ → BitVec 16) (n : Fin 128) : rowM f n.val = f n.val := by
  fin_cases n <;> rfl

/-- The entry at row `r` of the 1152 rows and column `j`. -/
def bit (r j : ℕ) : BitVec 16 := bif r % 384 == 3 * j + r / 384 then 0x3F80#16 else 0#16

set_option maxHeartbeats 2000000 in
theorem table_row (i : ℕ) (d : Fin 9) (e : Fin 128) (hd : i / 16384 = d.val) (he : i / 128 % 128 = e.val) :
    lit1t i = rowM (bit (128 * d.val + e.val)) (i % 128) := by
  unfold lit1t
  rw [hd]
  fin_cases d <;> dsimp only <;> simp only [] <;>
    (first | unfold lit1t1_0 | unfold lit1t1_1 | unfold lit1t1_2 | unfold lit1t1_3 | unfold lit1t1_4 | unfold lit1t1_5 | unfold lit1t1_6 | unfold lit1t1_7 | unfold lit1t1_8) <;>
    rw [he] <;> fin_cases e <;> rfl

theorem table_lit (x : Fin 147456) : lit1 x = lit1t x.val := by
  cases x; rfl

theorem table_at (i : ℕ) (hi : i < 147456) : lit1t i = if i / 128 % 384 = 3 * (i % 128) + i / 128 / 384 then 0x3F80#16 else 0#16 := by
  rw [table_row i ⟨i / 16384, by omega⟩ ⟨i / 128 % 128, by omega⟩ rfl rfl]
  refine (rowM_at _ ⟨i % 128, by omega⟩).trans ?_
  show bit (128 * (i / 16384) + i / 128 % 128) (i % 128) = _
  rw [show 128 * (i / 16384) + i / 128 % 128 = i / 128 by omega]
  unfold bit
  by_cases h : i / 128 % 384 = 3 * (i % 128) + i / 128 / 384
  · rw [if_pos h, h]; simp
  · rw [if_neg h]
    rw [show (i / 128 % 384 == 3 * (i % 128) + i / 128 / 384) = false from beq_eq_false_iff_ne.2 h]; rfl

end Cert.KernelIdeal
end
-- ==== Proof.OneHot.lean ====
/- The table of ones and zeros the kernel spreads its rows with, over the extended reals. -/
module

public import proofs.«01_k».proof.Proof.Table

@[expose] public section

set_option maxRecDepth 16384

noncomputable section

namespace Cert.KernelIdeal

open Idealize.ShloMosaic

/-- The table as the kernel holds it. -/
theorem spread_table (a : Fin 3) (q : Fin 384) (j : Fin 128) :
    (FloatOps.ofBits .bf16 (lit1 (S3x384x128.rowMajor (ix3 a q j))) : Ideal .bf16) = (if q.val = 3 * j.val + a.val then (1 : EReal) else 0) := by
  have ha := a.isLt
  have hq := q.isLt
  have hj := j.isLt
  have hv : (S3x384x128.rowMajor (ix3 a q j)).val = (a.val * 384 + q.val) * 128 + j.val := by
    exact Shape.rowMajor_val_three _
  generalize S3x384x128.rowMajor (ix3 a q j) = x at hv ⊢
  have hx : lit1 x = if x.val / 128 % 384 = 3 * (x.val % 128) + x.val / 128 / 384 then 0x3F80#16 else 0#16 := (table_lit x).trans (table_at x.val x.isLt)
  rw [hx, hv]
  have h1 : ((a.val * 384 + q.val) * 128 + j.val) / 128 = a.val * 384 + q.val := by
    rw [Nat.mul_comm, Nat.mul_add_div (by decide), Nat.div_eq_of_lt hj, Nat.add_zero]
  have h2 : ((a.val * 384 + q.val) * 128 + j.val) % 128 = j.val := (Nat.mul_add_mod_self_right _ _ _).trans (Nat.mod_eq_of_lt hj)
  have h3 : (a.val * 384 + q.val) / 384 = a.val := by
    rw [Nat.mul_comm, Nat.mul_add_div (by decide), Nat.div_eq_of_lt hq, Nat.add_zero]
  have h4 : (a.val * 384 + q.val) % 384 = q.val := (Nat.mul_add_mod_self_right _ _ _).trans (Nat.mod_eq_of_lt hq)
  rw [h1, h2, h3, h4]
  by_cases h : q.val = 3 * j.val + a.val
  · rw [if_pos h, if_pos h]
    show Ideal.ofBits .bf16 0x3F80#16 = 1
    pointwise
  · rw [if_neg h, if_neg h]
    show Ideal.ofBits .bf16 0x0000#16 = 0
    pointwise

end Cert.KernelIdeal
end
-- ==== Proof.Spec.lean ====
/- What the head computes, over the extended reals: the 3×3 filter of a zero-bordered map, its activation, and one column of
   a 1×1 product. Both programs are read into these. -/
module

public import Idealize.ShloMosaic.Lib.Pipeline.ValueKit
public import Idealize.ShloMosaic.Lib.Pointwise

@[expose] public section

noncomputable section

namespace Rpn

open Idealize.ShloMosaic
open scoped BigOperators

variable {s : ℕ}

/-- The map with a border of zeros, at bordered coordinates. -/
def padS (X : (⟨4, ![2, s, s, 256]⟩ : Shape).Idx → EReal) (b : Fin 2) (y x : ℕ) (c : Fin 256) : EReal :=
  if h : (1 ≤ y ∧ y ≤ s) ∧ (1 ≤ x ∧ x ≤ s) then X (ix4 b ⟨y - 1, by omega⟩ ⟨x - 1, by omega⟩ c) else 0

/-- One position of the filter. -/
def tapS (X : (⟨4, ![2, s, s, 256]⟩ : Shape).Idx → EReal) (W : (⟨4, ![3, 3, 256, 512]⟩ : Shape).Idx → EReal) (b : Fin 2) (y x : ℕ)
    (h : Fin 512) (i j : Fin 3) : EReal :=
  ∑ c : Fin 256, padS X b (y + i.val) (x + j.val) c * W (ix4 i j c h)

/-- The filter's nine positions in the order they are added. -/
def convS (X : (⟨4, ![2, s, s, 256]⟩ : Shape).Idx → EReal) (W : (⟨4, ![3, 3, 256, 512]⟩ : Shape).Idx → EReal) (b : Fin 2) (y x : ℕ)
    (h : Fin 512) : EReal :=
  tapS X W b y x h 0 0 + tapS X W b y x h 0 1 + tapS X W b y x h 0 2 + tapS X W b y x h 1 0 + tapS X W b y x h 1 1
    + tapS X W b y x h 1 2 + tapS X W b y x h 2 0 + tapS X W b y x h 2 1 + tapS X W b y x h 2 2

/-- The activated map shared by the two heads. -/
def sharedS (X : (⟨4, ![2, s, s, 256]⟩ : Shape).Idx → EReal) (W : (⟨4, ![3, 3, 256, 512]⟩ : Shape).Idx → EReal)
    (bs : (⟨1, ![512]⟩ : Shape).Idx → EReal) (b : Fin 2) (y x : ℕ) (h : Fin 512) : EReal :=
  max (convS X W b y x h + bs (ix1 h)) 0

/-- One column of a head: the activated values against the column's weights, plus its bias. -/
def scoreS (v : Fin 512 → EReal) (w : Fin 512 → EReal) (c : EReal) : EReal := (∑ h : Fin 512, v h * w h) + c

end Rpn
end
-- ==== Proof.BlockValue.lean ====
/- The entries of what a grid point leaves in its output window, over the extended reals: each output row is one anchor's
   eight numbers, read off the filter's sum at the anchor's position. -/
module

public import proofs.«01_k».proof.Proof.Spec
public import proofs.«01_k».proof.Proof.Block
public import Idealize.ShloMosaic.Lib.MatmulPlain

@[expose] public section

set_option maxRecDepth 16384

noncomputable section

namespace Rpn

open Idealize.ShloMosaic
open scoped BigOperators

/-- How a level's sizes hang together. -/
structure Sizes (T wp R M s th n nc O : ℕ) : Prop where
  hT : T = th + 3
  hR : R = T * wp
  hM : M = th * wp
  hn : n = th * s
  hc : n = 128 * nc
  hO : O = 3 * n
  hs : s + 2 ≤ wp

theorem sizes0 : Sizes 11 264 2904 2112 256 8 2048 16 6144 := ⟨rfl, rfl, rfl, rfl, rfl, rfl, by decide⟩
theorem sizes1 : Sizes 19 136 2584 2176 128 16 2048 16 6144 := ⟨rfl, rfl, rfl, rfl, rfl, rfl, by decide⟩
theorem sizes2 : Sizes 35 72 2520 2304 64 32 2048 16 6144 := ⟨rfl, rfl, rfl, rfl, rfl, rfl, by decide⟩
theorem sizes3 : Sizes 35 40 1400 1280 32 32 1024 8 3072 := ⟨rfl, rfl, rfl, rfl, rfl, rfl, by decide⟩
theorem sizes4 : Sizes 19 24 456 384 16 16 256 2 768 := ⟨rfl, rfl, rfl, rfl, rfl, rfl, by decide⟩

theorem zero_at (t : Shape) (j : t.Idx) : constant (F := Ideal) t .f32 0x00000000#32 j = (0 : EReal) := by
  pointwise

theorem tap_at {R M : ℕ} (A : FVec Ideal ⟨2, ![R, 256]⟩ .bf16) (o : ℕ) (h : Shape.Slices ⟨2, ![R, 256]⟩ ![o, 0] ⟨2, ![M, 256]⟩)
    (w : Vec Ideal ⟨4, ![1, 1, 256, 512]⟩ .bf16) (m : Fin M) (j : Fin 512) (q : Fin R) (hq : q.val = o + m.val) :
    tap A o h w (ix2 m j) = ∑ c : Fin 256, A (ix2 q c) * w (ix4 0 0 c j) := by
  unfold tap
  refine (Ideal.matmul_plain_apply none _ _ _ m j).trans ?_
  rw [zero_at, zero_add]
  refine Finset.sum_congr rfl fun c _ => congrArg₂ (· * ·) ?_ ?_
  · exact extractStridedSlice_apply _ A h (ix2 m c) (ix2 q c) (fun a => by
      match a with
      | ⟨0, _⟩ => exact hq
      | ⟨1, _⟩ => show c.val = 0 + c.val; omega)
  · exact shapeCast_apply w _ (ix2 c j) (ix4 0 0 c j) (by
      rw [Shape.rowMajor_val_four, Shape.rowMajor_val_two]
      show ((0 * 1 + 0) * 256 + c.val) * 512 + j.val = c.val * 512 + j.val
      omega)

section
variable {T wp R M s th n nc O : ℕ} (hf : Fits T wp R M s th n nc O) (hz : Sizes T wp R M s th n nc O)

theorem place_lt {a b y x : ℕ} (hy : y < a) (hx : x < b) : y * b + x < a * b :=
  calc y * b + x < y * b + b := by omega
    _ = (y + 1) * b := by ring
    _ ≤ a * b := Nat.mul_le_mul_right _ hy

include hz in
theorem conv_at (slab : FVec Ideal ⟨3, ![T, wp, 256]⟩ .bf16) (w : Fin 3 → Fin 3 → Vec Ideal ⟨4, ![1, 1, 256, 512]⟩ .bf16)
    (X : (⟨4, ![2, s, s, 256]⟩ : Shape).Idx → EReal) (W : (⟨4, ![3, 3, 256, 512]⟩ : Shape).Idx → EReal) (b : Fin 2) (i0 : ℕ)
    (hslab : ∀ (yy : Fin T) (xx : Fin wp) (c : Fin 256), yy.val ≤ th + 1 → xx.val ≤ s + 1 → slab (ix3 yy xx c) = padS X b (i0 + yy.val) xx.val c)
    (hw : ∀ (i j : Fin 3) (c : Fin 256) (h : Fin 512), w i j (ix4 0 0 c h) = W (ix4 i j c h))
    (y x : ℕ) (hy : y < th) (hx : x < s) (m : Fin M) (hm : m.val = y * wp + x) (h : Fin 512) :
    conv hf slab w (ix2 m h) = convS X W b (i0 + y) x h := by
  have ht : ∀ i j : Fin 3, tap (shapeCast ⟨2, ![R, 256]⟩ slab hf.sc0) (i.val * wp + j.val) (hf.sl i j) (w i j) (ix2 m h) = tapS X W b (i0 + y) x h i j := fun i j => by
    have hT := hz.hT
    have hs := hz.hs
    have hr : i.val * wp + j.val + m.val = (y + i.val) * wp + (x + j.val) := by rw [hm]; ring
    have hl : i.val * wp + j.val + m.val < R := by
      rw [hr, hz.hR]
      exact place_lt (by omega) (by omega)
    rw [tap_at _ _ _ _ m h ⟨i.val * wp + j.val + m.val, hl⟩ rfl]
    refine Finset.sum_congr rfl fun c _ => congrArg₂ (· * ·) ?_ (hw i j c h)
    rw [shapeCast_apply slab hf.sc0 (ix2 (⟨i.val * wp + j.val + m.val, hl⟩ : Fin R) c) (ix3 (⟨y + i.val, by omega⟩ : Fin T) (⟨x + j.val, by omega⟩ : Fin wp) c) (by
      rw [Shape.rowMajor_val_three, Shape.rowMajor_val_two]
      show ((y + i.val) * wp + (x + j.val)) * 256 + c.val = (i.val * wp + j.val + m.val) * 256 + c.val
      rw [hr])]
    rw [hslab _ _ c (by show y + i.val ≤ th + 1; omega) (by show x + j.val ≤ s + 1; omega)]
    show padS X b (i0 + (y + i.val)) (x + j.val) c = _
    rw [Nat.add_assoc]
  exact congrArg₂ (· + ·) (congrArg₂ (· + ·) (congrArg₂ (· + ·) (congrArg₂ (· + ·) (congrArg₂ (· + ·) (congrArg₂ (· + ·) (congrArg₂ (· + ·)
    (congrArg₂ (· + ·) (ht 0 0) (ht 0 1)) (ht 0 2)) (ht 1 0)) (ht 1 1)) (ht 1 2)) (ht 2 0)) (ht 2 1)) (ht 2 2)

theorem row_at {N : ℕ} (hc : Shape.ShapeCasts ⟨2, ![1, N]⟩ ⟨2, ![1, N]⟩) (hb : Shape.Broadcasts ⟨2, ![1, N]⟩ ⟨2, ![M, N]⟩)
    (c : (⟨2, ![1, N]⟩ : Shape).Idx → EReal) (m : Fin M) (k : Fin N) :
    broadcastTo ⟨2, ![M, N]⟩ (shapeCast ⟨2, ![1, N]⟩ c hc) hb (ix2 m k) = c (ix2 0 k) := by
  rw [shapeCast_self]
  exact broadcastTo_apply c hb (ix2 m k) (ix2 0 k) (fun a => by
    match a with
    | ⟨0, _⟩ => rfl
    | ⟨1, _⟩ =>
      show k.val = if N = 1 then 0 else k.val
      have := k.isLt
      split_ifs <;> omega)

include hz in
theorem joined_at (acc : FVec Ideal ⟨2, ![M, 512]⟩ .f32) (b : Vec Ideal ⟨2, ![1, 512]⟩ .f32) (wa : Vec Ideal ⟨2, ![512, 24]⟩ .f32)
    (ba : Vec Ideal ⟨2, ![1, 24]⟩ .f32) (p : Fin n) (m : Fin M) (hm : m.val = p.val / s * wp + p.val % s) (col : Fin 24) :
    joined hf acc b wa ba (ix2 p col) = scoreS (fun h => max (acc (ix2 m h) + b (ix2 0 h)) 0) (fun h => wa (ix2 h col)) (ba (ix2 0 col)) := by
  have hp : p.val < th * s := lt_of_lt_of_eq p.isLt hz.hn
  have hs0 : 0 < s := by rcases Nat.eq_zero_or_pos s with rfl | h0 <;> omega
  have hx : p.val % s < s := Nat.mod_lt _ hs0
  have hy : p.val / s < th := Nat.div_lt_of_lt_mul (by rw [Nat.mul_comm]; exact hp)
  have hws := hz.hs
  unfold joined
  rw [shapeCast_apply _ hf.sc2 (ix2 p col) (ix3 (⟨p.val / s, hy⟩ : Fin th) (⟨p.val % s, hx⟩ : Fin s) col) (by
    rw [Shape.rowMajor_val_three, Shape.rowMajor_val_two]
    show (p.val / s * s + p.val % s) * 24 + col.val = p.val * 24 + col.val
    rw [Nat.div_add_mod'])]
  rw [extractStridedSlice_apply _ _ hf.sl1 (ix3 (⟨p.val / s, hy⟩ : Fin th) (⟨p.val % s, hx⟩ : Fin s) col)
    (ix3 (⟨p.val / s, hy⟩ : Fin th) (⟨p.val % s, by omega⟩ : Fin wp) col) (fun a => by
      match a with
      | ⟨0, _⟩ => show p.val / s = 0 + p.val / s; omega
      | ⟨1, _⟩ => show p.val % s = 0 + p.val % s; omega
      | ⟨2, _⟩ => show col.val = 0 + col.val; omega)]
  rw [shapeCast_apply _ hf.sc1 (ix3 (⟨p.val / s, hy⟩ : Fin th) (⟨p.val % s, by omega⟩ : Fin wp) col) (ix2 m col) (by
    rw [Shape.rowMajor_val_three, Shape.rowMajor_val_two]
    show m.val * 24 + col.val = (p.val / s * wp + p.val % s) * 24 + col.val
    rw [hm])]
  refine congrArg₂ (· + ·) ?_ (row_at (by decide) hf.b2 ba m col)
  refine (Ideal.matmul_plain_apply none _ _ _ m col).trans ?_
  rw [zero_at, zero_add]
  refine Finset.sum_congr rfl fun h _ => congrArg₂ (· * ·) ?_ (congrFun (shapeCast_self wa _) _)
  refine congrArg₂ max (congrArg₂ (· + ·) rfl (row_at (by decide) hf.b1 b m h)) ?_
  pointwise

/-- The columns that pass through the logistic function. -/
def squash (k : ℕ) (x : EReal) : EReal := if k = 2 ∨ k = 3 then Ideal.logistic x else x

theorem squashed_at (v : FVec Ideal ⟨2, ![n, 24]⟩ .f32) (p : Fin n) (col : Fin 24) :
    squashed hf v (ix2 p col) = squash (col.val % 8) (v (ix2 p col)) := by
  have hc := col.isLt
  have hs : ∀ (o w : ℕ) (h : Shape.Slices ⟨2, ![n, 24]⟩ ![0, o] ⟨2, ![n, w]⟩) (h0 : o ≤ col.val) (h1 : col.val - o < w),
      extractStridedSlice ⟨2, ![n, w]⟩ ![0, o] v h (ix2 p ⟨col.val - o, h1⟩) = v (ix2 p col) := fun o w h h0 h1 =>
    extractStridedSlice_apply _ v h _ (ix2 p col) (fun a => by
      match a with
      | ⟨0, _⟩ => show p.val = 0 + p.val; omega
      | ⟨1, _⟩ => show col.val = o + (col.val - o); omega)
  have hp : ∀ (k o w : ℕ) (x : (⟨2, ![n, w]⟩ : Shape).Idx → EReal) (L : List ((s : Shape) × (s.Idx → EReal))) (hL : Shape.Concatenates (L.map (·.1)) ⟨2, ![n, 24]⟩ 1)
      (hk : k < L.length) (hx : L[k] = ⟨⟨2, ![n, w]⟩, x⟩)
      (hpre : (((L.take k).map (·.1)).map fun s => if h : s.rank = (⟨2, ![n, 24]⟩ : Shape).rank then s.size ((1 : Fin 2).cast h.symm) else 0).sum = o)
      (h0 : o ≤ col.val) (h1 : col.val - o < w), concatenate ⟨2, ![n, 24]⟩ 1 L hL (ix2 p col) = x (ix2 p ⟨col.val - o, h1⟩) :=
    fun k o w x L hL hk hx hpre h0 h1 => concatenate_apply_piece (t := ⟨2, ![n, 24]⟩) 1 L hL (ix2 p col) k hk _ x hx rfl o hpre (ix2 p ⟨col.val - o, h1⟩)
      (fun b hb => by
        match b with
        | ⟨0, _⟩ => rfl
        | ⟨1, _⟩ => exact absurd rfl hb)
      (by show o + (col.val - o) = col.val; omega)
  rw [show squashed hf v (ix2 p col) = concatenate (α := EReal) ⟨2, ![n, 24]⟩ 1
    [⟨⟨2, ![n, 2]⟩, extractStridedSlice ⟨2, ![n, 2]⟩ ![0, 0] v hf.p0⟩, ⟨⟨2, ![n, 2]⟩, logistic (extractStridedSlice ⟨2, ![n, 2]⟩ ![0, 2] v hf.p2)⟩,
     ⟨⟨2, ![n, 6]⟩, extractStridedSlice ⟨2, ![n, 6]⟩ ![0, 4] v hf.p4⟩, ⟨⟨2, ![n, 2]⟩, logistic (extractStridedSlice ⟨2, ![n, 2]⟩ ![0, 10] v hf.p10)⟩,
     ⟨⟨2, ![n, 6]⟩, extractStridedSlice ⟨2, ![n, 6]⟩ ![0, 12] v hf.p12⟩, ⟨⟨2, ![n, 2]⟩, logistic (extractStridedSlice ⟨2, ![n, 2]⟩ ![0, 18] v hf.p18)⟩,
     ⟨⟨2, ![n, 4]⟩, extractStridedSlice ⟨2, ![n, 4]⟩ ![0, 20] v hf.p20⟩] hf.cc (ix2 p col) from rfl]
  by_cases c1 : col.val < 2
  · refine Eq.trans (hp 0 0 2 _ _ _ (by show 0 < 7; decide) rfl rfl (by omega) (by omega)) ((hs 0 2 hf.p0 (by omega) (by omega)).trans ?_)
    exact (if_neg (by omega)).symm
  by_cases c2 : col.val < 4
  · refine Eq.trans (hp 1 2 2 _ _ _ (by show 1 < 7; decide) rfl rfl (by omega) (by omega)) ?_
    exact (congrArg Ideal.logistic (hs 2 2 hf.p2 (by omega) (by omega))).trans (if_pos (by omega)).symm
  by_cases c3 : col.val < 10
  · refine Eq.trans (hp 2 4 6 _ _ _ (by show 2 < 7; decide) rfl rfl (by omega) (by omega)) ((hs 4 6 hf.p4 (by omega) (by omega)).trans ?_)
    exact (if_neg (by omega)).symm
  by_cases c4 : col.val < 12
  · refine Eq.trans (hp 3 10 2 _ _ _ (by show 3 < 7; decide) rfl rfl (by omega) (by omega)) ?_
    exact (congrArg Ideal.logistic (hs 10 2 hf.p10 (by omega) (by omega))).trans (if_pos (by omega)).symm
  by_cases c5 : col.val < 18
  · refine Eq.trans (hp 4 12 6 _ _ _ (by show 4 < 7; decide) rfl rfl (by omega) (by omega)) ((hs 12 6 hf.p12 (by omega) (by omega)).trans ?_)
    exact (if_neg (by omega)).symm
  by_cases c6 : col.val < 20
  · refine Eq.trans (hp 5 18 2 _ _ _ (by show 5 < 7; decide) rfl rfl (by omega) (by omega)) ?_
    exact (congrArg Ideal.logistic (hs 18 2 hf.p18 (by omega) (by omega))).trans (if_pos (by omega)).symm
  · refine Eq.trans (hp 6 20 4 _ _ _ (by show 6 < 7; decide) rfl rfl (by omega) (by omega)) ((hs 20 4 hf.p20 (by omega) (by omega)).trans ?_)
    exact (if_neg (by omega)).symm

/-- One of the three spreading matrices: a one where the row is three times the column plus the matrix's number. -/
def Spreads (p : Fin 3 → Vec Ideal ⟨3, ![1, 384, 128]⟩ .bf16) : Prop :=
  ∀ (a : Fin 3) (q : Fin 384) (j : Fin 128), p a (ix3 0 q j) = if q.val = 3 * j.val + a.val then (1 : EReal) else 0

theorem spread1_at (p : Fin 3 → Vec Ideal ⟨3, ![1, 384, 128]⟩ .bf16) (hp : Spreads p) (a : Fin 3)
    (hc : Shape.Slices ⟨2, ![128, 24]⟩ ![0, 8 * a.val] ⟨2, ![128, 8]⟩) (x : FVec Ideal ⟨2, ![128, 24]⟩ .bf16) (q : Fin 384) (k : Fin 8) :
    spread1 (8 * a.val) hc (p a) x (ix2 q k)
      = if q.val % 3 = a.val then x (ix2 ⟨q.val / 3, by omega⟩ ⟨8 * a.val + k.val, by omega⟩) else (0 : EReal) := by
  unfold spread1
  refine (Ideal.matmul_plain_apply none _ _ _ q k).trans ?_
  rw [zero_at, zero_add]
  have hl : ∀ j : Fin 128, shapeCast ⟨2, ![384, 128]⟩ (p a) (by decide) (ix2 q j) = if q.val = 3 * j.val + a.val then (1 : EReal) else 0 := fun j => by
    rw [shapeCast_apply (p a) _ (ix2 q j) (ix3 0 q j) (by
      rw [Shape.rowMajor_val_three, Shape.rowMajor_val_two]
      show (0 * 384 + q.val) * 128 + j.val = q.val * 128 + j.val
      omega)]
    exact hp a q j
  have hr : ∀ j : Fin 128, extractStridedSlice ⟨2, ![128, 8]⟩ ![0, 8 * a.val] x hc (ix2 j k) = x (ix2 j ⟨8 * a.val + k.val, by omega⟩) := fun j =>
    extractStridedSlice_apply _ x hc (ix2 j k) _ (fun b => by
      match b with
      | ⟨0, _⟩ => show j.val = 0 + j.val; omega
      | ⟨1, _⟩ => rfl)
  have he : ∀ j : Fin 128, shapeCast ⟨2, ![384, 128]⟩ (p a) (by decide) (ix2 q j) * extractStridedSlice ⟨2, ![128, 8]⟩ ![0, 8 * a.val] x hc (ix2 j k)
      = if q.val = 3 * j.val + a.val then x (ix2 j ⟨8 * a.val + k.val, by omega⟩) else (0 : EReal) := fun j => by
    rw [hl j, hr j]
    split_ifs
    · exact one_mul _
    · exact zero_mul _
  refine (Finset.sum_congr rfl fun j _ => he j).trans ?_
  have ha := a.isLt
  split_ifs with h
  · rw [Finset.sum_eq_single (⟨q.val / 3, by omega⟩ : Fin 128)]
    · exact if_pos (by show q.val = 3 * (q.val / 3) + a.val; omega)
    · intro j _ hj
      exact if_neg fun h' => hj (Fin.ext (by show j.val = q.val / 3; omega))
    · exact fun h' => absurd (Finset.mem_univ _) h'
  · exact Finset.sum_eq_zero fun j _ => if_neg fun h' => h (by omega)

theorem spread_at (p : Fin 3 → Vec Ideal ⟨3, ![1, 384, 128]⟩ .bf16) (hp : Spreads p) (x : FVec Ideal ⟨2, ![128, 24]⟩ .bf16) (q : Fin 384) (k : Fin 8) :
    spread p x (ix2 q k) = x (ix2 ⟨q.val / 3, by omega⟩ ⟨8 * (q.val % 3) + k.val, by omega⟩) := by
  have h0 := spread1_at p hp 0 (by decide) x q k
  have h1 := spread1_at p hp 1 (by decide) x q k
  have h2 := spread1_at p hp 2 (by decide) x q k
  refine (congrArg₂ (· + ·) (congrArg₂ (· + ·) h0 h1) h2).trans ?_
  have hq : q.val % 3 < 3 := Nat.mod_lt _ (by decide)
  have hk := k.isLt
  have hcol : ∀ a : Fin 3, q.val % 3 = a.val → x (ix2 ⟨q.val / 3, by omega⟩ ⟨8 * a.val + k.val, by omega⟩)
      = x (ix2 ⟨q.val / 3, by omega⟩ ⟨8 * (q.val % 3) + k.val, by omega⟩) := fun a ha => congrArg (fun z => x (ix2 _ z)) (Fin.ext (by show 8 * a.val + k.val = 8 * (q.val % 3) + k.val; omega))
  rcases (by omega : q.val % 3 = 0 ∨ q.val % 3 = 1 ∨ q.val % 3 = 2) with h | h | h
  · rw [if_pos (show q.val % 3 = (0 : Fin 3).val from h), if_neg (show ¬ q.val % 3 = (1 : Fin 3).val by rw [h]; decide), if_neg (show ¬ q.val % 3 = (2 : Fin 3).val by rw [h]; decide), add_zero, add_zero]
    exact hcol 0 h
  · rw [if_neg (show ¬ q.val % 3 = (0 : Fin 3).val by rw [h]; decide), if_pos (show q.val % 3 = (1 : Fin 3).val from h), if_neg (show ¬ q.val % 3 = (2 : Fin 3).val by rw [h]; decide), add_zero, zero_add]
    exact hcol 1 h
  · rw [if_neg (show ¬ q.val % 3 = (0 : Fin 3).val by rw [h]; decide), if_neg (show ¬ q.val % 3 = (1 : Fin 3).val by rw [h]; decide), if_pos (show q.val % 3 = (2 : Fin 3).val from h), add_zero, zero_add]
    exact hcol 2 h

include hz in
theorem stacked_at (p : Fin 3 → Vec Ideal ⟨3, ![1, 384, 128]⟩ .bf16) (hp : Spreads p) (v : FVec Ideal ⟨2, ![n, 24]⟩ .bf16) (r : Fin O) (k : Fin 8)
    (hr : r.val / 3 < n) :
    stacked hf p v (ix4 0 0 r k) = v (ix2 ⟨r.val / 3, hr⟩ ⟨8 * (r.val % 3) + k.val, by omega⟩) := by
  have hc := hz.hc
  have hq : r.val / 384 < nc := by omega
  unfold stacked
  rw [shapeCast_apply _ hf.sc3 (ix4 0 0 r k) (ix2 r k) (by
    rw [Shape.rowMajor_val_four, Shape.rowMajor_val_two]
    show r.val * 8 + k.val = ((0 * 1 + 0) * O + r.val) * 8 + k.val
    simp)]
  rw [concatenate_ofFn_apply (t := ⟨2, ![O, 8]⟩) (s₁ := ⟨2, ![384, 8]⟩) 0 (fun q : Fin nc => spread p (extractStridedSlice ⟨2, ![128, 24]⟩ ![128 * q.val, 0] v (hf.ch q)))
    _ rfl 384 rfl (ix2 r k) ⟨r.val / 384, hq⟩ rfl (ix2 (⟨r.val % 384, Nat.mod_lt _ (by decide)⟩ : Fin 384) k) rfl (fun b hb => by
      match b with
      | ⟨0, _⟩ => exact absurd rfl hb
      | ⟨1, _⟩ => rfl)]
  rw [spread_at p hp]
  exact extractStridedSlice_apply _ v (hf.ch ⟨r.val / 384, hq⟩) _ _ (fun b => by
    match b with
    | ⟨0, _⟩ => show r.val / 3 = 128 * (r.val / 384) + r.val % 384 / 3; omega
    | ⟨1, _⟩ => show 8 * (r.val % 3) + k.val = 0 + (8 * (r.val % 384 % 3) + k.val); omega)

/-- What a grid point leaves in its output window, entry by entry. -/
def numS (s : ℕ) (X : (⟨4, ![2, s, s, 256]⟩ : Shape).Idx → EReal) (W : (⟨4, ![3, 3, 256, 512]⟩ : Shape).Idx → EReal)
    (bs : (⟨2, ![1, 512]⟩ : Shape).Idx → EReal) (wa : (⟨2, ![512, 24]⟩ : Shape).Idx → EReal) (ba : (⟨2, ![1, 24]⟩ : Shape).Idx → EReal)
    (b : Fin 2) (r : ℕ) (k : Fin 8) : EReal :=
  squash k.val (scoreS (sharedS X W (fun j => bs (ix2 0 (j 0))) b (r / 3 / s) (r / 3 % s))
    (fun h => wa (ix2 h ⟨8 * (r % 3) + k.val, by omega⟩)) (ba (ix2 0 ⟨8 * (r % 3) + k.val, by omega⟩)))

include hz in
theorem block_at (slab : FVec Ideal ⟨3, ![T, wp, 256]⟩ .bf16) (w : Fin 3 → Fin 3 → Vec Ideal ⟨4, ![1, 1, 256, 512]⟩ .bf16)
    (bs : Vec Ideal ⟨2, ![1, 512]⟩ .f32) (wa : Vec Ideal ⟨2, ![512, 24]⟩ .f32) (ba : Vec Ideal ⟨2, ![1, 24]⟩ .f32)
    (p : Fin 3 → Vec Ideal ⟨3, ![1, 384, 128]⟩ .bf16) (hp : Spreads p)
    (X : (⟨4, ![2, s, s, 256]⟩ : Shape).Idx → EReal) (W : (⟨4, ![3, 3, 256, 512]⟩ : Shape).Idx → EReal) (b : Fin 2) (i : ℕ)
    (hslab : ∀ (yy : Fin T) (xx : Fin wp) (c : Fin 256), yy.val ≤ th + 1 → xx.val ≤ s + 1 → slab (ix3 yy xx c) = padS X b (i * th + yy.val) xx.val c)
    (hw : ∀ (i j : Fin 3) (c : Fin 256) (h : Fin 512), w i j (ix4 0 0 c h) = W (ix4 i j c h)) (r : Fin O) (k : Fin 8) :
    block hf slab w bs wa ba p (ix4 0 0 r k) = numS s X W bs wa ba b (i * O + r.val) k := by
  have hO := hz.hO
  have hn := hz.hn
  have hr : r.val / 3 < n := by omega
  have hs0 : 0 < s := by rcases Nat.eq_zero_or_pos s with rfl | h0 <;> omega
  have hx : r.val / 3 % s < s := Nat.mod_lt _ hs0
  have hy : r.val / 3 / s < th := Nat.div_lt_of_lt_mul (by rw [Nat.mul_comm, ← hn]; exact hr)
  have eO : i * O + r.val = r.val + 3 * (i * n) := by
    have h : i * O = i * (3 * n) := congrArg (i * ·) hO
    rw [h]; ring
  have e0 : (i * O + r.val) / 3 = r.val / 3 + s * (i * th) := by
    rw [eO, Nat.add_mul_div_left _ _ (by decide), hn]; ring
  have e1 : (i * O + r.val) / 3 / s = i * th + r.val / 3 / s := by
    rw [e0, Nat.add_mul_div_left _ _ hs0, Nat.add_comm]
  have e2 : (i * O + r.val) / 3 % s = r.val / 3 % s := by
    rw [e0, Nat.add_mul_mod_self_left]
  have e3 : (i * O + r.val) % 3 = r.val % 3 := by
    rw [eO, Nat.add_mul_mod_self_left]
  have hk := k.isLt
  have hcol : (⟨8 * ((i * O + r.val) % 3) + k.val, by omega⟩ : Fin 24) = ⟨8 * (r.val % 3) + k.val, by omega⟩ := Fin.ext (by show 8 * ((i * O + r.val) % 3) + k.val = 8 * (r.val % 3) + k.val; rw [e3])
  unfold block numS
  rw [stacked_at hf hz p hp _ r k hr, squashed_at, hcol, e1, e2]
  rw [joined_at hf hz _ bs wa ba ⟨r.val / 3, hr⟩ ⟨r.val / 3 / s * wp + r.val / 3 % s, by
    rw [hz.hM]; exact place_lt hy (by have := hz.hs; omega)⟩ rfl]
  have hkk : (8 * (r.val % 3) + k.val) % 8 = k.val := by omega
  show squash ((8 * (r.val % 3) + k.val) % 8) _ = _
  rw [hkk]
  refine congrArg (squash k.val) ?_
  refine congrArg (fun v => scoreS v _ _) (funext fun h => ?_)
  exact congrArg₂ max (congrArg₂ (· + ·) (conv_at hf hz slab w X W b (i * th) hslab hw _ _ hy hx _ rfl h) rfl) rfl

end

theorem slabOf_at {T wp s th : ℕ} (hT : T = th + 3) (hwp : s + 2 ≤ wp)
    (S0 : Shape.Slices ⟨3, ![T, wp, 256]⟩ ![0, 1, 0] ⟨3, ![1, s, 256]⟩)
    (S1 : Shape.Slices ⟨3, ![T, wp, 256]⟩ ![1, 1, 0] ⟨3, ![th, s, 256]⟩) (S2 : Shape.Slices ⟨3, ![T, wp, 256]⟩ ![th + 1, 1, 0] ⟨3, ![1, s, 256]⟩)
    (up : (⟨3, ![1, s, 256]⟩ : Shape).Idx → EReal) (cur : (⟨3, ![th, s, 256]⟩ : Shape).Idx → EReal) (dn : (⟨3, ![1, s, 256]⟩ : Shape).Idx → EReal)
    (X : (⟨4, ![2, s, s, 256]⟩ : Shape).Idx → EReal) (b : Fin 2) (i0 : ℕ)
    (hu : ∀ (x : Fin s) (c : Fin 256), up (ix3 0 x c) = padS X b i0 (x.val + 1) c)
    (hc : ∀ (y : Fin th) (x : Fin s) (c : Fin 256), cur (ix3 y x c) = padS X b (i0 + (y.val + 1)) (x.val + 1) c)
    (hd : ∀ (x : Fin s) (c : Fin 256), dn (ix3 0 x c) = padS X b (i0 + (th + 1)) (x.val + 1) c)
    (yy : Fin T) (xx : Fin wp) (c : Fin 256) (hy : yy.val ≤ th + 1) (hx : xx.val ≤ s + 1) :
    slabOf S0 S1 S2 (0 : EReal) up cur dn (ix3 yy xx c) = padS X b (i0 + yy.val) xx.val c := by
  have hcl := c.isLt
  have hout : ¬ (1 ≤ xx.val ∧ xx.val ≤ s) → padS X b (i0 + yy.val) xx.val c = 0 := fun h => dif_neg fun h' => h h'.2
  have hin : ∀ (o w : ℕ) (S : Shape.Slices ⟨3, ![T, wp, 256]⟩ ![o, 1, 0] ⟨3, ![w, s, 256]⟩), (o ≤ yy.val ∧ yy.val < o + w) → (1 ≤ xx.val ∧ xx.val ≤ s) →
      ∀ a, (![o, 1, 0] : Fin 3 → ℕ) a ≤ ((ix3 yy xx c : (⟨3, ![T, wp, 256]⟩ : Shape).Idx) a).val
        ∧ ((ix3 yy xx c : (⟨3, ![T, wp, 256]⟩ : Shape).Idx) a).val < (![o, 1, 0] : Fin 3 → ℕ) a + (⟨3, ![w, s, 256]⟩ : Shape).size (a.cast S.1.symm) := fun o w S h1 h2 a => by
    match a with
    | ⟨0, _⟩ => exact h1
    | ⟨1, _⟩ => show 1 ≤ xx.val ∧ xx.val < 1 + s; omega
    | ⟨2, _⟩ => show 0 ≤ c.val ∧ c.val < 0 + 256; omega
  have hno : ∀ (o w : ℕ) (S : Shape.Slices ⟨3, ![T, wp, 256]⟩ ![o, 1, 0] ⟨3, ![w, s, 256]⟩), ¬ ((o ≤ yy.val ∧ yy.val < o + w) ∧ (1 ≤ xx.val ∧ xx.val ≤ s)) →
      ¬ ∀ a, (![o, 1, 0] : Fin 3 → ℕ) a ≤ ((ix3 yy xx c : (⟨3, ![T, wp, 256]⟩ : Shape).Idx) a).val
        ∧ ((ix3 yy xx c : (⟨3, ![T, wp, 256]⟩ : Shape).Idx) a).val < (![o, 1, 0] : Fin 3 → ℕ) a + (⟨3, ![w, s, 256]⟩ : Shape).size (a.cast S.1.symm) := fun o w S h1 h2 => by
    have g0 : o ≤ yy.val ∧ yy.val < o + w := h2 0
    have g1 : 1 ≤ xx.val ∧ xx.val < 1 + s := h2 1
    exact h1 ⟨g0, by omega⟩
  unfold slabOf
  by_cases hxx : 1 ≤ xx.val ∧ xx.val ≤ s
  · have hxe : xx.val - 1 + 1 = xx.val := by omega
    by_cases h2 : yy.val = th + 1
    · rw [upd_mem _ dn _ S2 _ (hin _ 1 S2 (by omega) hxx) (ix3 0 ⟨xx.val - 1, by omega⟩ c) (fun a => by
        match a with
        | ⟨0, _⟩ => show 0 = yy.val - (th + 1); omega
        | ⟨1, _⟩ => rfl
        | ⟨2, _⟩ => rfl), hd]
      show padS X b (i0 + (th + 1)) (xx.val - 1 + 1) c = _
      rw [hxe, h2]
    rw [upd_not _ dn _ S2 _ (hno _ 1 S2 (by omega))]
    by_cases h1 : 1 ≤ yy.val
    · rw [upd_mem _ cur _ S1 _ (hin _ th S1 (by omega) hxx) (ix3 ⟨yy.val - 1, by omega⟩ ⟨xx.val - 1, by omega⟩ c) (fun a => by
        match a with
        | ⟨0, _⟩ => rfl
        | ⟨1, _⟩ => rfl
        | ⟨2, _⟩ => rfl), hc]
      show padS X b (i0 + (yy.val - 1 + 1)) (xx.val - 1 + 1) c = _
      rw [hxe, show yy.val - 1 + 1 = yy.val by omega]
    rw [upd_not _ cur _ S1 _ (hno _ th S1 (by omega))]
    rw [upd_mem _ up _ S0 _ (hin _ 1 S0 (by omega) hxx) (ix3 0 ⟨xx.val - 1, by omega⟩ c) (fun a => by
        match a with
        | ⟨0, _⟩ => show 0 = yy.val - 0; omega
        | ⟨1, _⟩ => rfl
        | ⟨2, _⟩ => rfl), hu]
    show padS X b i0 (xx.val - 1 + 1) c = _
    rw [hxe, show yy.val = 0 by omega, Nat.add_zero]
  · rw [hout hxx, upd_not _ dn _ S2 _ (hno _ 1 S2 (fun h => hxx h.2)), upd_not _ cur _ S1 _ (hno _ th S1 (fun h => hxx h.2)),
      upd_not _ up _ S0 _ (hno _ 1 S0 (fun h => hxx h.2))]

end Rpn
end
-- ==== Proof.Prefix.lean ====
/- What the host operations before the first launch leave in the arrays that every launch reads: the columns and their
   biases, anchor by anchor, the filter and its bias, and the one-hot table. -/
module

public import proofs.«01_k».proof.Proof.Run
public import proofs.«01_k».proof.Proof.OneHot
public import proofs.«01_k».proof.Proof.BlockValue
public import Idealize.ShloMosaic.Lib.StableHlo.ReadAt

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-- One anchor's eight columns. -/
def cat8 (l d : FVec Ideal S512x2 .f32) (g : FVec Ideal S512x4 .f32) : FVec Ideal S512x8 .f32 :=
  concatenate S512x8 1 [⟨S512x2, l⟩, ⟨S512x2, d⟩, ⟨S512x4, g⟩] concatenates_S512x2_S512x2_S512x4_S512x8_d1
/-- The three anchors side by side. -/
def cat24 (x y z : FVec Ideal S512x8 .f32) : FVec Ideal S512x24 .f32 :=
  concatenate S512x24 1 [⟨S512x8, x⟩, ⟨S512x8, y⟩, ⟨S512x8, z⟩] concatenates_S512x8_S512x8_S512x8_S512x24_d1
/-- The wall of columns, anchor by anchor. -/
def wallT (L D : FVec Ideal S512x6 .f32) (G : FVec Ideal S512x12 .f32) : FVec Ideal S512x24 .f32 :=
  cat24 (cat8 (extractStridedSlice S512x2 ![0, 0] L slices_S512x6_S512x2_0_0) (extractStridedSlice S512x2 ![0, 0] D slices_S512x6_S512x2_0_0)
      (extractStridedSlice S512x4 ![0, 0] G slices_S512x12_S512x4_0_0))
    (cat8 (extractStridedSlice S512x2 ![0, 2] L slices_S512x6_S512x2_0_2) (extractStridedSlice S512x2 ![0, 2] D slices_S512x6_S512x2_0_2)
      (extractStridedSlice S512x4 ![0, 4] G slices_S512x12_S512x4_0_4))
    (cat8 (extractStridedSlice S512x2 ![0, 4] L slices_S512x6_S512x2_0_4) (extractStridedSlice S512x2 ![0, 4] D slices_S512x6_S512x2_0_4)
      (extractStridedSlice S512x4 ![0, 8] G slices_S512x12_S512x4_0_8))

theorem wall_eq : W1 m c (Proc.devRef .tc main_v30)
    = wallT (W1 m c (Proc.devRef .tc main_v0)) (W1 m c (Proc.devRef .tc main_v9)) (W1 m c (Proc.devRef .tc main_v1)) := by
  generalize hL : W1 m c (Proc.devRef .tc main_v0) = L
  generalize hD : W1 m c (Proc.devRef .tc main_v9) = D
  generalize hG : W1 m c (Proc.devRef .tc main_v1) = G
  unfold W1
  after_reads_simp
  change cat24 _ _ _ = cat24 _ _ _
  refine congr (congrArg₂ cat24 ?_ ?_) ?_
  all_goals
    dsimp only [Matrix.cons_val_zero, Matrix.cons_val_one, Matrix.cons_val]
    after_reads_simp
    change cat8 _ _ _ = cat8 _ _ _
    refine congr (congrArg₂ cat8 ?_ ?_) ?_
    all_goals
      dsimp only [Matrix.cons_val_zero, Matrix.cons_val_one, Matrix.cons_val]
      subst hL hD hG
      unfold W1
      after_reads_simp
      try rfl

/-- One anchor's eight biases. -/
def row8 (l d : FVec Ideal S2 .f32) (g : FVec Ideal S4 .f32) : FVec Ideal S8 .f32 :=
  concatenate S8 0 [⟨S2, l⟩, ⟨S2, d⟩, ⟨S4, g⟩] concatenates_S2_S2_S4_S8_d0
/-- The three anchors' biases one after another, as a row. -/
def row24 (x y z : FVec Ideal S8 .f32) : FVec Ideal S1x24 .f32 :=
  shapeCast S1x24 (concatenate S24 0 [⟨S8, x⟩, ⟨S8, y⟩, ⟨S8, z⟩] concatenates_S8_S8_S8_S24_d0) shapeCasts_S24_S1x24
/-- The row of biases. -/
def ballT (L D : FVec Ideal S6 .f32) (G : FVec Ideal S12 .f32) : FVec Ideal S1x24 .f32 :=
  row24 (row8 (extractStridedSlice S2 ![0] L slices_S6_S2_0) (extractStridedSlice S2 ![0] D slices_S6_S2_0) (extractStridedSlice S4 ![0] G slices_S12_S4_0))
    (row8 (extractStridedSlice S2 ![2] L slices_S6_S2_2) (extractStridedSlice S2 ![2] D slices_S6_S2_2) (extractStridedSlice S4 ![4] G slices_S12_S4_4))
    (row8 (extractStridedSlice S2 ![4] L slices_S6_S2_4) (extractStridedSlice S2 ![4] D slices_S6_S2_4) (extractStridedSlice S4 ![8] G slices_S12_S4_8))

theorem ball_eq : W1 m c (Proc.devRef .tc main_v44)
    = ballT (W1 m c (Proc.devRef .tc main_arg8)) (W1 m c (Proc.devRef .tc main_v17)) (W1 m c (Proc.devRef .tc main_arg10)) := by
  generalize hL : W1 m c (Proc.devRef .tc main_arg8) = L
  generalize hD : W1 m c (Proc.devRef .tc main_v17) = D
  generalize hG : W1 m c (Proc.devRef .tc main_arg10) = G
  unfold W1
  after_reads_simp
  change row24 _ _ _ = row24 _ _ _
  refine congr (congrArg₂ row24 ?_ ?_) ?_
  all_goals
    dsimp only [Matrix.cons_val_zero, Matrix.cons_val_one, Matrix.cons_val]
    after_reads_simp
    change row8 _ _ _ = row8 _ _ _
    refine congr (congrArg₂ row8 ?_ ?_) ?_
    all_goals
      dsimp only [Matrix.cons_val_zero, Matrix.cons_val_one, Matrix.cons_val]
      subst hL hD hG
      unfold W1
      after_reads_simp
      try rfl

theorem wallT_logit (L D : FVec Ideal S512x6 .f32) (G : FVec Ideal S512x12 .f32) (h : Fin 512) (a : Fin 3) (k : Fin 2) :
    wallT L D G (ix2 h ⟨8 * a.val + (k.val), by omega⟩) = L (ix2 h ⟨2 * a.val + k.val, by omega⟩) := by
  unfold wallT cat24 cat8
  fin_cases a <;> fin_cases k <;> pointwise

theorem wallT_gap (L D : FVec Ideal S512x6 .f32) (G : FVec Ideal S512x12 .f32) (h : Fin 512) (a : Fin 3) (k : Fin 2) :
    wallT L D G (ix2 h ⟨8 * a.val + (2 + k.val), by omega⟩) = D (ix2 h ⟨2 * a.val + k.val, by omega⟩) := by
  unfold wallT cat24 cat8
  fin_cases a <;> fin_cases k <;> pointwise

theorem wallT_delta (L D : FVec Ideal S512x6 .f32) (G : FVec Ideal S512x12 .f32) (h : Fin 512) (a : Fin 3) (k : Fin 4) :
    wallT L D G (ix2 h ⟨8 * a.val + (4 + k.val), by omega⟩) = G (ix2 h ⟨4 * a.val + k.val, by omega⟩) := by
  unfold wallT cat24 cat8
  fin_cases a <;> fin_cases k <;> pointwise

theorem ballT_logit (L D : FVec Ideal S6 .f32) (G : FVec Ideal S12 .f32) (a : Fin 3) (k : Fin 2) :
    ballT L D G (ix2 0 ⟨8 * a.val + (k.val), by omega⟩) = L (ix1 ⟨2 * a.val + k.val, by omega⟩) := by
  unfold ballT row24 row8
  fin_cases a <;> fin_cases k <;> pointwise

theorem ballT_gap (L D : FVec Ideal S6 .f32) (G : FVec Ideal S12 .f32) (a : Fin 3) (k : Fin 2) :
    ballT L D G (ix2 0 ⟨8 * a.val + (2 + k.val), by omega⟩) = D (ix1 ⟨2 * a.val + k.val, by omega⟩) := by
  unfold ballT row24 row8
  fin_cases a <;> fin_cases k <;> pointwise

theorem ballT_delta (L D : FVec Ideal S6 .f32) (G : FVec Ideal S12 .f32) (a : Fin 3) (k : Fin 4) :
    ballT L D G (ix2 0 ⟨8 * a.val + (4 + k.val), by omega⟩) = G (ix1 ⟨4 * a.val + k.val, by omega⟩) := by
  unfold ballT row24 row8
  fin_cases a <;> fin_cases k <;> pointwise

/-! ## The swapped columns -/

/-- Column 0 for 1 and back, and so on by pairs. -/
def mate : Fin 6 → Fin 6 := ![1, 0, 3, 2, 5, 4]

/-- The table of column numbers, wrapped where negative, as the gathers read it. -/
def mates : IVec S6x1 32 :=
  broadcastInDim S6x1 ![0] bcast_S6_S6x1_0
    (select (cmpi .slt (fun i => lit0 (S6.rowMajor i)) (broadcastInDim S6 ![] bcast_S_S6 (constantI S_ 32 0#32)))
      (addi (fun i => lit0 (S6.rowMajor i)) (broadcastInDim S6 ![] bcast_S_S6 (constantI S_ 32 6#32)))
      fun i => lit0 (S6.rowMajor i))

theorem mates_at (p : Fin 6) : mates (ix2 p 0) = BitVec.ofNat 32 (mate p).val := by
  fin_cases p <;> rfl

theorem swap_columns (x : FVec Ideal S512x6 .f32) (h : Fin 512) (p : Fin 6) :
    Host.gather gather_S512x6_S6x1_S512x6_0_1_n_n_1_1_5121 x mates (ix2 h p) = x (ix2 h (mate p)) := by
  unfold Host.gather
  refine congrArg x (funext fun a => Fin.ext ?_)
  match a with
  | ⟨0, _⟩ => show 0 + 0 + h.val = h.val; omega
  | ⟨1, _⟩ =>
    show min (mates (ix2 p 0)).toInt.toNat 5 + 0 + 0 = (mate p).val
    rw [mates_at]
    fin_cases p <;> rfl

theorem swap_biases (x : FVec Ideal S6 .f32) (p : Fin 6) :
    Host.gather gather_S6_S6x1_S6_n_0_n_n_0_1_1 x mates (ix1 p) = x (ix1 (mate p)) := by
  unfold Host.gather
  refine congrArg x (funext fun a => Fin.ext ?_)
  match a with
  | ⟨0, _⟩ =>
    show min (mates (ix2 p 0)).toInt.toNat 5 + 0 + 0 = (mate p).val
    rw [mates_at]
    fin_cases p <;> rfl

/-- A column of the logits' head. -/
def colC (p : Fin 6) : Fin 512 → EReal := fun h => (W0 m c (Proc.devRef .tc main_arg7) : FVec Ideal S1x1x512x6 .f32) (ix4 0 0 h p)
def biasC (p : Fin 6) : EReal := (W0 m c (Proc.devRef .tc main_arg8) : FVec Ideal S6 .f32) (ix1 p)
/-- A column of the deltas' head. -/
def colR (p : Fin 12) : Fin 512 → EReal := fun h => (W0 m c (Proc.devRef .tc main_arg9) : FVec Ideal S1x1x512x12 .f32) (ix4 0 0 h p)
def biasR (p : Fin 12) : EReal := (W0 m c (Proc.devRef .tc main_arg10) : FVec Ideal S12 .f32) (ix1 p)

theorem mate_pair : ∀ (a : Fin 3) (k : Fin 2), mate ⟨2 * a.val + k.val, by omega⟩ = ⟨2 * a.val + (1 - k.val), by omega⟩ := by decide

/-! ## The arrays -/

theorem filter_eq : W1 m c (Proc.devRef .tc main_v46) = W0 m c (Proc.devRef .tc main_arg5) := by
  unfold W1
  after_reads_simp
  rfl

theorem bias_at (h : Fin 512) : (W1 m c (Proc.devRef .tc main_v45) : FVec Ideal S1x512 .f32) (ix2 0 h) = W0 m c (Proc.devRef .tc main_arg6) (ix1 h) := by
  unfold W1
  after_reads_at

theorem hot_at (a : Fin 3) (q : Fin 384) (j : Fin 128) :
    (W1 m c (Proc.devRef .tc main_cst) : FVec Ideal S3x384x128 .bf16) (ix3 a q j) = if q.val = 3 * j.val + a.val then (1 : EReal) else 0 := by
  unfold W1
  after_reads_simp
  exact spread_table a q j

theorem logits_at (h : Fin 512) (p : Fin 6) :
    (W1 m c (Proc.devRef .tc main_v0) : FVec Ideal S512x6 .f32) (ix2 h p) = W0 m c (Proc.devRef .tc main_arg7) (ix4 0 0 h p) := by
  unfold W1
  after_reads_at

theorem deltas_at (h : Fin 512) (p : Fin 12) :
    (W1 m c (Proc.devRef .tc main_v1) : FVec Ideal S512x12 .f32) (ix2 h p) = W0 m c (Proc.devRef .tc main_arg9) (ix4 0 0 h p) := by
  unfold W1
  after_reads_at

/-- Each column less its mate. -/
def gaps (x : FVec Ideal S512x6 .f32) : FVec Ideal S512x6 .f32 := subf x (Host.gather gather_S512x6_S6x1_S512x6_0_1_n_n_1_1_5121 x mates)
/-- Each bias less its mate. -/
def gapBiases (x : FVec Ideal S6 .f32) : FVec Ideal S6 .f32 := subf x (Host.gather gather_S6_S6x1_S6_n_0_n_n_0_1_1 x mates)

theorem gap_of (x : FVec Ideal S512x6 .f32) (h : Fin 512) (p : Fin 6) :
    gaps x (ix2 h p) = (x (ix2 h p) : EReal) - (x (ix2 h (mate p)) : EReal) :=
  congrArg (fun z : EReal => (x (ix2 h p) : EReal) - z) (swap_columns x h p)

theorem gapBias_of (x : FVec Ideal S6 .f32) (p : Fin 6) :
    gapBiases x (ix1 p) = (x (ix1 p) : EReal) - (x (ix1 (mate p)) : EReal) :=
  congrArg (fun z : EReal => (x (ix1 p) : EReal) - z) (swap_biases x p)

theorem gap_eq : W1 m c (Proc.devRef .tc main_v9) = gaps (W1 m c (Proc.devRef .tc main_v0)) := by
  unfold W1
  after_reads_simp
  rfl

theorem gapBias_eq : W1 m c (Proc.devRef .tc main_v17) = gapBiases (W0 m c (Proc.devRef .tc main_arg8)) := by
  unfold W1
  after_reads_simp
  rfl

theorem gap_at (h : Fin 512) (p : Fin 6) :
    (W1 m c (Proc.devRef .tc main_v9) : FVec Ideal S512x6 .f32) (ix2 h p) = colC m c p h - colC m c (mate p) h := by
  unfold colC
  rw [← logits_at m c h p, ← logits_at m c h (mate p)]
  exact (congrFun (gap_eq m c) _).trans (gap_of _ h p)

theorem gapBias_at (p : Fin 6) :
    (W1 m c (Proc.devRef .tc main_v17) : FVec Ideal S6 .f32) (ix1 p) = biasC m c p - biasC m c (mate p) :=
  (congrFun (gapBias_eq m c) _).trans (gapBias_of _ p)

theorem start_of (r : Ref sig .tc) (h : r ∉ hostOps0_W) : W1 m c (Proc.devRef .tc r) = W0 m c (Proc.devRef .tc r) :=
  StableHlo.after_of_writes_sub hostOps0 _ hostOps0_writes h

/-! ## The three kinds of number -/

/-- The activated values at the anchor's position. -/
def act (s : ℕ) (X : (⟨4, ![2, s, s, 256]⟩ : Shape).Idx → EReal) (b : Fin 2) (r : ℕ) : Fin 512 → EReal :=
  Rpn.sharedS X (W0 m c (Proc.devRef .tc main_arg5)) (W0 m c (Proc.devRef .tc main_arg6)) b (r / 3 / s) (r / 3 % s)

/-- One number of the launch's rows. -/
def num (s : ℕ) (X : (⟨4, ![2, s, s, 256]⟩ : Shape).Idx → EReal) (b : Fin 2) (r : ℕ) (k : Fin 8) : EReal :=
  Rpn.numS s X (W1 m c (Proc.devRef .tc main_v46)) (W1 m c (Proc.devRef .tc main_v45)) (W1 m c (Proc.devRef .tc main_v30))
    (W1 m c (Proc.devRef .tc main_v44)) b r k

variable (s : ℕ) (X : (⟨4, ![2, s, s, 256]⟩ : Shape).Idx → EReal) (b : Fin 2) (r : ℕ)

theorem num_eq (k : Fin 8) (w : Fin 512 → EReal) (e : EReal)
    (hw : ∀ h, (W1 m c (Proc.devRef .tc main_v30) : FVec Ideal S512x24 .f32) (ix2 h ⟨8 * (r % 3) + k.val, by omega⟩) = w h)
    (he : (W1 m c (Proc.devRef .tc main_v44) : FVec Ideal S1x24 .f32) (ix2 0 ⟨8 * (r % 3) + k.val, by omega⟩) = e) :
    num m c s X b r k = Rpn.squash k.val (Rpn.scoreS (act m c s X b r) w e) := by
  unfold num Rpn.numS
  have hb : (fun j : (⟨1, ![512]⟩ : Shape).Idx => (W1 m c (Proc.devRef .tc main_v45) : FVec Ideal S1x512 .f32) (ix2 0 (j 0)))
      = W0 m c (Proc.devRef .tc main_arg6) := funext fun j => (bias_at m c (j 0)).trans (congrArg _ (eq_ix1 j).symm)
  refine congrArg (Rpn.squash k.val) ?_
  refine congr (congrArg₂ Rpn.scoreS ?_ (funext hw)) he
  unfold act
  rw [← filter_eq m c]
  exact congrArg (fun z => Rpn.sharedS X _ z b (r / 3 / s) (r / 3 % s)) hb

theorem num_logit (k : Fin 2) : num m c s X b r ⟨k.val, by omega⟩
    = Rpn.scoreS (act m c s X b r) (colC m c ⟨2 * (r % 3) + k.val, by omega⟩) (biasC m c ⟨2 * (r % 3) + k.val, by omega⟩) := by
  have ha : r % 3 < 3 := Nat.mod_lt _ (by decide)
  rw [num_eq m c s X b r ⟨k.val, by omega⟩ (colC m c ⟨2 * (r % 3) + k.val, by omega⟩) (biasC m c ⟨2 * (r % 3) + k.val, by omega⟩)]
  · exact if_neg (by show ¬(k.val = 2 ∨ k.val = 3); omega)
  · intro h
    rw [wall_eq]
    exact (wallT_logit _ _ _ h ⟨r % 3, ha⟩ k).trans (logits_at m c h _)
  · rw [ball_eq]
    exact (ballT_logit _ _ _ ⟨r % 3, ha⟩ k).trans (congrFun (start_of m c main_arg8 (by decide)) _)

theorem num_gap (k : Fin 2) : num m c s X b r ⟨2 + k.val, by omega⟩
    = Ideal.logistic (Rpn.scoreS (act m c s X b r)
        (fun h => colC m c ⟨2 * (r % 3) + k.val, by omega⟩ h - colC m c ⟨2 * (r % 3) + (1 - k.val), by omega⟩ h)
        (biasC m c ⟨2 * (r % 3) + k.val, by omega⟩ - biasC m c ⟨2 * (r % 3) + (1 - k.val), by omega⟩)) := by
  have ha : r % 3 < 3 := Nat.mod_lt _ (by decide)
  rw [num_eq m c s X b r ⟨2 + k.val, by omega⟩
    (fun h => colC m c ⟨2 * (r % 3) + k.val, by omega⟩ h - colC m c ⟨2 * (r % 3) + (1 - k.val), by omega⟩ h)
    (biasC m c ⟨2 * (r % 3) + k.val, by omega⟩ - biasC m c ⟨2 * (r % 3) + (1 - k.val), by omega⟩)]
  · exact if_pos (by show 2 + k.val = 2 ∨ 2 + k.val = 3; omega)
  · intro h
    rw [wall_eq]
    refine (wallT_gap _ _ _ h ⟨r % 3, ha⟩ k).trans ((gap_at m c h _).trans ?_)
    rw [mate_pair ⟨r % 3, ha⟩ k]
  · rw [ball_eq]
    refine (ballT_gap _ _ _ ⟨r % 3, ha⟩ k).trans ((gapBias_at m c _).trans ?_)
    rw [mate_pair ⟨r % 3, ha⟩ k]

theorem num_delta (k : Fin 4) : num m c s X b r ⟨4 + k.val, by omega⟩
    = Rpn.scoreS (act m c s X b r) (colR m c ⟨4 * (r % 3) + k.val, by omega⟩) (biasR m c ⟨4 * (r % 3) + k.val, by omega⟩) := by
  have ha : r % 3 < 3 := Nat.mod_lt _ (by decide)
  rw [num_eq m c s X b r ⟨4 + k.val, by omega⟩ (colR m c ⟨4 * (r % 3) + k.val, by omega⟩) (biasR m c ⟨4 * (r % 3) + k.val, by omega⟩)]
  · exact if_neg (by show ¬(4 + k.val = 2 ∨ 4 + k.val = 3); omega)
  · intro h
    rw [wall_eq]
    exact (wallT_delta _ _ _ h ⟨r % 3, ha⟩ k).trans (deltas_at m c h _)
  · rw [ball_eq]
    exact (ballT_delta _ _ _ ⟨r % 3, ha⟩ k).trans (congrFun (start_of m c main_arg10 (by decide)) _)

end Cert.KernelIdeal.Gen
end
-- ==== Proof.Stack.lean ====
/- The five levels joined one after another along the rows: a slice of the columns of a join is the join of the slices, and a
   launch's blocks of rows laid end to end. -/
module

public import Idealize.ShloMosaic.Lib.Pipeline.ValueKit
public import Idealize.ShloMosaic.Lib.Pointwise

@[expose] public section

set_option maxRecDepth 65536

noncomputable section

namespace Rpn

open Idealize.ShloMosaic

/-- Five arrays of rows joined along the rows. -/
abbrev Joins (w : ℕ) : Prop := Shape.Concatenates [⟨3, ![2, 196608, w]⟩, ⟨3, ![2, 49152, w]⟩, ⟨3, ![2, 12288, w]⟩, ⟨3, ![2, 3072, w]⟩, ⟨3, ![2, 768, w]⟩] ⟨3, ![2, 261888, w]⟩ 1

/-- The levels' rows joined. -/
def join (w : ℕ) (h : Joins w) (x0 : (⟨3, ![2, 196608, w]⟩ : Shape).Idx → EReal) (x1 : (⟨3, ![2, 49152, w]⟩ : Shape).Idx → EReal)
    (x2 : (⟨3, ![2, 12288, w]⟩ : Shape).Idx → EReal) (x3 : (⟨3, ![2, 3072, w]⟩ : Shape).Idx → EReal) (x4 : (⟨3, ![2, 768, w]⟩ : Shape).Idx → EReal) :
    (⟨3, ![2, 261888, w]⟩ : Shape).Idx → EReal :=
  concatenate ⟨3, ![2, 261888, w]⟩ 1 [⟨⟨3, ![2, 196608, w]⟩, x0⟩, ⟨⟨3, ![2, 49152, w]⟩, x1⟩, ⟨⟨3, ![2, 12288, w]⟩, x2⟩, ⟨⟨3, ![2, 3072, w]⟩, x3⟩, ⟨⟨3, ![2, 768, w]⟩, x4⟩] h

section
variable {w : ℕ} (h : Joins w) (x0 : (⟨3, ![2, 196608, w]⟩ : Shape).Idx → EReal) (x1 : (⟨3, ![2, 49152, w]⟩ : Shape).Idx → EReal)
  (x2 : (⟨3, ![2, 12288, w]⟩ : Shape).Idx → EReal) (x3 : (⟨3, ![2, 3072, w]⟩ : Shape).Idx → EReal) (x4 : (⟨3, ![2, 768, w]⟩ : Shape).Idx → EReal)

/-- A row of the join is a row of the level it falls in. -/
theorem join_at (b : Fin 2) (r : Fin 261888) (k : Fin w) :
    join w h x0 x1 x2 x3 x4 (ix3 b r k) =
      if h0 : r.val < 196608 then x0 (ix3 b ⟨r.val, h0⟩ k)
      else if h1 : r.val < 245760 then x1 (ix3 b ⟨r.val - 196608, by omega⟩ k)
      else if h2 : r.val < 258048 then x2 (ix3 b ⟨r.val - 245760, by omega⟩ k)
      else if h3 : r.val < 261120 then x3 (ix3 b ⟨r.val - 258048, by omega⟩ k)
      else x4 (ix3 b ⟨r.val - 261120, by omega⟩ k) := by
  have hr := r.isLt
  have hp : ∀ (i o n : ℕ) (x : (⟨3, ![2, n, w]⟩ : Shape).Idx → EReal) (L : List ((s : Shape) × (s.Idx → EReal))) (hL : Shape.Concatenates (L.map (·.1)) ⟨3, ![2, 261888, w]⟩ 1)
      (hi : i < L.length) (hx : L[i] = ⟨⟨3, ![2, n, w]⟩, x⟩)
      (hpre : (((L.take i).map (·.1)).map fun s => if h : s.rank = (⟨3, ![2, 261888, w]⟩ : Shape).rank then s.size ((1 : Fin 3).cast h.symm) else 0).sum = o)
      (h0 : o ≤ r.val) (h1 : r.val - o < n), concatenate ⟨3, ![2, 261888, w]⟩ 1 L hL (ix3 b r k) = x (ix3 b ⟨r.val - o, h1⟩ k) :=
    fun i o n x L hL hi hx hpre h0 h1 => concatenate_apply_piece (t := ⟨3, ![2, 261888, w]⟩) 1 L hL (ix3 b r k) i hi _ x hx rfl o hpre (ix3 b ⟨r.val - o, h1⟩ k)
      (fun a ha => by
        match a with
        | ⟨0, _⟩ => rfl
        | ⟨1, _⟩ => exact absurd rfl ha
        | ⟨2, _⟩ => rfl)
      (by show o + (r.val - o) = r.val; omega)
  unfold join
  split_ifs with c0 c1 c2 c3
  · exact hp 0 0 196608 x0 _ _ (by show 0 < 5; decide) rfl rfl (by omega) c0
  · exact hp 1 196608 49152 x1 _ _ (by show 1 < 5; decide) rfl rfl (by omega) (by omega)
  · exact hp 2 245760 12288 x2 _ _ (by show 2 < 5; decide) rfl rfl (by omega) (by omega)
  · exact hp 3 258048 3072 x3 _ _ (by show 3 < 5; decide) rfl rfl (by omega) (by omega)
  · exact hp 4 261120 768 x4 _ _ (by show 4 < 5; decide) rfl rfl (by omega) (by omega)

/-- Some columns of the join are the join of those columns. -/
theorem join_columns {v o : ℕ} (hv : Joins v) (ho : o + v ≤ w) (hs : Shape.Slices ⟨3, ![2, 261888, w]⟩ ![0, 0, o] ⟨3, ![2, 261888, v]⟩)
    (y0 : (⟨3, ![2, 196608, v]⟩ : Shape).Idx → EReal) (y1 : (⟨3, ![2, 49152, v]⟩ : Shape).Idx → EReal)
    (y2 : (⟨3, ![2, 12288, v]⟩ : Shape).Idx → EReal) (y3 : (⟨3, ![2, 3072, v]⟩ : Shape).Idx → EReal) (y4 : (⟨3, ![2, 768, v]⟩ : Shape).Idx → EReal)
    (e0 : ∀ b r (k : Fin v), x0 (ix3 b r ⟨o + k.val, by omega⟩) = y0 (ix3 b r k)) (e1 : ∀ b r (k : Fin v), x1 (ix3 b r ⟨o + k.val, by omega⟩) = y1 (ix3 b r k))
    (e2 : ∀ b r (k : Fin v), x2 (ix3 b r ⟨o + k.val, by omega⟩) = y2 (ix3 b r k)) (e3 : ∀ b r (k : Fin v), x3 (ix3 b r ⟨o + k.val, by omega⟩) = y3 (ix3 b r k))
    (e4 : ∀ b r (k : Fin v), x4 (ix3 b r ⟨o + k.val, by omega⟩) = y4 (ix3 b r k)) :
    extractStridedSlice ⟨3, ![2, 261888, v]⟩ ![0, 0, o] (join w h x0 x1 x2 x3 x4) hs = join v hv y0 y1 y2 y3 y4 := by
  funext j
  obtain ⟨b, r, k, rfl⟩ : ∃ (b : Fin 2) (r : Fin 261888) (k : Fin v), j = ix3 b r k := ⟨_, _, _, eq_ix3 j⟩
  rw [extractStridedSlice_apply _ _ hs _ (ix3 b r ⟨o + k.val, by omega⟩) (fun a => by
    match a with
    | ⟨0, _⟩ => show b.val = 0 + b.val; omega
    | ⟨1, _⟩ => show r.val = 0 + r.val; omega
    | ⟨2, _⟩ => rfl), join_at, join_at]
  simp only [e0, e1, e2, e3, e4]
end

/-- Blocks of rows laid end to end. -/
theorem rows_at {nb O n : ℕ} (y : (⟨4, ![2, nb, O, 8]⟩ : Shape).Idx → EReal) (h : Shape.ShapeCasts ⟨4, ![2, nb, O, 8]⟩ ⟨3, ![2, n, 8]⟩) (hn : n = nb * O)
    (hO : 0 < O) (b : Fin 2) (r : Fin n) (k : Fin 8) :
    shapeCast ⟨3, ![2, n, 8]⟩ y h (ix3 b r k) = y (ix4 b ⟨r.val / O, Nat.div_lt_of_lt_mul (by rw [Nat.mul_comm, ← hn]; exact r.isLt)⟩ ⟨r.val % O, Nat.mod_lt _ hO⟩ k) := by
  refine shapeCast_apply y h _ _ ?_
  rw [Shape.rowMajor_val_four, Shape.rowMajor_val_three]
  show ((b.val * nb + r.val / O) * O + r.val % O) * 8 + k.val = (b.val * n + r.val) * 8 + k.val
  have e := Nat.div_add_mod r.val O
  subst hn
  have : (b.val * nb + r.val / O) * O + r.val % O = b.val * (nb * O) + r.val := by
    rw [Nat.add_mul, Nat.mul_assoc, Nat.mul_comm (r.val / O) O]; omega
  omega

end Rpn
end
-- ==== Proof.Level.lean ====
/- One grid point, from the blocks it reads to the rows it leaves: a slab made of the row above, the block and the row
   below is the bordered map from its first row on, so the block's rows are the level's rows. -/
module

public import proofs.«01_k».proof.Proof.BlockValue

@[expose] public section

set_option maxRecDepth 16384

noncomputable section

namespace Rpn

open Idealize.ShloMosaic

/-- The changes of shape a block's rows go through. -/
structure Rows (th s : ℕ) : Prop where
  a : Shape.ShapeCasts ⟨4, ![1, 1, s, 256]⟩ ⟨2, ![s, 256]⟩
  b : Shape.ShapeCasts ⟨2, ![s, 256]⟩ ⟨3, ![1, s, 256]⟩
  c : Shape.ShapeCasts ⟨3, ![1, s, 256]⟩ ⟨3, ![1, s, 256]⟩
  d : Shape.ShapeCasts ⟨4, ![1, th, s, 256]⟩ ⟨3, ![th, s, 256]⟩
  e : Shape.ShapeCasts ⟨3, ![th, s, 256]⟩ ⟨3, ![th, s, 256]⟩

section
variable {th s : ℕ} (hr : Rows th s)

/-- A neighbouring row, or zeros where there is none. -/
def edgeRow (g : BitVec 1) (x : FVec Ideal ⟨4, ![1, 1, s, 256]⟩ .f32) : FVec Ideal ⟨3, ![1, s, 256]⟩ .bf16 :=
  shapeCast ⟨3, ![1, s, 256]⟩ (shapeCast ⟨3, ![1, s, 256]⟩ (truncf .bf16 (Scalar.select g (shapeCast ⟨2, ![s, 256]⟩ x hr.a)
    (broadcast ⟨2, ![s, 256]⟩ (Scalar.ofBits (F := Ideal) .f32 0x00000000#32))) (by decide)) hr.b) hr.c

/-- The block's own rows. -/
def midRows (x : FVec Ideal ⟨4, ![1, th, s, 256]⟩ .f32) : FVec Ideal ⟨3, ![th, s, 256]⟩ .bf16 :=
  shapeCast ⟨3, ![th, s, 256]⟩ (truncf .bf16 (shapeCast ⟨3, ![th, s, 256]⟩ x hr.d) (by decide)) hr.e

theorem edgeRow_at (g : BitVec 1) (x : FVec Ideal ⟨4, ![1, 1, s, 256]⟩ .f32) (k : Fin s) (c : Fin 256) :
    edgeRow hr g x (ix3 0 k c) = if g = 1 then x (ix4 0 0 k c) else (0 : EReal) := by
  unfold edgeRow
  rw [shapeCast_self, shapeCast_apply _ hr.b (ix3 0 k c) (ix2 k c) (by
    rw [Shape.rowMajor_val_three, Shape.rowMajor_val_two]
    show k.val * 256 + c.val = (0 * s + k.val) * 256 + c.val
    simp)]
  show (if g = 1 then _ else _ : _ → EReal) (ix2 k c) = _
  split_ifs
  · exact shapeCast_apply x hr.a (ix2 k c) (ix4 0 0 k c) (by
      rw [Shape.rowMajor_val_four, Shape.rowMajor_val_two]
      show ((0 * 1 + 0) * s + k.val) * 256 + c.val = k.val * 256 + c.val
      simp)
  · exact zero_at ⟨2, ![s, 256]⟩ (ix2 k c)

theorem midRows_at (x : FVec Ideal ⟨4, ![1, th, s, 256]⟩ .f32) (y : Fin th) (k : Fin s) (c : Fin 256) :
    midRows hr x (ix3 y k c) = x (ix4 0 y k c) := by
  unfold midRows
  rw [shapeCast_self]
  exact shapeCast_apply x hr.d (ix3 y k c) (ix4 0 y k c) (by
    rw [Shape.rowMajor_val_four, Shape.rowMajor_val_three]
    show ((0 * th + y.val) * s + k.val) * 256 + c.val = (y.val * s + k.val) * 256 + c.val
    simp)

end

theorem padS_in {s : ℕ} (X : (⟨4, ![2, s, s, 256]⟩ : Shape).Idx → EReal) (b : Fin 2) (y : Fin s) (x : Fin s) (c : Fin 256) (y' : ℕ) (hy : y' = y.val + 1) :
    padS X b y' (x.val + 1) c = X (ix4 b y x c) := by
  subst hy
  unfold padS
  rw [dif_pos ⟨⟨by omega, by omega⟩, ⟨by omega, by omega⟩⟩]
  rfl

theorem padS_out {s : ℕ} (X : (⟨4, ![2, s, s, 256]⟩ : Shape).Idx → EReal) (b : Fin 2) (y x : ℕ) (c : Fin 256) (hy : y = 0 ∨ s < y) :
    padS X b y x c = 0 := dif_neg fun h => by omega

/-- The rows a grid point leaves, from what its input blocks hold. -/
theorem level_at {T wp R M s th n nc O : ℕ} (hf : Fits T wp R M s th n nc O) (hz : Sizes T wp R M s th n nc O) (hr : Rows th s)
    (S0 : Shape.Slices ⟨3, ![T, wp, 256]⟩ ![0, 1, 0] ⟨3, ![1, s, 256]⟩)
    (S1 : Shape.Slices ⟨3, ![T, wp, 256]⟩ ![1, 1, 0] ⟨3, ![th, s, 256]⟩) (S2 : Shape.Slices ⟨3, ![T, wp, 256]⟩ ![th + 1, 1, 0] ⟨3, ![1, s, 256]⟩)
    (z : EReal) (hz0 : z = 0) (g0 g1 : BitVec 1) (x0 x2 : FVec Ideal ⟨4, ![1, 1, s, 256]⟩ .f32) (x1 : FVec Ideal ⟨4, ![1, th, s, 256]⟩ .f32)
    (w : Fin 3 → Fin 3 → Vec Ideal ⟨4, ![1, 1, 256, 512]⟩ .bf16)
    (bs : Vec Ideal ⟨2, ![1, 512]⟩ .f32) (wa : Vec Ideal ⟨2, ![512, 24]⟩ .f32) (ba : Vec Ideal ⟨2, ![1, 24]⟩ .f32)
    (p : Fin 3 → Vec Ideal ⟨3, ![1, 384, 128]⟩ .bf16) (hp : Spreads p)
    (X : (⟨4, ![2, s, s, 256]⟩ : Shape).Idx → EReal) (W : (⟨4, ![3, 3, 256, 512]⟩ : Shape).Idx → EReal) (b : Fin 2) (i nb : ℕ)
    (hs : s = nb * th) (hi : i < nb) (hg0 : g0 = 1 ↔ 0 < i) (hg1 : g1 = 1 ↔ i + 1 < nb)
    (h0 : ∀ (y k : Fin s) (c : Fin 256), y.val + 1 = i * th → x0 (ix4 0 0 k c) = X (ix4 b y k c))
    (h1 : ∀ (q : Fin th) (y k : Fin s) (c : Fin 256), y.val = i * th + q.val → x1 (ix4 0 q k c) = X (ix4 b y k c))
    (h2 : ∀ (y k : Fin s) (c : Fin 256), y.val = i * th + th → x2 (ix4 0 0 k c) = X (ix4 b y k c))
    (hw : ∀ (i j : Fin 3) (c : Fin 256) (h : Fin 512), w i j (ix4 0 0 c h) = W (ix4 i j c h)) (r : Fin O) (k : Fin 8) :
    block hf (slabOf S0 S1 S2 z (edgeRow hr g0 x0) (midRows hr x1) (edgeRow hr g1 x2)) w bs wa ba p (ix4 0 0 r k)
      = numS s X W bs wa ba b (i * O + r.val) k := by
  subst hz0
  have hle : i * th + th ≤ s := by
    rw [hs, ← Nat.succ_mul]; exact Nat.mul_le_mul_right _ hi
  refine block_at hf hz _ w bs wa ba p hp X W b i (fun yy xx c hy hx => ?_) hw r k
  refine slabOf_at hz.hT hz.hs S0 S1 S2 _ _ _ X b (i * th) (fun x c => ?_) (fun y x c => ?_) (fun x c => ?_) yy xx c hy hx
  · rw [edgeRow_at]
    have hth : 0 < th := by
      rcases Nat.eq_zero_or_pos th with h | h
      · have := x.isLt
        rw [h] at hs; omega
      · exact h
    split_ifs with hg
    · have hi0 := hg0.1 hg
      have hpos : 0 < i * th := Nat.mul_pos hi0 hth
      rw [padS_in X b ⟨i * th - 1, by omega⟩ x c (i * th) (by show i * th = i * th - 1 + 1; omega)]
      exact h0 _ _ _ (by show i * th - 1 + 1 = i * th; omega)
    · have hi0 : i = 0 := by
        have := mt hg0.2 hg
        omega
      rw [padS_out X b _ _ c (Or.inl (by rw [hi0, Nat.zero_mul]))]
  · rw [midRows_at, padS_in X b ⟨i * th + y.val, by omega⟩ x c (i * th + (y.val + 1)) rfl]
    exact h1 _ _ _ _ rfl
  · rw [edgeRow_at]
    split_ifs with hg
    · have hi1 := hg1.1 hg
      have hlt : i * th + th < s := by
        have : (i + 1 + 1) * th ≤ nb * th := Nat.mul_le_mul_right _ hi1
        have hth : 0 < th := by
          rcases Nat.eq_zero_or_pos th with h | h
          · have := x.isLt
            rw [h] at hs; omega
          · exact h
        rw [← hs, Nat.succ_mul, Nat.succ_mul] at this
        omega
      rw [padS_in X b ⟨i * th + th, hlt⟩ x c (i * th + (th + 1)) rfl]
      exact h2 _ _ _ rfl
    · have hi1 : i + 1 = nb := by
        have := mt hg1.2 hg
        omega
      rw [padS_out X b _ _ c (Or.inr (by rw [hs, ← hi1, Nat.succ_mul]; omega))]

end Rpn
end
-- ==== Proof.Final0.lean ====
/- Launch 0's result array: entry by entry, what the level's rows are. -/
module

public import proofs.«01_k».proof.Proof.Region0
public import proofs.«01_k».proof.Proof.Level
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)

theorem rows0 : Rpn.Rows 8 256 := ⟨by decide, by decide, by decide, by decide, by decide⟩

/-- Where each window's block lies at a grid point. -/
theorem idx0 : ∀ t : Fin cfg0.N, win0_0.index t = ![t.val / 32, t.val % 32 * 8 - 1, 0, 0] ∧ win0_1.index t = ![t.val / 32, t.val % 32, 0, 0]
    ∧ win0_2.index t = ![t.val / 32, min (t.val % 32 * 8 + 8) 255, 0, 0] ∧ win0_3.index t = ![0, 0, 0, 0] ∧ win0_4.index t = ![0, 0]
    ∧ win0_5.index t = ![0, 0] ∧ win0_6.index t = ![0, 0] ∧ win0_7.index t = ![0, 0, 0] ∧ win0_8.index t = ![t.val / 32, t.val % 32, 0, 0] :=
  (by decide +kernel : ∀ t : Fin grid0.N, _)

/-- The two tests of a grid point: a row above, a row below. -/
theorem edges0 : ∀ t : Fin cfg0.N, t.val / 32 < 2
    ∧ (Scalar.cmpi .sgt (BitVec.ofNat 32 (grid0.coords t 1).val) 0#32 = 1 ↔ 0 < t.val % 32)
    ∧ (Scalar.cmpi .slt (BitVec.ofNat 32 (grid0.coords t 1).val) 31#32 = 1 ↔ t.val % 32 + 1 < 32) :=
  (by decide +kernel : ∀ t : Fin grid0.N, _)

variable (V : (c : Dev nD) → (b : Ref sig .tc) → Buf (Elt Ideal) ((c : Thread nD τ).loc b))

theorem slab0_eq (i : grid0.Coords) (x0 : Vec Ideal S1x1x256x256 .f32) (x1 : Vec Ideal S1x8x256x256 .f32) (x2 : Vec Ideal S1x1x256x256 .f32) :
    slab0 (F := Ideal) i x0 x1 x2 = Rpn.slabOf (T := 11) (wp := 264) (s := 256) (th := 8) (by decide) (by decide) (by decide) (Scalar.ofBits .bf16 0x0000#16)
      (Rpn.edgeRow rows0 (Scalar.cmpi .sgt (BitVec.ofNat 32 (i 1).val) 0#32) x0) (Rpn.midRows rows0 x1)
      (Rpn.edgeRow rows0 (Scalar.cmpi .slt (BitVec.ofNat 32 (i 1).val) 31#32) x2) := rfl

/-- The windows on whole arrays hold the arrays. -/
theorem whole0 (c : Dev nD) (t : Fin cfg0.N) : iblk0 V c 3 t = V c main_v46 ∧ iblk0 V c 4 t = V c main_v45 ∧ iblk0 V c 5 t = V c main_v30
    ∧ iblk0 V c 6 t = V c main_v44 ∧ iblk0 V c 7 t = V c main_cst := by
  have e := idx0 t
  refine ⟨?_, ?_, ?_, ?_, ?_⟩ <;> blk_ext! [iblk0, e]

/-- The row above, the block's rows and the row below, where there are such. -/
theorem near0 (c : Dev nD) (t : Fin cfg0.N) :
    (∀ (y k : Fin 256) (ch : Fin 256), y.val + 1 = t.val % 32 * 8 → iblk0 V c 0 t (ix4 0 0 k ch) = V c main_arg0 (ix4 ⟨t.val / 32, (edges0 t).1⟩ y k ch))
    ∧ (∀ (q : Fin 8) (y k : Fin 256) (ch : Fin 256), y.val = t.val % 32 * 8 + q.val → iblk0 V c 1 t (ix4 0 q k ch) = V c main_arg0 (ix4 ⟨t.val / 32, (edges0 t).1⟩ y k ch))
    ∧ (∀ (y k : Fin 256) (ch : Fin 256), y.val = t.val % 32 * 8 + 8 → iblk0 V c 2 t (ix4 0 0 k ch) = V c main_arg0 (ix4 ⟨t.val / 32, (edges0 t).1⟩ y k ch)) := by
  have e := idx0 t
  refine ⟨fun y k ch h => ?_, fun q y k ch h => ?_, fun y k ch h => ?_⟩ <;> blk_ext [iblk0, e]

/-- What the output window holds after a point, entry by entry. -/
theorem point0 (c : Dev nD) (hp : ∀ (a : Fin 3) (q : Fin 384) (j : Fin 128), V c main_cst (ix3 a q j) = if q.val = 3 * j.val + a.val then (1 : EReal) else 0)
    (t : Fin cfg0.N) (r : Fin 6144) (k : Fin 8) :
    outAt0 V c t (ix4 0 0 r k) = Rpn.numS 256 (V c main_arg0) (V c main_v46) (V c main_v45) (V c main_v30) (V c main_v44)
      ⟨t.val / 32, (edges0 t).1⟩ (t.val % 32 * 6144 + r.val) k := by
  obtain ⟨e3, e4, e5, e6, e7⟩ := whole0 V c t
  unfold outAt0 out0
  rw [slab0_eq, e3, e4, e5, e6, e7]
  refine Rpn.level_at Rpn.fits0 Rpn.sizes0 rows0 _ _ _ _ (by pointwise) _ _ _ _ _ _ _ _ _ _ (fun a q j => ?_) (V c main_arg0) (V c main_v46) ⟨t.val / 32, (edges0 t).1⟩ (t.val % 32) 32
    rfl (Nat.mod_lt _ (by decide)) (edges0 t).2.1 (edges0 t).2.2 (near0 V c t).1 (near0 V c t).2.1 (near0 V c t).2.2 (fun i j ch h => ?_) r k
  · refine Eq.trans ?_ (hp a q j)
    refine congrArg (V c main_cst) (funext fun z => ?_)
    match z with
    | 0 => exact Fin.ext (by show a.val + 1 * 0 = a.val; omega)
    | 1 => exact Fin.ext (by show 0 + 1 * q.val = q.val; omega)
    | 2 => exact Fin.ext (by show 0 + 1 * j.val = j.val; omega)
  · refine congrArg (V c main_v46) (funext fun z => ?_)
    match z with
    | 0 => exact Fin.ext (by show i.val + 1 * 0 = i.val; omega)
    | 1 => exact Fin.ext (by show j.val + 1 * 0 = j.val; omega)
    | 2 => exact Fin.ext (by show 0 + 1 * ch.val = ch.val; omega)
    | 3 => exact Fin.ext (by show 0 + 1 * h.val = h.val; omega)

theorem final0 (c : Dev nD) (hp : ∀ (a : Fin 3) (q : Fin 384) (j : Fin 128), V c main_cst (ix3 a q j) = if q.val = 3 * j.val + a.val then (1 : EReal) else 0) :
    (dat0 V c).arrAt 8 cfg0.N = fun j => Rpn.numS 256 (V c main_arg0) (V c main_v46) (V c main_v45) (V c main_v30) (V c main_v44)
      (j 0) ((j 1).val * 6144 + (j 2).val) (j 3) := by
  refine (dat0 V c).arrAt_eq_of_covers 8 _ (by decide +kernel) fun t _ y => ?_
  blk_simp [idx0 t]
  rw [after0_8]
  obtain ⟨y0, y1, y2, y3, rfl⟩ : ∃ (y0 : Fin 1) (y1 : Fin 1) (y2 : Fin 6144) (y3 : Fin 8), y = ix4 y0 y1 y2 y3 := ⟨_, _, _, _, eq_ix4 y⟩
  obtain rfl : y0 = 0 := Subsingleton.elim _ _
  obtain rfl : y1 = 0 := Subsingleton.elim _ _
  refine (point0 V c hp t y2 y3).trans ?_
  have a0 : (⟨t.val / 32, (edges0 t).1⟩ : Fin 2) = (win0_8.blk t).view.emb (ix4 0 0 y2 y3) 0 := Fin.ext (by blk_simp [idx0 t]; rfl)
  have a3 : y3 = (win0_8.blk t).view.emb (ix4 0 0 y2 y3) 3 := Fin.ext (by blk_simp [idx0 t])
  exact congr (congrArg (fun b => Rpn.numS 256 (V c main_arg0) (V c main_v46) (V c main_v45) (V c main_v30) (V c main_v44) b (t.val % 32 * 6144 + y2.val)) a0) a3

end Cert.KernelIdeal.Gen
end
-- ==== Proof.Final1.lean ====
/- Launch 1's result array: entry by entry, what the level's rows are. -/
module

public import proofs.«01_k».proof.Proof.Region1
public import proofs.«01_k».proof.Proof.Level
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)

theorem rows1 : Rpn.Rows 16 128 := ⟨by decide, by decide, by decide, by decide, by decide⟩

/-- Where each window's block lies at a grid point. -/
theorem idx1 : ∀ t : Fin cfg1.N, win1_0.index t = ![t.val / 8, t.val % 8 * 16 - 1, 0, 0] ∧ win1_1.index t = ![t.val / 8, t.val % 8, 0, 0]
    ∧ win1_2.index t = ![t.val / 8, min (t.val % 8 * 16 + 16) 127, 0, 0] ∧ win1_3.index t = ![0, 0, 0, 0] ∧ win1_4.index t = ![0, 0]
    ∧ win1_5.index t = ![0, 0] ∧ win1_6.index t = ![0, 0] ∧ win1_7.index t = ![0, 0, 0] ∧ win1_8.index t = ![t.val / 8, t.val % 8, 0, 0] :=
  (by decide +kernel : ∀ t : Fin grid1.N, _)

/-- The two tests of a grid point: a row above, a row below. -/
theorem edges1 : ∀ t : Fin cfg1.N, t.val / 8 < 2
    ∧ (Scalar.cmpi .sgt (BitVec.ofNat 32 (grid1.coords t 1).val) 0#32 = 1 ↔ 0 < t.val % 8)
    ∧ (Scalar.cmpi .slt (BitVec.ofNat 32 (grid1.coords t 1).val) 7#32 = 1 ↔ t.val % 8 + 1 < 8) :=
  (by decide +kernel : ∀ t : Fin grid1.N, _)

variable (V : (c : Dev nD) → (b : Ref sig .tc) → Buf (Elt Ideal) ((c : Thread nD τ).loc b))

theorem slab1_eq (i : grid1.Coords) (x0 : Vec Ideal S1x1x128x256 .f32) (x1 : Vec Ideal S1x16x128x256 .f32) (x2 : Vec Ideal S1x1x128x256 .f32) :
    slab1 (F := Ideal) i x0 x1 x2 = Rpn.slabOf (T := 19) (wp := 136) (s := 128) (th := 16) (by decide) (by decide) (by decide) (Scalar.ofBits .bf16 0x0000#16)
      (Rpn.edgeRow rows1 (Scalar.cmpi .sgt (BitVec.ofNat 32 (i 1).val) 0#32) x0) (Rpn.midRows rows1 x1)
      (Rpn.edgeRow rows1 (Scalar.cmpi .slt (BitVec.ofNat 32 (i 1).val) 7#32) x2) := rfl

/-- The windows on whole arrays hold the arrays. -/
theorem whole1 (c : Dev nD) (t : Fin cfg1.N) : iblk1 V c 3 t = V c main_v46 ∧ iblk1 V c 4 t = V c main_v45 ∧ iblk1 V c 5 t = V c main_v30
    ∧ iblk1 V c 6 t = V c main_v44 ∧ iblk1 V c 7 t = V c main_cst := by
  have e := idx1 t
  refine ⟨?_, ?_, ?_, ?_, ?_⟩ <;> blk_ext! [iblk1, e]

/-- The row above, the block's rows and the row below, where there are such. -/
theorem near1 (c : Dev nD) (t : Fin cfg1.N) :
    (∀ (y k : Fin 128) (ch : Fin 256), y.val + 1 = t.val % 8 * 16 → iblk1 V c 0 t (ix4 0 0 k ch) = V c main_arg1 (ix4 ⟨t.val / 8, (edges1 t).1⟩ y k ch))
    ∧ (∀ (q : Fin 16) (y k : Fin 128) (ch : Fin 256), y.val = t.val % 8 * 16 + q.val → iblk1 V c 1 t (ix4 0 q k ch) = V c main_arg1 (ix4 ⟨t.val / 8, (edges1 t).1⟩ y k ch))
    ∧ (∀ (y k : Fin 128) (ch : Fin 256), y.val = t.val % 8 * 16 + 16 → iblk1 V c 2 t (ix4 0 0 k ch) = V c main_arg1 (ix4 ⟨t.val / 8, (edges1 t).1⟩ y k ch)) := by
  have e := idx1 t
  refine ⟨fun y k ch h => ?_, fun q y k ch h => ?_, fun y k ch h => ?_⟩ <;> blk_ext [iblk1, e]

/-- What the output window holds after a point, entry by entry. -/
theorem point1 (c : Dev nD) (hp : ∀ (a : Fin 3) (q : Fin 384) (j : Fin 128), V c main_cst (ix3 a q j) = if q.val = 3 * j.val + a.val then (1 : EReal) else 0)
    (t : Fin cfg1.N) (r : Fin 6144) (k : Fin 8) :
    outAt1 V c t (ix4 0 0 r k) = Rpn.numS 128 (V c main_arg1) (V c main_v46) (V c main_v45) (V c main_v30) (V c main_v44)
      ⟨t.val / 8, (edges1 t).1⟩ (t.val % 8 * 6144 + r.val) k := by
  obtain ⟨e3, e4, e5, e6, e7⟩ := whole1 V c t
  unfold outAt1 out1
  rw [slab1_eq, e3, e4, e5, e6, e7]
  refine Rpn.level_at Rpn.fits1 Rpn.sizes1 rows1 _ _ _ _ (by pointwise) _ _ _ _ _ _ _ _ _ _ (fun a q j => ?_) (V c main_arg1) (V c main_v46) ⟨t.val / 8, (edges1 t).1⟩ (t.val % 8) 8
    rfl (Nat.mod_lt _ (by decide)) (edges1 t).2.1 (edges1 t).2.2 (near1 V c t).1 (near1 V c t).2.1 (near1 V c t).2.2 (fun i j ch h => ?_) r k
  · refine Eq.trans ?_ (hp a q j)
    refine congrArg (V c main_cst) (funext fun z => ?_)
    match z with
    | 0 => exact Fin.ext (by show a.val + 1 * 0 = a.val; omega)
    | 1 => exact Fin.ext (by show 0 + 1 * q.val = q.val; omega)
    | 2 => exact Fin.ext (by show 0 + 1 * j.val = j.val; omega)
  · refine congrArg (V c main_v46) (funext fun z => ?_)
    match z with
    | 0 => exact Fin.ext (by show i.val + 1 * 0 = i.val; omega)
    | 1 => exact Fin.ext (by show j.val + 1 * 0 = j.val; omega)
    | 2 => exact Fin.ext (by show 0 + 1 * ch.val = ch.val; omega)
    | 3 => exact Fin.ext (by show 0 + 1 * h.val = h.val; omega)

theorem final1 (c : Dev nD) (hp : ∀ (a : Fin 3) (q : Fin 384) (j : Fin 128), V c main_cst (ix3 a q j) = if q.val = 3 * j.val + a.val then (1 : EReal) else 0) :
    (dat1 V c).arrAt 8 cfg1.N = fun j => Rpn.numS 128 (V c main_arg1) (V c main_v46) (V c main_v45) (V c main_v30) (V c main_v44)
      (j 0) ((j 1).val * 6144 + (j 2).val) (j 3) := by
  refine (dat1 V c).arrAt_eq_of_covers 8 _ (by decide +kernel) fun t _ y => ?_
  blk_simp [idx1 t]
  rw [after1_8]
  obtain ⟨y0, y1, y2, y3, rfl⟩ : ∃ (y0 : Fin 1) (y1 : Fin 1) (y2 : Fin 6144) (y3 : Fin 8), y = ix4 y0 y1 y2 y3 := ⟨_, _, _, _, eq_ix4 y⟩
  obtain rfl : y0 = 0 := Subsingleton.elim _ _
  obtain rfl : y1 = 0 := Subsingleton.elim _ _
  refine (point1 V c hp t y2 y3).trans ?_
  have a0 : (⟨t.val / 8, (edges1 t).1⟩ : Fin 2) = (win1_8.blk t).view.emb (ix4 0 0 y2 y3) 0 := Fin.ext (by blk_simp [idx1 t]; rfl)
  have a3 : y3 = (win1_8.blk t).view.emb (ix4 0 0 y2 y3) 3 := Fin.ext (by blk_simp [idx1 t])
  exact congr (congrArg (fun b => Rpn.numS 128 (V c main_arg1) (V c main_v46) (V c main_v45) (V c main_v30) (V c main_v44) b (t.val % 8 * 6144 + y2.val)) a0) a3

end Cert.KernelIdeal.Gen
end
-- ==== Proof.Final2.lean ====
/- Launch 2's result array: entry by entry, what the level's rows are. -/
module

public import proofs.«01_k».proof.Proof.Region2
public import proofs.«01_k».proof.Proof.Level
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)

theorem rows2 : Rpn.Rows 32 64 := ⟨by decide, by decide, by decide, by decide, by decide⟩

/-- Where each window's block lies at a grid point. -/
theorem idx2 : ∀ t : Fin cfg2.N, win2_0.index t = ![t.val / 2, t.val % 2 * 32 - 1, 0, 0] ∧ win2_1.index t = ![t.val / 2, t.val % 2, 0, 0]
    ∧ win2_2.index t = ![t.val / 2, min (t.val % 2 * 32 + 32) 63, 0, 0] ∧ win2_3.index t = ![0, 0, 0, 0] ∧ win2_4.index t = ![0, 0]
    ∧ win2_5.index t = ![0, 0] ∧ win2_6.index t = ![0, 0] ∧ win2_7.index t = ![0, 0, 0] ∧ win2_8.index t = ![t.val / 2, t.val % 2, 0, 0] :=
  (by decide +kernel : ∀ t : Fin grid2.N, _)

/-- The two tests of a grid point: a row above, a row below. -/
theorem edges2 : ∀ t : Fin cfg2.N, t.val / 2 < 2
    ∧ (Scalar.cmpi .sgt (BitVec.ofNat 32 (grid2.coords t 1).val) 0#32 = 1 ↔ 0 < t.val % 2)
    ∧ (Scalar.cmpi .slt (BitVec.ofNat 32 (grid2.coords t 1).val) 1#32 = 1 ↔ t.val % 2 + 1 < 2) :=
  (by decide +kernel : ∀ t : Fin grid2.N, _)

variable (V : (c : Dev nD) → (b : Ref sig .tc) → Buf (Elt Ideal) ((c : Thread nD τ).loc b))

theorem slab2_eq (i : grid2.Coords) (x0 : Vec Ideal S1x1x64x256 .f32) (x1 : Vec Ideal S1x32x64x256 .f32) (x2 : Vec Ideal S1x1x64x256 .f32) :
    slab2 (F := Ideal) i x0 x1 x2 = Rpn.slabOf (T := 35) (wp := 72) (s := 64) (th := 32) (by decide) (by decide) (by decide) (Scalar.ofBits .bf16 0x0000#16)
      (Rpn.edgeRow rows2 (Scalar.cmpi .sgt (BitVec.ofNat 32 (i 1).val) 0#32) x0) (Rpn.midRows rows2 x1)
      (Rpn.edgeRow rows2 (Scalar.cmpi .slt (BitVec.ofNat 32 (i 1).val) 1#32) x2) := rfl

/-- The windows on whole arrays hold the arrays. -/
theorem whole2 (c : Dev nD) (t : Fin cfg2.N) : iblk2 V c 3 t = V c main_v46 ∧ iblk2 V c 4 t = V c main_v45 ∧ iblk2 V c 5 t = V c main_v30
    ∧ iblk2 V c 6 t = V c main_v44 ∧ iblk2 V c 7 t = V c main_cst := by
  have e := idx2 t
  refine ⟨?_, ?_, ?_, ?_, ?_⟩ <;> blk_ext! [iblk2, e]

/-- The row above, the block's rows and the row below, where there are such. -/
theorem near2 (c : Dev nD) (t : Fin cfg2.N) :
    (∀ (y k : Fin 64) (ch : Fin 256), y.val + 1 = t.val % 2 * 32 → iblk2 V c 0 t (ix4 0 0 k ch) = V c main_arg2 (ix4 ⟨t.val / 2, (edges2 t).1⟩ y k ch))
    ∧ (∀ (q : Fin 32) (y k : Fin 64) (ch : Fin 256), y.val = t.val % 2 * 32 + q.val → iblk2 V c 1 t (ix4 0 q k ch) = V c main_arg2 (ix4 ⟨t.val / 2, (edges2 t).1⟩ y k ch))
    ∧ (∀ (y k : Fin 64) (ch : Fin 256), y.val = t.val % 2 * 32 + 32 → iblk2 V c 2 t (ix4 0 0 k ch) = V c main_arg2 (ix4 ⟨t.val / 2, (edges2 t).1⟩ y k ch)) := by
  have e := idx2 t
  refine ⟨fun y k ch h => ?_, fun q y k ch h => ?_, fun y k ch h => ?_⟩ <;> blk_ext [iblk2, e]

/-- What the output window holds after a point, entry by entry. -/
theorem point2 (c : Dev nD) (hp : ∀ (a : Fin 3) (q : Fin 384) (j : Fin 128), V c main_cst (ix3 a q j) = if q.val = 3 * j.val + a.val then (1 : EReal) else 0)
    (t : Fin cfg2.N) (r : Fin 6144) (k : Fin 8) :
    outAt2 V c t (ix4 0 0 r k) = Rpn.numS 64 (V c main_arg2) (V c main_v46) (V c main_v45) (V c main_v30) (V c main_v44)
      ⟨t.val / 2, (edges2 t).1⟩ (t.val % 2 * 6144 + r.val) k := by
  obtain ⟨e3, e4, e5, e6, e7⟩ := whole2 V c t
  unfold outAt2 out2
  rw [slab2_eq, e3, e4, e5, e6, e7]
  refine Rpn.level_at Rpn.fits2 Rpn.sizes2 rows2 _ _ _ _ (by pointwise) _ _ _ _ _ _ _ _ _ _ (fun a q j => ?_) (V c main_arg2) (V c main_v46) ⟨t.val / 2, (edges2 t).1⟩ (t.val % 2) 2
    rfl (Nat.mod_lt _ (by decide)) (edges2 t).2.1 (edges2 t).2.2 (near2 V c t).1 (near2 V c t).2.1 (near2 V c t).2.2 (fun i j ch h => ?_) r k
  · refine Eq.trans ?_ (hp a q j)
    refine congrArg (V c main_cst) (funext fun z => ?_)
    match z with
    | 0 => exact Fin.ext (by show a.val + 1 * 0 = a.val; omega)
    | 1 => exact Fin.ext (by show 0 + 1 * q.val = q.val; omega)
    | 2 => exact Fin.ext (by show 0 + 1 * j.val = j.val; omega)
  · refine congrArg (V c main_v46) (funext fun z => ?_)
    match z with
    | 0 => exact Fin.ext (by show i.val + 1 * 0 = i.val; omega)
    | 1 => exact Fin.ext (by show j.val + 1 * 0 = j.val; omega)
    | 2 => exact Fin.ext (by show 0 + 1 * ch.val = ch.val; omega)
    | 3 => exact Fin.ext (by show 0 + 1 * h.val = h.val; omega)

theorem final2 (c : Dev nD) (hp : ∀ (a : Fin 3) (q : Fin 384) (j : Fin 128), V c main_cst (ix3 a q j) = if q.val = 3 * j.val + a.val then (1 : EReal) else 0) :
    (dat2 V c).arrAt 8 cfg2.N = fun j => Rpn.numS 64 (V c main_arg2) (V c main_v46) (V c main_v45) (V c main_v30) (V c main_v44)
      (j 0) ((j 1).val * 6144 + (j 2).val) (j 3) := by
  refine (dat2 V c).arrAt_eq_of_covers 8 _ (by decide +kernel) fun t _ y => ?_
  blk_simp [idx2 t]
  rw [after2_8]
  obtain ⟨y0, y1, y2, y3, rfl⟩ : ∃ (y0 : Fin 1) (y1 : Fin 1) (y2 : Fin 6144) (y3 : Fin 8), y = ix4 y0 y1 y2 y3 := ⟨_, _, _, _, eq_ix4 y⟩
  obtain rfl : y0 = 0 := Subsingleton.elim _ _
  obtain rfl : y1 = 0 := Subsingleton.elim _ _
  refine (point2 V c hp t y2 y3).trans ?_
  have a0 : (⟨t.val / 2, (edges2 t).1⟩ : Fin 2) = (win2_8.blk t).view.emb (ix4 0 0 y2 y3) 0 := Fin.ext (by blk_simp [idx2 t]; rfl)
  have a3 : y3 = (win2_8.blk t).view.emb (ix4 0 0 y2 y3) 3 := Fin.ext (by blk_simp [idx2 t])
  exact congr (congrArg (fun b => Rpn.numS 64 (V c main_arg2) (V c main_v46) (V c main_v45) (V c main_v30) (V c main_v44) b (t.val % 2 * 6144 + y2.val)) a0) a3

end Cert.KernelIdeal.Gen
end
-- ==== Proof.Final3.lean ====
/- Launch 3's result array: entry by entry, what the level's rows are. -/
module

public import proofs.«01_k».proof.Proof.Region3
public import proofs.«01_k».proof.Proof.Level
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)

theorem rows3 : Rpn.Rows 32 32 := ⟨by decide, by decide, by decide, by decide, by decide⟩

/-- Where each window's block lies at a grid point. -/
theorem idx3 : ∀ t : Fin cfg3.N, win3_0.index t = ![t.val / 1, t.val % 1 * 32 - 1, 0, 0] ∧ win3_1.index t = ![t.val / 1, t.val % 1, 0, 0]
    ∧ win3_2.index t = ![t.val / 1, min (t.val % 1 * 32 + 32) 31, 0, 0] ∧ win3_3.index t = ![0, 0, 0, 0] ∧ win3_4.index t = ![0, 0]
    ∧ win3_5.index t = ![0, 0] ∧ win3_6.index t = ![0, 0] ∧ win3_7.index t = ![0, 0, 0] ∧ win3_8.index t = ![t.val / 1, t.val % 1, 0, 0] :=
  (by decide +kernel : ∀ t : Fin grid3.N, _)

/-- The two tests of a grid point: a row above, a row below. -/
theorem edges3 : ∀ t : Fin cfg3.N, t.val / 1 < 2
    ∧ (Scalar.cmpi .sgt (BitVec.ofNat 32 (grid3.coords t 1).val) 0#32 = 1 ↔ 0 < t.val % 1)
    ∧ (Scalar.cmpi .slt (BitVec.ofNat 32 (grid3.coords t 1).val) 0#32 = 1 ↔ t.val % 1 + 1 < 1) :=
  (by decide +kernel : ∀ t : Fin grid3.N, _)

variable (V : (c : Dev nD) → (b : Ref sig .tc) → Buf (Elt Ideal) ((c : Thread nD τ).loc b))

theorem slab3_eq (i : grid3.Coords) (x0 : Vec Ideal S1x1x32x256 .f32) (x1 : Vec Ideal S1x32x32x256 .f32) (x2 : Vec Ideal S1x1x32x256 .f32) :
    slab3 (F := Ideal) i x0 x1 x2 = Rpn.slabOf (T := 35) (wp := 40) (s := 32) (th := 32) (by decide) (by decide) (by decide) (Scalar.ofBits .bf16 0x0000#16)
      (Rpn.edgeRow rows3 (Scalar.cmpi .sgt (BitVec.ofNat 32 (i 1).val) 0#32) x0) (Rpn.midRows rows3 x1)
      (Rpn.edgeRow rows3 (Scalar.cmpi .slt (BitVec.ofNat 32 (i 1).val) 0#32) x2) := rfl

/-- The windows on whole arrays hold the arrays. -/
theorem whole3 (c : Dev nD) (t : Fin cfg3.N) : iblk3 V c 3 t = V c main_v46 ∧ iblk3 V c 4 t = V c main_v45 ∧ iblk3 V c 5 t = V c main_v30
    ∧ iblk3 V c 6 t = V c main_v44 ∧ iblk3 V c 7 t = V c main_cst := by
  have e := idx3 t
  refine ⟨?_, ?_, ?_, ?_, ?_⟩ <;> blk_ext! [iblk3, e]

/-- The row above, the block's rows and the row below, where there are such. -/
theorem near3 (c : Dev nD) (t : Fin cfg3.N) :
    (∀ (y k : Fin 32) (ch : Fin 256), y.val + 1 = t.val % 1 * 32 → iblk3 V c 0 t (ix4 0 0 k ch) = V c main_arg3 (ix4 ⟨t.val / 1, (edges3 t).1⟩ y k ch))
    ∧ (∀ (q : Fin 32) (y k : Fin 32) (ch : Fin 256), y.val = t.val % 1 * 32 + q.val → iblk3 V c 1 t (ix4 0 q k ch) = V c main_arg3 (ix4 ⟨t.val / 1, (edges3 t).1⟩ y k ch))
    ∧ (∀ (y k : Fin 32) (ch : Fin 256), y.val = t.val % 1 * 32 + 32 → iblk3 V c 2 t (ix4 0 0 k ch) = V c main_arg3 (ix4 ⟨t.val / 1, (edges3 t).1⟩ y k ch)) := by
  have e := idx3 t
  refine ⟨fun y k ch h => ?_, fun q y k ch h => ?_, fun y k ch h => ?_⟩ <;> blk_ext [iblk3, e]

/-- What the output window holds after a point, entry by entry. -/
theorem point3 (c : Dev nD) (hp : ∀ (a : Fin 3) (q : Fin 384) (j : Fin 128), V c main_cst (ix3 a q j) = if q.val = 3 * j.val + a.val then (1 : EReal) else 0)
    (t : Fin cfg3.N) (r : Fin 3072) (k : Fin 8) :
    outAt3 V c t (ix4 0 0 r k) = Rpn.numS 32 (V c main_arg3) (V c main_v46) (V c main_v45) (V c main_v30) (V c main_v44)
      ⟨t.val / 1, (edges3 t).1⟩ (t.val % 1 * 3072 + r.val) k := by
  obtain ⟨e3, e4, e5, e6, e7⟩ := whole3 V c t
  unfold outAt3 out3
  rw [slab3_eq, e3, e4, e5, e6, e7]
  refine Rpn.level_at Rpn.fits3 Rpn.sizes3 rows3 _ _ _ _ (by pointwise) _ _ _ _ _ _ _ _ _ _ (fun a q j => ?_) (V c main_arg3) (V c main_v46) ⟨t.val / 1, (edges3 t).1⟩ (t.val % 1) 1
    rfl (Nat.mod_lt _ (by decide)) (edges3 t).2.1 (edges3 t).2.2 (near3 V c t).1 (near3 V c t).2.1 (near3 V c t).2.2 (fun i j ch h => ?_) r k
  · refine Eq.trans ?_ (hp a q j)
    refine congrArg (V c main_cst) (funext fun z => ?_)
    match z with
    | 0 => exact Fin.ext (by show a.val + 1 * 0 = a.val; omega)
    | 1 => exact Fin.ext (by show 0 + 1 * q.val = q.val; omega)
    | 2 => exact Fin.ext (by show 0 + 1 * j.val = j.val; omega)
  · refine congrArg (V c main_v46) (funext fun z => ?_)
    match z with
    | 0 => exact Fin.ext (by show i.val + 1 * 0 = i.val; omega)
    | 1 => exact Fin.ext (by show j.val + 1 * 0 = j.val; omega)
    | 2 => exact Fin.ext (by show 0 + 1 * ch.val = ch.val; omega)
    | 3 => exact Fin.ext (by show 0 + 1 * h.val = h.val; omega)

theorem final3 (c : Dev nD) (hp : ∀ (a : Fin 3) (q : Fin 384) (j : Fin 128), V c main_cst (ix3 a q j) = if q.val = 3 * j.val + a.val then (1 : EReal) else 0) :
    (dat3 V c).arrAt 8 cfg3.N = fun j => Rpn.numS 32 (V c main_arg3) (V c main_v46) (V c main_v45) (V c main_v30) (V c main_v44)
      (j 0) ((j 1).val * 3072 + (j 2).val) (j 3) := by
  refine (dat3 V c).arrAt_eq_of_covers 8 _ (by decide +kernel) fun t _ y => ?_
  blk_simp [idx3 t]
  rw [after3_8]
  obtain ⟨y0, y1, y2, y3, rfl⟩ : ∃ (y0 : Fin 1) (y1 : Fin 1) (y2 : Fin 3072) (y3 : Fin 8), y = ix4 y0 y1 y2 y3 := ⟨_, _, _, _, eq_ix4 y⟩
  obtain rfl : y0 = 0 := Subsingleton.elim _ _
  obtain rfl : y1 = 0 := Subsingleton.elim _ _
  refine (point3 V c hp t y2 y3).trans ?_
  have a0 : (⟨t.val / 1, (edges3 t).1⟩ : Fin 2) = (win3_8.blk t).view.emb (ix4 0 0 y2 y3) 0 := Fin.ext (by blk_simp [idx3 t]; rfl)
  have a3 : y3 = (win3_8.blk t).view.emb (ix4 0 0 y2 y3) 3 := Fin.ext (by blk_simp [idx3 t])
  exact congr (congrArg (fun b => Rpn.numS 32 (V c main_arg3) (V c main_v46) (V c main_v45) (V c main_v30) (V c main_v44) b (t.val % 1 * 3072 + y2.val)) a0) a3

end Cert.KernelIdeal.Gen
end
-- ==== Proof.Final4.lean ====
/- Launch 4's result array: entry by entry, what the level's rows are. -/
module

public import proofs.«01_k».proof.Proof.Region4
public import proofs.«01_k».proof.Proof.Level
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)

theorem rows4 : Rpn.Rows 16 16 := ⟨by decide, by decide, by decide, by decide, by decide⟩

/-- Where each window's block lies at a grid point. -/
theorem idx4 : ∀ t : Fin cfg4.N, win4_0.index t = ![t.val / 1, t.val % 1 * 16 - 1, 0, 0] ∧ win4_1.index t = ![t.val / 1, t.val % 1, 0, 0]
    ∧ win4_2.index t = ![t.val / 1, min (t.val % 1 * 16 + 16) 15, 0, 0] ∧ win4_3.index t = ![0, 0, 0, 0] ∧ win4_4.index t = ![0, 0]
    ∧ win4_5.index t = ![0, 0] ∧ win4_6.index t = ![0, 0] ∧ win4_7.index t = ![0, 0, 0] ∧ win4_8.index t = ![t.val / 1, t.val % 1, 0, 0] :=
  (by decide +kernel : ∀ t : Fin grid4.N, _)

/-- The two tests of a grid point: a row above, a row below. -/
theorem edges4 : ∀ t : Fin cfg4.N, t.val / 1 < 2
    ∧ (Scalar.cmpi .sgt (BitVec.ofNat 32 (grid4.coords t 1).val) 0#32 = 1 ↔ 0 < t.val % 1)
    ∧ (Scalar.cmpi .slt (BitVec.ofNat 32 (grid4.coords t 1).val) 0#32 = 1 ↔ t.val % 1 + 1 < 1) :=
  (by decide +kernel : ∀ t : Fin grid4.N, _)

variable (V : (c : Dev nD) → (b : Ref sig .tc) → Buf (Elt Ideal) ((c : Thread nD τ).loc b))

theorem slab4_eq (i : grid4.Coords) (x0 : Vec Ideal S1x1x16x256 .f32) (x1 : Vec Ideal S1x16x16x256 .f32) (x2 : Vec Ideal S1x1x16x256 .f32) :
    slab4 (F := Ideal) i x0 x1 x2 = Rpn.slabOf (T := 19) (wp := 24) (s := 16) (th := 16) (by decide) (by decide) (by decide) (Scalar.ofBits .bf16 0x0000#16)
      (Rpn.edgeRow rows4 (Scalar.cmpi .sgt (BitVec.ofNat 32 (i 1).val) 0#32) x0) (Rpn.midRows rows4 x1)
      (Rpn.edgeRow rows4 (Scalar.cmpi .slt (BitVec.ofNat 32 (i 1).val) 0#32) x2) := rfl

/-- The windows on whole arrays hold the arrays. -/
theorem whole4 (c : Dev nD) (t : Fin cfg4.N) : iblk4 V c 3 t = V c main_v46 ∧ iblk4 V c 4 t = V c main_v45 ∧ iblk4 V c 5 t = V c main_v30
    ∧ iblk4 V c 6 t = V c main_v44 ∧ iblk4 V c 7 t = V c main_cst := by
  have e := idx4 t
  refine ⟨?_, ?_, ?_, ?_, ?_⟩ <;> blk_ext! [iblk4, e]

/-- The row above, the block's rows and the row below, where there are such. -/
theorem near4 (c : Dev nD) (t : Fin cfg4.N) :
    (∀ (y k : Fin 16) (ch : Fin 256), y.val + 1 = t.val % 1 * 16 → iblk4 V c 0 t (ix4 0 0 k ch) = V c main_arg4 (ix4 ⟨t.val / 1, (edges4 t).1⟩ y k ch))
    ∧ (∀ (q : Fin 16) (y k : Fin 16) (ch : Fin 256), y.val = t.val % 1 * 16 + q.val → iblk4 V c 1 t (ix4 0 q k ch) = V c main_arg4 (ix4 ⟨t.val / 1, (edges4 t).1⟩ y k ch))
    ∧ (∀ (y k : Fin 16) (ch : Fin 256), y.val = t.val % 1 * 16 + 16 → iblk4 V c 2 t (ix4 0 0 k ch) = V c main_arg4 (ix4 ⟨t.val / 1, (edges4 t).1⟩ y k ch)) := by
  have e := idx4 t
  refine ⟨fun y k ch h => ?_, fun q y k ch h => ?_, fun y k ch h => ?_⟩ <;> blk_ext [iblk4, e]

/-- What the output window holds after a point, entry by entry. -/
theorem point4 (c : Dev nD) (hp : ∀ (a : Fin 3) (q : Fin 384) (j : Fin 128), V c main_cst (ix3 a q j) = if q.val = 3 * j.val + a.val then (1 : EReal) else 0)
    (t : Fin cfg4.N) (r : Fin 768) (k : Fin 8) :
    outAt4 V c t (ix4 0 0 r k) = Rpn.numS 16 (V c main_arg4) (V c main_v46) (V c main_v45) (V c main_v30) (V c main_v44)
      ⟨t.val / 1, (edges4 t).1⟩ (t.val % 1 * 768 + r.val) k := by
  obtain ⟨e3, e4, e5, e6, e7⟩ := whole4 V c t
  unfold outAt4 out4
  rw [slab4_eq, e3, e4, e5, e6, e7]
  refine Rpn.level_at Rpn.fits4 Rpn.sizes4 rows4 _ _ _ _ (by pointwise) _ _ _ _ _ _ _ _ _ _ (fun a q j => ?_) (V c main_arg4) (V c main_v46) ⟨t.val / 1, (edges4 t).1⟩ (t.val % 1) 1
    rfl (Nat.mod_lt _ (by decide)) (edges4 t).2.1 (edges4 t).2.2 (near4 V c t).1 (near4 V c t).2.1 (near4 V c t).2.2 (fun i j ch h => ?_) r k
  · refine Eq.trans ?_ (hp a q j)
    refine congrArg (V c main_cst) (funext fun z => ?_)
    match z with
    | 0 => exact Fin.ext (by show a.val + 1 * 0 = a.val; omega)
    | 1 => exact Fin.ext (by show 0 + 1 * q.val = q.val; omega)
    | 2 => exact Fin.ext (by show 0 + 1 * j.val = j.val; omega)
  · refine congrArg (V c main_v46) (funext fun z => ?_)
    match z with
    | 0 => exact Fin.ext (by show i.val + 1 * 0 = i.val; omega)
    | 1 => exact Fin.ext (by show j.val + 1 * 0 = j.val; omega)
    | 2 => exact Fin.ext (by show 0 + 1 * ch.val = ch.val; omega)
    | 3 => exact Fin.ext (by show 0 + 1 * h.val = h.val; omega)

theorem final4 (c : Dev nD) (hp : ∀ (a : Fin 3) (q : Fin 384) (j : Fin 128), V c main_cst (ix3 a q j) = if q.val = 3 * j.val + a.val then (1 : EReal) else 0) :
    (dat4 V c).arrAt 8 cfg4.N = fun j => Rpn.numS 16 (V c main_arg4) (V c main_v46) (V c main_v45) (V c main_v30) (V c main_v44)
      (j 0) ((j 1).val * 768 + (j 2).val) (j 3) := by
  refine (dat4 V c).arrAt_eq_of_covers 8 _ (by decide +kernel) fun t _ y => ?_
  blk_simp [idx4 t]
  rw [after4_8]
  obtain ⟨y0, y1, y2, y3, rfl⟩ : ∃ (y0 : Fin 1) (y1 : Fin 1) (y2 : Fin 768) (y3 : Fin 8), y = ix4 y0 y1 y2 y3 := ⟨_, _, _, _, eq_ix4 y⟩
  obtain rfl : y0 = 0 := Subsingleton.elim _ _
  obtain rfl : y1 = 0 := Subsingleton.elim _ _
  refine (point4 V c hp t y2 y3).trans ?_
  have a0 : (⟨t.val / 1, (edges4 t).1⟩ : Fin 2) = (win4_8.blk t).view.emb (ix4 0 0 y2 y3) 0 := Fin.ext (by blk_simp [idx4 t]; rfl)
  have a3 : y3 = (win4_8.blk t).view.emb (ix4 0 0 y2 y3) 3 := Fin.ext (by blk_simp [idx4 t])
  exact congr (congrArg (fun b => Rpn.numS 16 (V c main_arg4) (V c main_v46) (V c main_v45) (V c main_v30) (V c main_v44) b (t.val % 1 * 768 + y2.val)) a0) a3

end Cert.KernelIdeal.Gen
end
-- ==== Proof.Tail.lean ====
/- The three results of the run: the five launches' arrays, joined along the rows and cut by columns, entry by entry. -/
module

public import proofs.«01_k».proof.Proof.Prefix
public import proofs.«01_k».proof.Proof.Stack
public import proofs.«01_k».proof.Proof.Final0
public import proofs.«01_k».proof.Proof.Final1
public import proofs.«01_k».proof.Proof.Final2
public import proofs.«01_k».proof.Proof.Final3
public import proofs.«01_k».proof.Proof.Final4

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

/-- What a launch does not write, it keeps. -/
theorem kept (r : Ref sig .tc) (h : r ∉ launchW) : W4 m c (Proc.devRef .tc r) = W3 m c (Proc.devRef .tc r)
    ∧ W6 m c (Proc.devRef .tc r) = W5 m c (Proc.devRef .tc r) ∧ W8 m c (Proc.devRef .tc r) = W7 m c (Proc.devRef .tc r)
    ∧ W10 m c (Proc.devRef .tc r) = W9 m c (Proc.devRef .tc r) := by
  simp only [launchW, List.mem_cons, not_or, List.not_mem_nil, not_false_eq_true, and_true] at h
  obtain ⟨-, g1, g2, g3, g4⟩ := h
  refine ⟨W4_of m c r fun w e => ?_, W6_of m c r fun w e => ?_, W8_of m c r fun w e => ?_, W10_of m c r fun w e => ?_⟩
  · by_contra hn; exact g1 (e.symm.trans (keeps1 w (by simpa using hn)))
  · by_contra hn; exact g2 (e.symm.trans (keeps2 w (by simpa using hn)))
  · by_contra hn; exact g3 (e.symm.trans (keeps3 w (by simpa using hn)))
  · by_contra hn; exact g4 (e.symm.trans (keeps4 w (by simpa using hn)))

/-- The arrays every launch reads hold, at each launch, what the first host operations left in them. -/
theorem reads_late : ∀ r ∈ [main_arg0, main_arg1, main_arg2, main_arg3, main_arg4, main_v46, main_v45, main_v30, main_v44, main_cst],
    W3 m c (Proc.devRef .tc r) = W1 m c (Proc.devRef .tc r) ∧ W5 m c (Proc.devRef .tc r) = W1 m c (Proc.devRef .tc r)
    ∧ W7 m c (Proc.devRef .tc r) = W1 m c (Proc.devRef .tc r) ∧ W9 m c (Proc.devRef .tc r) = W1 m c (Proc.devRef .tc r) := fun r hr =>
  have h : ∀ r ∈ [main_arg0, main_arg1, main_arg2, main_arg3, main_arg4, main_v46, main_v45, main_v30, main_v44, main_cst],
      r ∉ launchW ∧ r ∉ hostOps1_W ++ hostOps2_W ++ hostOps3_W ++ hostOps4_W := by decide +kernel
  have l := W_late m c r (h r hr).1 (h r hr).2
  ⟨l.1, l.2.1, l.2.2.1, l.2.2.2.1⟩

theorem array0 : (dat0 (atRefs (W1 m)) c).arrAt 8 cfg0.N
    = fun j => num m c 256 (W0 m c (Proc.devRef .tc main_arg0)) (j 0) ((j 1).val * 6144 + (j 2).val) (j 3) := by
  refine (final0 (atRefs (W1 m)) c fun a q j => hot_at m c a q j).trans ?_
  unfold num
  rw [show atRefs (W1 m) c main_arg0 = W0 m c (Proc.devRef .tc main_arg0) from start_of m c main_arg0 (by decide)]

/-- The level's rows, laid end to end. -/
def piece0 : (⟨3, ![2, 196608, 8]⟩ : Shape).Idx → EReal := shapeCast ⟨3, ![2, 196608, 8]⟩ (fun j : (⟨4, ![2, 32, 6144, 8]⟩ : Shape).Idx =>
  num m c 256 (W0 m c (Proc.devRef .tc main_arg0)) (j 0) ((j 1).val * 6144 + (j 2).val) (j 3)) (by decide)

theorem piece0_at (b : Fin 2) (r : Fin 196608) (k : Fin 8) : piece0 m c (ix3 b r k) = num m c 256 (W0 m c (Proc.devRef .tc main_arg0)) b r.val k := by
  unfold piece0
  rw [Rpn.rows_at (nb := 32) (O := 6144) _ _ (by decide) (by decide)]
  exact congrArg (fun r' => num m c 256 (W0 m c (Proc.devRef .tc main_arg0)) b r' k) (Nat.div_add_mod' r.val 6144)

theorem held0 : W10 m c (Proc.devRef .tc main_v48) = piece0 m c := by
  refine Eq.trans (((kept m c main_v48 (by decide)).2.2.2).trans ((W9_of m c main_v48 (by decide)).trans (((kept m c main_v48 (by decide)).2.2.1).trans ((W7_of m c main_v48 (by decide)).trans (((kept m c main_v48 (by decide)).2.1).trans ((W5_of m c main_v48 (by decide)).trans ((kept m c main_v48 (by decide)).1))))))) ?_
  unfold W3
  after_reads_simp
  rw [show W2 m c (Proc.devRef .tc main_v47) = _ from (W2_arr m c 8).trans (array0 m c)]
  rfl

theorem array1 : (dat1 (atRefs (W3 m)) c).arrAt 8 cfg1.N
    = fun j => num m c 128 (W0 m c (Proc.devRef .tc main_arg1)) (j 0) ((j 1).val * 6144 + (j 2).val) (j 3) := by
  have l := reads_late m c
  refine (final1 (atRefs (W3 m)) c fun a q j => ?_).trans ?_
  · exact (congrFun ((l main_cst (by decide)).1) _).trans (hot_at m c a q j)
  · unfold num
    rw [show atRefs (W3 m) c main_arg1 = W0 m c (Proc.devRef .tc main_arg1) from
        ((l main_arg1 (by decide)).1).trans (start_of m c main_arg1 (by decide)),
      show atRefs (W3 m) c main_v46 = W1 m c (Proc.devRef .tc main_v46) from (l main_v46 (by decide)).1,
      show atRefs (W3 m) c main_v45 = W1 m c (Proc.devRef .tc main_v45) from (l main_v45 (by decide)).1,
      show atRefs (W3 m) c main_v30 = W1 m c (Proc.devRef .tc main_v30) from (l main_v30 (by decide)).1,
      show atRefs (W3 m) c main_v44 = W1 m c (Proc.devRef .tc main_v44) from (l main_v44 (by decide)).1]

/-- The level's rows, laid end to end. -/
def piece1 : (⟨3, ![2, 49152, 8]⟩ : Shape).Idx → EReal := shapeCast ⟨3, ![2, 49152, 8]⟩ (fun j : (⟨4, ![2, 8, 6144, 8]⟩ : Shape).Idx =>
  num m c 128 (W0 m c (Proc.devRef .tc main_arg1)) (j 0) ((j 1).val * 6144 + (j 2).val) (j 3)) (by decide)

theorem piece1_at (b : Fin 2) (r : Fin 49152) (k : Fin 8) : piece1 m c (ix3 b r k) = num m c 128 (W0 m c (Proc.devRef .tc main_arg1)) b r.val k := by
  unfold piece1
  rw [Rpn.rows_at (nb := 8) (O := 6144) _ _ (by decide) (by decide)]
  exact congrArg (fun r' => num m c 128 (W0 m c (Proc.devRef .tc main_arg1)) b r' k) (Nat.div_add_mod' r.val 6144)

theorem held1 : W10 m c (Proc.devRef .tc main_v50) = piece1 m c := by
  refine Eq.trans (((kept m c main_v50 (by decide)).2.2.2).trans ((W9_of m c main_v50 (by decide)).trans (((kept m c main_v50 (by decide)).2.2.1).trans ((W7_of m c main_v50 (by decide)).trans ((kept m c main_v50 (by decide)).2.1))))) ?_
  unfold W5
  after_reads_simp
  rw [show W4 m c (Proc.devRef .tc main_v49) = _ from (W4_arr m c 8).trans (array1 m c)]
  rfl

theorem array2 : (dat2 (atRefs (W5 m)) c).arrAt 8 cfg2.N
    = fun j => num m c 64 (W0 m c (Proc.devRef .tc main_arg2)) (j 0) ((j 1).val * 6144 + (j 2).val) (j 3) := by
  have l := reads_late m c
  refine (final2 (atRefs (W5 m)) c fun a q j => ?_).trans ?_
  · exact (congrFun ((l main_cst (by decide)).2.1) _).trans (hot_at m c a q j)
  · unfold num
    rw [show atRefs (W5 m) c main_arg2 = W0 m c (Proc.devRef .tc main_arg2) from
        ((l main_arg2 (by decide)).2.1).trans (start_of m c main_arg2 (by decide)),
      show atRefs (W5 m) c main_v46 = W1 m c (Proc.devRef .tc main_v46) from (l main_v46 (by decide)).2.1,
      show atRefs (W5 m) c main_v45 = W1 m c (Proc.devRef .tc main_v45) from (l main_v45 (by decide)).2.1,
      show atRefs (W5 m) c main_v30 = W1 m c (Proc.devRef .tc main_v30) from (l main_v30 (by decide)).2.1,
      show atRefs (W5 m) c main_v44 = W1 m c (Proc.devRef .tc main_v44) from (l main_v44 (by decide)).2.1]

/-- The level's rows, laid end to end. -/
def piece2 : (⟨3, ![2, 12288, 8]⟩ : Shape).Idx → EReal := shapeCast ⟨3, ![2, 12288, 8]⟩ (fun j : (⟨4, ![2, 2, 6144, 8]⟩ : Shape).Idx =>
  num m c 64 (W0 m c (Proc.devRef .tc main_arg2)) (j 0) ((j 1).val * 6144 + (j 2).val) (j 3)) (by decide)

theorem piece2_at (b : Fin 2) (r : Fin 12288) (k : Fin 8) : piece2 m c (ix3 b r k) = num m c 64 (W0 m c (Proc.devRef .tc main_arg2)) b r.val k := by
  unfold piece2
  rw [Rpn.rows_at (nb := 2) (O := 6144) _ _ (by decide) (by decide)]
  exact congrArg (fun r' => num m c 64 (W0 m c (Proc.devRef .tc main_arg2)) b r' k) (Nat.div_add_mod' r.val 6144)

theorem held2 : W10 m c (Proc.devRef .tc main_v52) = piece2 m c := by
  refine Eq.trans (((kept m c main_v52 (by decide)).2.2.2).trans ((W9_of m c main_v52 (by decide)).trans ((kept m c main_v52 (by decide)).2.2.1))) ?_
  unfold W7
  after_reads_simp
  rw [show W6 m c (Proc.devRef .tc main_v51) = _ from (W6_arr m c 8).trans (array2 m c)]
  rfl

theorem array3 : (dat3 (atRefs (W7 m)) c).arrAt 8 cfg3.N
    = fun j => num m c 32 (W0 m c (Proc.devRef .tc main_arg3)) (j 0) ((j 1).val * 3072 + (j 2).val) (j 3) := by
  have l := reads_late m c
  refine (final3 (atRefs (W7 m)) c fun a q j => ?_).trans ?_
  · exact (congrFun ((l main_cst (by decide)).2.2.1) _).trans (hot_at m c a q j)
  · unfold num
    rw [show atRefs (W7 m) c main_arg3 = W0 m c (Proc.devRef .tc main_arg3) from
        ((l main_arg3 (by decide)).2.2.1).trans (start_of m c main_arg3 (by decide)),
      show atRefs (W7 m) c main_v46 = W1 m c (Proc.devRef .tc main_v46) from (l main_v46 (by decide)).2.2.1,
      show atRefs (W7 m) c main_v45 = W1 m c (Proc.devRef .tc main_v45) from (l main_v45 (by decide)).2.2.1,
      show atRefs (W7 m) c main_v30 = W1 m c (Proc.devRef .tc main_v30) from (l main_v30 (by decide)).2.2.1,
      show atRefs (W7 m) c main_v44 = W1 m c (Proc.devRef .tc main_v44) from (l main_v44 (by decide)).2.2.1]

/-- The level's rows, laid end to end. -/
def piece3 : (⟨3, ![2, 3072, 8]⟩ : Shape).Idx → EReal := shapeCast ⟨3, ![2, 3072, 8]⟩ (fun j : (⟨4, ![2, 1, 3072, 8]⟩ : Shape).Idx =>
  num m c 32 (W0 m c (Proc.devRef .tc main_arg3)) (j 0) ((j 1).val * 3072 + (j 2).val) (j 3)) (by decide)

theorem piece3_at (b : Fin 2) (r : Fin 3072) (k : Fin 8) : piece3 m c (ix3 b r k) = num m c 32 (W0 m c (Proc.devRef .tc main_arg3)) b r.val k := by
  unfold piece3
  rw [Rpn.rows_at (nb := 1) (O := 3072) _ _ (by decide) (by decide)]
  exact congrArg (fun r' => num m c 32 (W0 m c (Proc.devRef .tc main_arg3)) b r' k) (Nat.div_add_mod' r.val 3072)

theorem held3 : W10 m c (Proc.devRef .tc main_v54) = piece3 m c := by
  refine Eq.trans ((kept m c main_v54 (by decide)).2.2.2) ?_
  unfold W9
  after_reads_simp
  rw [show W8 m c (Proc.devRef .tc main_v53) = _ from (W8_arr m c 8).trans (array3 m c)]
  rfl

theorem array4 : (dat4 (atRefs (W9 m)) c).arrAt 8 cfg4.N
    = fun j => num m c 16 (W0 m c (Proc.devRef .tc main_arg4)) (j 0) ((j 1).val * 768 + (j 2).val) (j 3) := by
  have l := reads_late m c
  refine (final4 (atRefs (W9 m)) c fun a q j => ?_).trans ?_
  · exact (congrFun ((l main_cst (by decide)).2.2.2) _).trans (hot_at m c a q j)
  · unfold num
    rw [show atRefs (W9 m) c main_arg4 = W0 m c (Proc.devRef .tc main_arg4) from
        ((l main_arg4 (by decide)).2.2.2).trans (start_of m c main_arg4 (by decide)),
      show atRefs (W9 m) c main_v46 = W1 m c (Proc.devRef .tc main_v46) from (l main_v46 (by decide)).2.2.2,
      show atRefs (W9 m) c main_v45 = W1 m c (Proc.devRef .tc main_v45) from (l main_v45 (by decide)).2.2.2,
      show atRefs (W9 m) c main_v30 = W1 m c (Proc.devRef .tc main_v30) from (l main_v30 (by decide)).2.2.2,
      show atRefs (W9 m) c main_v44 = W1 m c (Proc.devRef .tc main_v44) from (l main_v44 (by decide)).2.2.2]

/-- The level's rows, laid end to end. -/
def piece4 : (⟨3, ![2, 768, 8]⟩ : Shape).Idx → EReal := shapeCast ⟨3, ![2, 768, 8]⟩ (fun j : (⟨4, ![2, 1, 768, 8]⟩ : Shape).Idx =>
  num m c 16 (W0 m c (Proc.devRef .tc main_arg4)) (j 0) ((j 1).val * 768 + (j 2).val) (j 3)) (by decide)

theorem piece4_at (b : Fin 2) (r : Fin 768) (k : Fin 8) : piece4 m c (ix3 b r k) = num m c 16 (W0 m c (Proc.devRef .tc main_arg4)) b r.val k := by
  unfold piece4
  rw [Rpn.rows_at (nb := 1) (O := 768) _ _ (by decide) (by decide)]
  exact congrArg (fun r' => num m c 16 (W0 m c (Proc.devRef .tc main_arg4)) b r' k) (Nat.div_add_mod' r.val 768)

/-- The levels joined. -/
def joined : (⟨3, ![2, 261888, 8]⟩ : Shape).Idx → EReal :=
  Rpn.join 8 concatenates_S2x196608x8_S2x49152x8_S2x12288x8_S2x3072x8_S2x768x8_S2x261888x8_d1 (piece0 m c) (piece1 m c) (piece2 m c) (piece3 m c) (piece4 m c)

theorem joined_eq : W11 m c (Proc.devRef .tc main_v57) = joined m c := by
  unfold W11
  after_reads_simp
  change Rpn.join 8 _ _ _ _ _ _ = Rpn.join 8 _ _ _ _ _ _
  refine congr (congr (congr (congrArg₂ (Rpn.join 8 _) ?_ ?_) ?_) ?_) ?_
  all_goals
    dsimp only [Matrix.cons_val_zero, Matrix.cons_val_one, Matrix.cons_val]
    after_reads_simp
  · exact held0 m c
  · exact held1 m c
  · exact held2 m c
  · exact held3 m c
  · rw [show W10 m c (Proc.devRef .tc main_v55) = _ from (W10_arr m c 8).trans (array4 m c)]
    rfl

theorem logits_eq : W11 m c (Proc.devRef .tc main_v58)
    = extractStridedSlice S2x261888x2 ![0, 0, 0] (joined m c) slices_S2x261888x8_S2x261888x2_0_0_0 := by
  rw [← joined_eq]
  unfold W11
  after_reads_simp

theorem probs_eq : W11 m c (Proc.devRef .tc main_v59)
    = extractStridedSlice S2x261888x2 ![0, 0, 2] (joined m c) slices_S2x261888x8_S2x261888x2_0_0_2 := by
  rw [← joined_eq]
  unfold W11
  after_reads_simp

theorem deltas_eq : W11 m c (Proc.devRef .tc main_v60)
    = extractStridedSlice S2x261888x4 ![0, 0, 4] (joined m c) slices_S2x261888x8_S2x261888x4_0_0_4 := by
  rw [← joined_eq]
  unfold W11
  after_reads_simp

end Cert.KernelIdeal.Gen
end
-- ==== Proof.RefValue.lean ====
/- The reference's one level at any size: the shared map, the two heads and the softmax of the pairs, as functions of their
   operands, and their entries. -/
module

public import proofs.«01_k».proof.Proof.Spec
public import Idealize.ShloMosaic.Lib.KernelVsHost
public import Idealize.ShloMosaic.Lib.StackMember

@[expose] public section

set_option maxRecDepth 16384

noncomputable section

namespace Rpn

open Idealize.ShloMosaic
open scoped BigOperators

/-- A map's last axis against a matrix. -/
def lastDot (s K N : ℕ) : DotDims ⟨4, ![2, s, s, K]⟩ ⟨2, ![K, N]⟩ ⟨4, ![2, s, s, N]⟩ where
  lhsContracting := [3]
  rhsContracting := [0]
  lhsNonContracting := [0, 1, 2]
  rhsNonContracting := [1]
  lhsBatch := []
  rhsBatch := []
  wf := ⟨rfl, by simp, rfl, by simp, by simp, by simp, (by decide : ([0, 1, 2, 3] : List (Fin 4)).Perm (List.finRange 4)),
    (by decide : ([1, 0] : List (Fin 2)).Perm (List.finRange 2)), rfl, Nat.succ_pos _, fun b => by fin_cases b <;> rfl⟩

theorem lastDot_aux {s K N : ℕ} (w : DotDims.WF ⟨4, ![2, s, s, K]⟩ ⟨2, ![K, N]⟩ ⟨4, ![2, s, s, N]⟩ [3] [0] [0, 1, 2] [1] [] [])
    (A : FVec Ideal ⟨4, ![2, s, s, K]⟩ .f32) (B : FVec Ideal ⟨2, ![K, N]⟩ .f32) (b : Fin 2) (y x : Fin s) (n : Fin N) :
    Host.dotGeneral (⟨[3], [0], [0, 1, 2], [1], [], [], w⟩ : DotDims _ _ _) none A B (ix4 b y x n) = ∑ k : Fin K, A (ix4 b y x k) * B (ix2 k n) := by
  show FloatOps.dotGeneral _ none _ A B (ix4 b y x n) = _
  rw [Ideal.dotGeneral_apply, ← Equiv.sum_comp (ValueIdx.contrEquiv1 (⟨[3], [0], [0, 1, 2], [1], [], [], w⟩ : DotDims _ _ _) K rfl rfl).symm]
  refine Finset.sum_congr rfl fun k _ => ?_
  have c2 := ValueIdx.contrEquiv1_symm_val (⟨[3], [0], [0, 1, 2], [1], [], [], w⟩ : DotDims ⟨4, ![2, s, s, K]⟩ ⟨2, ![K, N]⟩ ⟨4, ![2, s, s, N]⟩) K rfl rfl k
  have l2 : (⟨[3], [0], [0, 1, 2], [1], [], [], w⟩ : DotDims ⟨4, ![2, s, s, K]⟩ ⟨2, ![K, N]⟩ ⟨4, ![2, s, s, N]⟩).lhsIdx (ix4 b y x n)
      ((ValueIdx.contrEquiv1 _ K rfl rfl).symm k) = ix4 b y x k := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c2
  have r2 : (⟨[3], [0], [0, 1, 2], [1], [], [], w⟩ : DotDims ⟨4, ![2, s, s, K]⟩ ⟨2, ![K, N]⟩ ⟨4, ![2, s, s, N]⟩).rhsIdx (ix4 b y x n)
      ((ValueIdx.contrEquiv1 _ K rfl rfl).symm k) = ix2 k n := by
    funext ax; apply Fin.ext
    match ax with
    | ⟨0, _⟩ => simp [DotDims.rhsIdx]; exact c2
    | ⟨1, _⟩ => simp [DotDims.rhsIdx]; rfl
  rw [l2, r2]

theorem lastDot_apply {s K N : ℕ} (A : FVec Ideal ⟨4, ![2, s, s, K]⟩ .f32) (B : FVec Ideal ⟨2, ![K, N]⟩ .f32)
    (b : Fin 2) (y x : Fin s) (n : Fin N) :
    Host.dotGeneral (lastDot s K N) none A B (ix4 b y x n) = ∑ k : Fin K, A (ix4 b y x k) * B (ix2 k n) :=
  lastDot_aux (lastDot s K N).wf A B b y x n

/-- The shape conditions of one level of the reference: a map of `s` by `s`, bordered to `q`, and `n` anchors. -/
structure RefFits (s q n : ℕ) : Prop where
  hq : q = s + 2
  hn : n = 3 * (s * s)
  pd : Shape.Pads ⟨4, ![2, s, s, 256]⟩ ![0, 1, 1, 0] ![0, 1, 1, 0] ![0, 0, 0, 0] ⟨4, ![2, q, q, 256]⟩
  sl : ∀ a b : Fin 3, Shape.Slices ⟨4, ![2, q, q, 256]⟩ ![0, a.val, b.val, 0] ⟨4, ![2, s, s, 256]⟩
  z : Shape.BroadcastsInDim ⟨0, ![]⟩ ⟨4, ![2, s, s, 512]⟩ ![]
  c0 : Shape.BroadcastsInDim ⟨4, ![1, 1, 1, 512]⟩ ⟨4, ![2, s, s, 512]⟩ ![0, 1, 2, 3]
  c1 : Shape.BroadcastsInDim ⟨4, ![1, 1, 1, 6]⟩ ⟨4, ![2, s, s, 6]⟩ ![0, 1, 2, 3]
  c2 : Shape.BroadcastsInDim ⟨4, ![1, 1, 1, 12]⟩ ⟨4, ![2, s, s, 12]⟩ ![0, 1, 2, 3]
  r1 : Shape.ShapeCasts ⟨4, ![2, s, s, 6]⟩ ⟨3, ![2, n, 2]⟩
  r2 : Shape.ShapeCasts ⟨4, ![2, s, s, 12]⟩ ⟨3, ![2, n, 4]⟩
  rd : Shape.ReducesTo ⟨3, ![2, n, 2]⟩ [2] ⟨2, ![2, n]⟩
  e0 : Shape.BroadcastsInDim ⟨0, ![]⟩ ⟨2, ![2, n]⟩ ![]
  e1 : Shape.BroadcastsInDim ⟨2, ![2, n]⟩ ⟨3, ![2, n, 1]⟩ ![0, 1]
  e2 : Shape.BroadcastsInDim ⟨3, ![2, n, 1]⟩ ⟨3, ![2, n, 2]⟩ ![0, 1, 2]

theorem wsl (a b : Fin 3) : Shape.Slices ⟨4, ![3, 3, 256, 512]⟩ ![a.val, b.val, 0, 0] ⟨4, ![1, 1, 256, 512]⟩ := by
  revert a b; decide

section
variable {F : FTy → Type} [FloatOps F] {s q n : ℕ} (hf : RefFits s q n)

/-- The shared map of one level. -/
def refShared (X : FVec F ⟨4, ![2, s, s, 256]⟩ .f32) (W : FVec F ⟨4, ![3, 3, 256, 512]⟩ .f32) (bs : FVec F ⟨1, ![512]⟩ .f32) :
    FVec F ⟨4, ![2, s, s, 512]⟩ .f32 :=
  let P : FVec F ⟨4, ![2, q, q, 256]⟩ .f32 := pad ⟨4, ![2, q, q, 256]⟩ ![0, 1, 1, 0] ![0, 1, 1, 0] ![0, 0, 0, 0] X
    (sitofp .f32 (constantI ⟨0, ![]⟩ 32 0#32)) hf.pd (by decide)
  let t (a b : Fin 3) : FVec F ⟨4, ![2, s, s, 512]⟩ .f32 := Host.dotGeneral (lastDot s 256 512) none
    (extractStridedSlice ⟨4, ![2, s, s, 256]⟩ ![0, a.val, b.val, 0] P (hf.sl a b))
    (shapeCast ⟨2, ![256, 512]⟩ (extractStridedSlice ⟨4, ![1, 1, 256, 512]⟩ ![a.val, b.val, 0, 0] W (wsl a b)) (by decide))
  let z : FVec F ⟨4, ![2, s, s, 512]⟩ .f32 := broadcastInDim ⟨4, ![2, s, s, 512]⟩ ![] hf.z (constant ⟨0, ![]⟩ .f32 0x00000000#32)
  maximumf (addf (addf (addf (addf (addf (addf (addf (addf (addf (addf z (t 0 0)) (t 0 1)) (t 0 2)) (t 1 0)) (t 1 1)) (t 1 2)) (t 2 0)) (t 2 1)) (t 2 2))
    (broadcastInDim ⟨4, ![2, s, s, 512]⟩ ![0, 1, 2, 3] hf.c0 (broadcastInDim ⟨4, ![1, 1, 1, 512]⟩ ![3] (by decide) bs))) z

/-- The class numbers of one level, by anchor. -/
def refLogits (v : FVec F ⟨4, ![2, s, s, 512]⟩ .f32) (W : FVec F ⟨4, ![1, 1, 512, 6]⟩ .f32) (c : FVec F ⟨1, ![6]⟩ .f32) : FVec F ⟨3, ![2, n, 2]⟩ .f32 :=
  shapeCast ⟨3, ![2, n, 2]⟩ (addf (Host.dotGeneral (lastDot s 512 6) none v (shapeCast ⟨2, ![512, 6]⟩ W (by decide)))
    (broadcastInDim ⟨4, ![2, s, s, 6]⟩ ![0, 1, 2, 3] hf.c1 (broadcastInDim ⟨4, ![1, 1, 1, 6]⟩ ![3] (by decide) c))) hf.r1

/-- The box numbers of one level, by anchor. -/
def refDeltas (v : FVec F ⟨4, ![2, s, s, 512]⟩ .f32) (W : FVec F ⟨4, ![1, 1, 512, 12]⟩ .f32) (c : FVec F ⟨1, ![12]⟩ .f32) : FVec F ⟨3, ![2, n, 4]⟩ .f32 :=
  shapeCast ⟨3, ![2, n, 4]⟩ (addf (Host.dotGeneral (lastDot s 512 12) none v (shapeCast ⟨2, ![512, 12]⟩ W (by decide)))
    (broadcastInDim ⟨4, ![2, s, s, 12]⟩ ![0, 1, 2, 3] hf.c2 (broadcastInDim ⟨4, ![1, 1, 1, 12]⟩ ![3] (by decide) c))) hf.r2

/-- The softmax of each anchor's pair. -/
def refProbs (L : FVec F ⟨3, ![2, n, 2]⟩ .f32) : FVec F ⟨3, ![2, n, 2]⟩ .f32 :=
  let m : FVec F ⟨2, ![2, n]⟩ .f32 := maximumf (broadcastInDim ⟨2, ![2, n]⟩ ![] hf.e0 (constant ⟨0, ![]⟩ .f32 0xFF800000#32))
    (Host.reduce FloatOps.maximumf L (constant ⟨0, ![]⟩ .f32 0xFF800000#32) hf.rd (by decide))
  let e : FVec F ⟨3, ![2, n, 2]⟩ .f32 := Host.exp (subf L (broadcastInDim ⟨3, ![2, n, 2]⟩ ![0, 1, 2] hf.e2 (broadcastInDim ⟨3, ![2, n, 1]⟩ ![0, 1] hf.e1 m)))
  Host.divf e (broadcastInDim ⟨3, ![2, n, 2]⟩ ![0, 1, 2] hf.e2 (broadcastInDim ⟨3, ![2, n, 1]⟩ ![0, 1] hf.e1
    (Host.reduceAdd e (constant ⟨0, ![]⟩ .f32 0x00000000#32) hf.rd (by decide))))

end

section
variable {s q n : ℕ} (hf : RefFits s q n)

theorem pad_at (X : FVec Ideal ⟨4, ![2, s, s, 256]⟩ .f32) (b : Fin 2) (y x : Fin q) (c : Fin 256) :
    pad ⟨4, ![2, q, q, 256]⟩ ![0, 1, 1, 0] ![0, 1, 1, 0] ![0, 0, 0, 0] X (sitofp (F := Ideal) .f32 (constantI ⟨0, ![]⟩ 32 0#32)) hf.pd (by decide) (ix4 b y x c)
      = padS X b y.val x.val c := by
  unfold padS
  split_ifs with h
  · refine pad_apply_of_inside _ _ _ X _ hf.pd _ (ix4 b y x c) (ix4 b ⟨y.val - 1, by omega⟩ ⟨x.val - 1, by omega⟩ c) fun a => ?_
    match a with
    | ⟨0, _⟩ => show b.val = 0 + b.val * 1; omega
    | ⟨1, _⟩ => show y.val = 1 + (y.val - 1) * 1; omega
    | ⟨2, _⟩ => show x.val = 1 + (x.val - 1) * 1; omega
    | ⟨3, _⟩ => show c.val = 0 + c.val * 1; omega
  · have hz : sitofp (F := Ideal) .f32 (constantI ⟨0, ![]⟩ 32 0#32) (Shape.Idx.first (by decide : 0 < (⟨0, ![]⟩ : Shape).numel)) = (0 : EReal) := by
      pointwise
      show (((0#32 : BitVec 32).toInt : ℝ) : EReal) = 0
      simp
    refine Eq.trans ?_ hz
    by_cases hy : 1 ≤ y.val ∧ y.val ≤ s
    · refine pad_apply_of_not_inside _ _ _ X _ hf.pd _ (ix4 b y x c) 2 fun h2 => h ⟨hy, ?_⟩
      have h3 : 1 ≤ x.val ∧ (x.val - 1) % 1 = 0 ∧ (x.val - 1) / 1 < s := h2
      omega
    · refine pad_apply_of_not_inside _ _ _ X _ hf.pd _ (ix4 b y x c) 1 fun h2 => hy ?_
      have h3 : 1 ≤ y.val ∧ (y.val - 1) % 1 = 0 ∧ (y.val - 1) / 1 < s := h2
      omega

/-- A row of biases spread over a map. -/
theorem bias_at {N : ℕ} (h1 : Shape.BroadcastsInDim ⟨1, ![N]⟩ ⟨4, ![1, 1, 1, N]⟩ ![3]) (h2 : Shape.BroadcastsInDim ⟨4, ![1, 1, 1, N]⟩ ⟨4, ![2, s, s, N]⟩ ![0, 1, 2, 3])
    (c : (⟨1, ![N]⟩ : Shape).Idx → EReal) (b : Fin 2) (y x : Fin s) (k : Fin N) :
    broadcastInDim ⟨4, ![2, s, s, N]⟩ ![0, 1, 2, 3] h2 (broadcastInDim ⟨4, ![1, 1, 1, N]⟩ ![3] h1 c) (ix4 b y x k) = c (ix1 k) := by
  rw [broadcastInDim_apply ![0, 1, 2, 3] h2 _ (ix4 b y x k) (ix4 0 0 0 k) (fun a => by
      match a with
      | ⟨0, _⟩ => rfl
      | ⟨1, _⟩ => rfl
      | ⟨2, _⟩ => rfl
      | ⟨3, _⟩ =>
        show k.val = if N = 1 then 0 else k.val
        have := k.isLt
        split_ifs <;> omega)]
  exact broadcastInDim_apply ![3] h1 c (ix4 0 0 0 k) (ix1 k) (fun a => by
    match a with
    | ⟨0, _⟩ =>
      show k.val = if N = 1 then 0 else k.val
      have := k.isLt
      split_ifs <;> omega)

theorem refShared_at (X : FVec Ideal ⟨4, ![2, s, s, 256]⟩ .f32) (W : FVec Ideal ⟨4, ![3, 3, 256, 512]⟩ .f32) (bs : FVec Ideal ⟨1, ![512]⟩ .f32)
    (b : Fin 2) (y x : Fin s) (h : Fin 512) :
    refShared hf X W bs (ix4 b y x h) = sharedS X W bs b y.val x.val h := by
  have hz : (broadcastInDim ⟨4, ![2, s, s, 512]⟩ ![] hf.z (constant (F := Ideal) ⟨0, ![]⟩ .f32 0x00000000#32)) (ix4 b y x h) = (0 : EReal) := by
    pointwise
  have ht : ∀ i j : Fin 3, Host.dotGeneral (lastDot s 256 512) none
      (extractStridedSlice ⟨4, ![2, s, s, 256]⟩ ![0, i.val, j.val, 0] (pad ⟨4, ![2, q, q, 256]⟩ ![0, 1, 1, 0] ![0, 1, 1, 0] ![0, 0, 0, 0] X (sitofp (F := Ideal) .f32 (constantI ⟨0, ![]⟩ 32 0#32)) hf.pd (by decide)) (hf.sl i j))
      (shapeCast ⟨2, ![256, 512]⟩ (extractStridedSlice ⟨4, ![1, 1, 256, 512]⟩ ![i.val, j.val, 0, 0] W (wsl i j)) (by decide)) (ix4 b y x h)
      = tapS X W b y.val x.val h i j := fun i j => by
    have hq := hf.hq
    rw [lastDot_apply]
    refine Finset.sum_congr rfl fun c _ => congrArg₂ (· * ·) ?_ ?_
    · rw [extractStridedSlice_apply _ _ (hf.sl i j) (ix4 b y x c) (ix4 b ⟨y.val + i.val, by omega⟩ ⟨x.val + j.val, by omega⟩ c) (fun a => by
        match a with
        | ⟨0, _⟩ => show b.val = 0 + b.val; omega
        | ⟨1, _⟩ => show y.val + i.val = i.val + y.val; omega
        | ⟨2, _⟩ => show x.val + j.val = j.val + x.val; omega
        | ⟨3, _⟩ => show c.val = 0 + c.val; omega)]
      exact pad_at hf X b ⟨y.val + i.val, by omega⟩ ⟨x.val + j.val, by omega⟩ c
    · rw [shapeCast_apply _ _ (ix2 c h) (ix4 0 0 c h) (by
        rw [Shape.rowMajor_val_four, Shape.rowMajor_val_two]
        show ((0 * 1 + 0) * 256 + c.val) * 512 + h.val = c.val * 512 + h.val
        omega)]
      exact extractStridedSlice_apply _ W (wsl i j) (ix4 0 0 c h) (ix4 i j c h) (fun a => by
        match a with
        | ⟨0, _⟩ => rfl
        | ⟨1, _⟩ => rfl
        | ⟨2, _⟩ => show c.val = 0 + c.val; omega
        | ⟨3, _⟩ => show h.val = 0 + h.val; omega)
  exact congrArg₂ max (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((congrArg₂ (· + ·) hz (ht 0 0)).trans (zero_add _)) (ht 0 1)) (ht 0 2)) (ht 1 0)) (ht 1 1)) (ht 1 2)) (ht 2 0)) (ht 2 1)) (ht 2 2))
    (bias_at (by decide) hf.c0 bs b y x h)) hz

theorem head_at {N : ℕ} (v : FVec Ideal ⟨4, ![2, s, s, 512]⟩ .f32) (W : FVec Ideal ⟨4, ![1, 1, 512, N]⟩ .f32) (hw : Shape.ShapeCasts ⟨4, ![1, 1, 512, N]⟩ ⟨2, ![512, N]⟩)
    (b : Fin 2) (y x : Fin s) (k : Fin N) :
    Host.dotGeneral (lastDot s 512 N) none v (shapeCast ⟨2, ![512, N]⟩ W hw) (ix4 b y x k) = ∑ h : Fin 512, v (ix4 b y x h) * W (ix4 0 0 h k) := by
  rw [lastDot_apply]
  refine Finset.sum_congr rfl fun h _ => congrArg₂ (· * ·) rfl ?_
  exact shapeCast_apply _ _ (ix2 h k) (ix4 0 0 h k) (by
    rw [Shape.rowMajor_val_four, Shape.rowMajor_val_two]
    show ((0 * 1 + 0) * 512 + h.val) * N + k.val = h.val * N + k.val
    simp)

include hf in
theorem anchor_lt (r : Fin n) : r.val / 3 / s < s ∧ r.val / 3 % s < s := by
  have h : r.val < 3 * (s * s) := lt_of_lt_of_eq r.isLt hf.hn
  have h3 : r.val / 3 < s * s := by omega
  have hs : 0 < s := by rcases Nat.eq_zero_or_pos s with rfl | h0 <;> omega
  exact ⟨Nat.div_lt_of_lt_mul h3, Nat.mod_lt _ hs⟩

/-- An anchor's row-major place in a map of `3·w` columns. -/
theorem anchor_flat {b m w k : ℕ} (r : ℕ) (hn : m = 3 * (s * s)) :
    ((b * s + r / 3 / s) * s + r / 3 % s) * (3 * w) + (w * (r % 3) + k) = (b * m + r) * w + k := by
  have h1 : r / 3 / s * s + r / 3 % s = r / 3 := Nat.div_add_mod' _ _
  have h2 : r / 3 * 3 + r % 3 = r := Nat.div_add_mod' _ _
  generalize r / 3 / s = a at *
  generalize r / 3 % s = d at *
  generalize r % 3 = e at *
  rw [← h2, ← h1, hn]
  ring

theorem refLogits_at (v : FVec Ideal ⟨4, ![2, s, s, 512]⟩ .f32) (W : FVec Ideal ⟨4, ![1, 1, 512, 6]⟩ .f32) (c : FVec Ideal ⟨1, ![6]⟩ .f32)
    (b : Fin 2) (r : Fin n) (k : Fin 2) :
    refLogits hf v W c (ix3 b r k) = scoreS (fun h => v (ix4 b ⟨_, (anchor_lt hf r).1⟩ ⟨_, (anchor_lt hf r).2⟩ h))
      (fun h => W (ix4 0 0 h ⟨2 * (r.val % 3) + k.val, by omega⟩)) (c (ix1 ⟨2 * (r.val % 3) + k.val, by omega⟩)) := by
  unfold refLogits
  rw [shapeCast_apply _ hf.r1 (ix3 b r k) (ix4 b ⟨_, (anchor_lt hf r).1⟩ ⟨_, (anchor_lt hf r).2⟩ (⟨2 * (r.val % 3) + k.val, by omega⟩ : Fin 6)) (by
    rw [Shape.rowMajor_val_four, Shape.rowMajor_val_three]
    exact anchor_flat (b := b.val) (w := 2) (k := k.val) r.val hf.hn)]
  exact congrArg₂ (· + ·) (head_at v W (by decide) b _ _ _) (bias_at (by decide) hf.c1 c b _ _ _)

theorem refDeltas_at (v : FVec Ideal ⟨4, ![2, s, s, 512]⟩ .f32) (W : FVec Ideal ⟨4, ![1, 1, 512, 12]⟩ .f32) (c : FVec Ideal ⟨1, ![12]⟩ .f32)
    (b : Fin 2) (r : Fin n) (k : Fin 4) :
    refDeltas hf v W c (ix3 b r k) = scoreS (fun h => v (ix4 b ⟨_, (anchor_lt hf r).1⟩ ⟨_, (anchor_lt hf r).2⟩ h))
      (fun h => W (ix4 0 0 h ⟨4 * (r.val % 3) + k.val, by omega⟩)) (c (ix1 ⟨4 * (r.val % 3) + k.val, by omega⟩)) := by
  unfold refDeltas
  rw [shapeCast_apply _ hf.r2 (ix3 b r k) (ix4 b ⟨_, (anchor_lt hf r).1⟩ ⟨_, (anchor_lt hf r).2⟩ (⟨4 * (r.val % 3) + k.val, by omega⟩ : Fin 12)) (by
    rw [Shape.rowMajor_val_four, Shape.rowMajor_val_three]
    exact anchor_flat (b := b.val) (w := 4) (k := k.val) r.val hf.hn)]
  exact congrArg₂ (· + ·) (head_at v W (by decide) b _ _ _) (bias_at (by decide) hf.c2 c b _ _ _)

end

end Rpn
end
-- ==== Proof.Soft.lean ====
/- The softmax of a pair of reals is the logistic function of their difference, and a difference of two columns' scores is the
   score of the columns' difference: both over finite values. -/
module

public import proofs.«01_k».proof.Proof.RefValue

@[expose] public section

set_option maxRecDepth 16384

noncomputable section

namespace Rpn

open Idealize.ShloMosaic
open scoped BigOperators

/-! ## Finite values -/

/-- A real number among the extended reals. -/
def Fine (x : EReal) : Prop := ∃ r : ℝ, x = (r : EReal)

theorem Fine.zero : Fine 0 := ⟨0, EReal.coe_zero.symm⟩
theorem Fine.add {x y : EReal} (hx : Fine x) (hy : Fine y) : Fine (x + y) := by
  obtain ⟨a, rfl⟩ := hx; obtain ⟨b, rfl⟩ := hy; exact ⟨a + b, (EReal.coe_add a b).symm⟩
theorem Fine.mul {x y : EReal} (hx : Fine x) (hy : Fine y) : Fine (x * y) := by
  obtain ⟨a, rfl⟩ := hx; obtain ⟨b, rfl⟩ := hy; exact ⟨a * b, (EReal.coe_mul a b).symm⟩
theorem Fine.sup {x y : EReal} (hx : Fine x) (hy : Fine y) : Fine (max x y) := by
  rcases max_cases x y with h | h
  · rw [h.1]; exact hx
  · rw [h.1]; exact hy
theorem Fine.sum {n : ℕ} {f : Fin n → EReal} (hf : ∀ i, Fine (f i)) : Fine (∑ i, f i) := by
  induction n with
  | zero => rw [Fin.sum_univ_zero]; exact Fine.zero
  | succ n ih => rw [Fin.sum_univ_succ]; exact (hf 0).add (ih fun i => hf i.succ)
theorem Fine.of_lt {x : EReal} (h : max x (-x) < ⊤) : Fine x := by
  induction x with
  | bot => simp at h
  | top => simp at h
  | coe r => exact ⟨r, rfl⟩

section
variable {s : ℕ} {X : (⟨4, ![2, s, s, 256]⟩ : Shape).Idx → EReal} {W : (⟨4, ![3, 3, 256, 512]⟩ : Shape).Idx → EReal} {bs : (⟨1, ![512]⟩ : Shape).Idx → EReal}

theorem padS_fine (hX : ∀ j, Fine (X j)) (b : Fin 2) (y x : ℕ) (c : Fin 256) : Fine (padS X b y x c) := by
  unfold padS
  split_ifs
  · exact hX _
  · exact Fine.zero

theorem sharedS_fine (hX : ∀ j, Fine (X j)) (hW : ∀ j, Fine (W j)) (hb : ∀ j, Fine (bs j)) (b : Fin 2) (y x : ℕ) (h : Fin 512) :
    Fine (sharedS X W bs b y x h) := by
  have ht : ∀ i j, Fine (tapS X W b y x h i j) := fun i j => Fine.sum fun c => (padS_fine hX b _ _ c).mul (hW _)
  exact (((((((((((ht 0 0).add (ht 0 1)).add (ht 0 2)).add (ht 1 0)).add (ht 1 1)).add (ht 1 2)).add (ht 2 0)).add (ht 2 1)).add (ht 2 2)).add (hb _)).sup Fine.zero)
end

theorem scoreS_fine {v w : Fin 512 → EReal} {c : EReal} (hv : ∀ h, Fine (v h)) (hw : ∀ h, Fine (w h)) (hc : Fine c) : Fine (scoreS v w c) :=
  (Fine.sum fun h => (hv h).mul (hw h)).add hc

theorem coe_sum {n : ℕ} (f : Fin n → ℝ) : ((∑ i, f i : ℝ) : EReal) = ∑ i, (f i : EReal) := by
  induction n with
  | zero => rw [Fin.sum_univ_zero, Fin.sum_univ_zero, EReal.coe_zero]
  | succ n ih => rw [Fin.sum_univ_succ, Fin.sum_univ_succ, EReal.coe_add, ih]

/-- The score of a difference of columns is the difference of the scores. -/
theorem scoreS_gap {v w w' : Fin 512 → EReal} {c c' : EReal} (hv : ∀ h, Fine (v h)) (hw : ∀ h, Fine (w h)) (hw' : ∀ h, Fine (w' h)) (hc : Fine c)
    (hc' : Fine c') : scoreS v (fun h => w h - w' h) (c - c') = scoreS v w c - scoreS v w' c' := by
  obtain ⟨v, rfl⟩ : ∃ u : Fin 512 → ℝ, v = fun h => (u h : EReal) := ⟨fun h => (hv h).choose, funext fun h => (hv h).choose_spec⟩
  obtain ⟨w, rfl⟩ : ∃ u : Fin 512 → ℝ, w = fun h => (u h : EReal) := ⟨fun h => (hw h).choose, funext fun h => (hw h).choose_spec⟩
  obtain ⟨w', rfl⟩ : ∃ u : Fin 512 → ℝ, w' = fun h => (u h : EReal) := ⟨fun h => (hw' h).choose, funext fun h => (hw' h).choose_spec⟩
  obtain ⟨c, rfl⟩ := hc
  obtain ⟨c', rfl⟩ := hc'
  unfold scoreS
  simp only [← EReal.coe_sub, ← EReal.coe_mul, ← coe_sum, ← EReal.coe_add]
  refine congrArg _ ?_
  simp only [mul_sub, Finset.sum_sub_distrib]
  ring

/-! ## The softmax of a pair -/

theorem pair_real (a b M : ℝ) : Real.exp (a - M) * (1 / (Real.exp (a - M) + Real.exp (b - M))) = (1 + Real.exp (-(a - b)))⁻¹ := by
  have e : Real.exp (b - M) = Real.exp (a - M) * Real.exp (-(a - b)) := by rw [← Real.exp_add]; congr 1; ring
  rw [e]
  have p := Real.exp_pos (a - M)
  have q := Real.exp_pos (-(a - b))
  field_simp

section
variable {s q n : ℕ} (hf : RefFits s q n)

/-- A number for each anchor, spread over the anchor's pair. -/
theorem spread_pair (x : FVec Ideal ⟨2, ![2, n]⟩ .f32) (b : Fin 2) (r : Fin n) (k : Fin 2) :
    broadcastInDim ⟨3, ![2, n, 2]⟩ ![0, 1, 2] hf.e2 (broadcastInDim ⟨3, ![2, n, 1]⟩ ![0, 1] hf.e1 x) (ix3 b r k) = x (ix2 b r) := by
  have hr := r.isLt
  rw [broadcastInDim_apply ![0, 1, 2] hf.e2 _ (ix3 b r k) (ix3 b r 0) (fun a => by
    match a with
    | ⟨0, _⟩ => rfl
    | ⟨1, _⟩ =>
      show r.val = if n = 1 then 0 else r.val
      split_ifs <;> omega
    | ⟨2, _⟩ => rfl)]
  exact broadcastInDim_apply ![0, 1] hf.e1 x (ix3 b r 0) (ix2 b r) (fun a => by
    match a with
    | ⟨0, _⟩ => rfl
    | ⟨1, _⟩ =>
      show r.val = if n = 1 then 0 else r.val
      split_ifs <;> omega)

/-- The greater of each anchor's pair. -/
theorem top_at (L : FVec Ideal ⟨3, ![2, n, 2]⟩ .f32) (b : Fin 2) (r : Fin n) (p : Fin 2 → ℝ) (hp : ∀ k, L (ix3 b r k) = (p k : EReal)) :
    maximumf (F := Ideal) (broadcastInDim ⟨2, ![2, n]⟩ ![] hf.e0 (constant ⟨0, ![]⟩ .f32 0xFF800000#32))
      (Host.reduce FloatOps.maximumf L (constant ⟨0, ![]⟩ .f32 0xFF800000#32) hf.rd (by decide)) (ix2 b r) = ((max (p 0) (p 1) : ℝ) : EReal) := by
  pointwise
  have hb : Ideal.ofBits .f32 0xFF800000#32 = ⊥ := by simp [Ideal.ofBits, Ideal.ieee]
  rw [hb, show (Finset.univ : Finset (Fin 2)) = {0, 1} from rfl, Finset.fold_insert (by decide), Finset.fold_singleton, hp, hp]
  rw [bot_sup_eq, sup_bot_eq]
  exact (EReal.coe_strictMono.monotone.map_max).symm

theorem refProbs_at (L : FVec Ideal ⟨3, ![2, n, 2]⟩ .f32) (b : Fin 2) (r : Fin n) (k : Fin 2) (p : Fin 2 → ℝ) (hp : ∀ k, L (ix3 b r k) = (p k : EReal)) :
    refProbs hf L (ix3 b r k) = Ideal.logistic ((p k : EReal) - (p ⟨1 - k.val, by omega⟩ : EReal)) := by
  obtain ⟨M, hM⟩ : ∃ M : ℝ, maximumf (F := Ideal) (broadcastInDim ⟨2, ![2, n]⟩ ![] hf.e0 (constant ⟨0, ![]⟩ .f32 0xFF800000#32))
      (Host.reduce FloatOps.maximumf L (constant ⟨0, ![]⟩ .f32 0xFF800000#32) hf.rd (by decide)) (ix2 b r) = (M : EReal) := ⟨_, top_at hf L b r p hp⟩
  unfold refProbs
  generalize maximumf (F := Ideal) (broadcastInDim ⟨2, ![2, n]⟩ ![] hf.e0 (constant ⟨0, ![]⟩ .f32 0xFF800000#32))
      (Host.reduce FloatOps.maximumf L (constant ⟨0, ![]⟩ .f32 0xFF800000#32) hf.rd (by decide)) = m at hM ⊢
  dsimp only
  have he : ∀ k, Host.exp (subf L (broadcastInDim ⟨3, ![2, n, 2]⟩ ![0, 1, 2] hf.e2 (broadcastInDim ⟨3, ![2, n, 1]⟩ ![0, 1] hf.e1 m))) (ix3 b r k)
      = ((Real.exp (p k - M) : ℝ) : EReal) := fun k => by
    show Ideal.exp (L (ix3 b r k) - broadcastInDim ⟨3, ![2, n, 2]⟩ ![0, 1, 2] hf.e2 (broadcastInDim ⟨3, ![2, n, 1]⟩ ![0, 1] hf.e1 m) (ix3 b r k)) = _
    rw [spread_pair hf, hM, hp, ← EReal.coe_sub, Ideal.exp_coe]
  generalize Host.exp (subf L (broadcastInDim ⟨3, ![2, n, 2]⟩ ![0, 1, 2] hf.e2 (broadcastInDim ⟨3, ![2, n, 1]⟩ ![0, 1] hf.e1 m))) = e at he ⊢
  show Ideal.div (e (ix3 b r k)) (broadcastInDim ⟨3, ![2, n, 2]⟩ ![0, 1, 2] hf.e2 (broadcastInDim ⟨3, ![2, n, 1]⟩ ![0, 1] hf.e1
    (Host.reduceAdd e (constant ⟨0, ![]⟩ .f32 0x00000000#32) hf.rd (by decide))) (ix3 b r k)) = _
  rw [spread_pair hf]
  have hs : Host.reduceAdd e (constant ⟨0, ![]⟩ .f32 0x00000000#32) hf.rd (by decide) (ix2 b r)
      = ((Real.exp (p 0 - M) + Real.exp (p 1 - M) : ℝ) : EReal) := by
    pointwise
    rw [Fin.sum_univ_two, he, he, EReal.coe_add]
  have hpos : Real.exp (p 0 - M) + Real.exp (p 1 - M) ≠ 0 := (add_pos (Real.exp_pos _) (Real.exp_pos _)).ne'
  rw [hs, he, Ideal.div_coe hpos, ← EReal.coe_mul, ← EReal.coe_sub, Ideal.logistic_coe]
  refine congrArg _ ?_
  fin_cases k
  · exact pair_real (p 0) (p 1) M
  · exact (congrArg (fun z => Real.exp (p 1 - M) * (1 / z)) (add_comm _ _)).trans (pair_real (p 1) (p 0) M)
end

end Rpn
end
-- ==== Proof.RefLevels.lean ====
/- Each level of the reference's computation is the level at any size, at that size. -/
module

public import proofs.«01_k».proof.Proof.RefValue
public import proofs.«01_k».proof.Proof.Gen.ReferenceIdeal.Read

@[expose] public section

set_option maxRecDepth 16384

noncomputable section

namespace Rpn

open Idealize.ShloMosaic
open Cert.ReferenceIdeal Cert.ReferenceIdeal.Gen Cert.ReferenceIdeal.Read

variable {F : FTy → Type} [FloatOps F]

theorem refFits0 : RefFits 256 258 196608 :=
  ⟨rfl, rfl, by decide, by decide, by decide, by decide, by decide, by decide, by decide +kernel, by decide +kernel, by decide, by decide, by decide, by decide⟩

theorem refFits1 : RefFits 128 130 49152 :=
  ⟨rfl, rfl, by decide, by decide, by decide, by decide, by decide, by decide, by decide +kernel, by decide +kernel, by decide, by decide, by decide, by decide⟩

theorem refFits2 : RefFits 64 66 12288 :=
  ⟨rfl, rfl, by decide, by decide, by decide, by decide, by decide, by decide, by decide +kernel, by decide +kernel, by decide, by decide, by decide, by decide⟩

theorem refFits3 : RefFits 32 34 3072 :=
  ⟨rfl, rfl, by decide, by decide, by decide, by decide, by decide, by decide, by decide +kernel, by decide +kernel, by decide, by decide, by decide, by decide⟩

theorem refFits4 : RefFits 16 18 768 :=
  ⟨rfl, rfl, by decide, by decide, by decide, by decide, by decide, by decide, by decide +kernel, by decide +kernel, by decide, by decide, by decide, by decide⟩

theorem shared0 (X : FVec F ⟨4, ![2, 256, 256, 256]⟩ .f32) (W : FVec F ⟨4, ![3, 3, 256, 512]⟩ .f32) (bs : FVec F ⟨1, ![512]⟩ .f32) : val_main_v51 (F := F) X W bs = refShared refFits0 X W bs := rfl
theorem logits0 (X : FVec F ⟨4, ![2, 256, 256, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v57 (F := F) X W bs wc bc = refLogits refFits0 (refShared refFits0 X W bs) wc bc := congrArg (fun v => refLogits refFits0 v wc bc) (shared0 X W bs)
theorem probs0 (X : FVec F ⟨4, ![2, 256, 256, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v68 (F := F) X W bs wc bc = refProbs refFits0 (refLogits refFits0 (refShared refFits0 X W bs) wc bc) := congrArg (fun v => refProbs refFits0 v) (logits0 X W bs wc bc)
theorem deltas0 (X : FVec F ⟨4, ![2, 256, 256, 256]⟩ .f32) (W : FVec F ⟨4, ![3, 3, 256, 512]⟩ .f32) (bs : FVec F ⟨1, ![512]⟩ .f32) (wr : FVec F ⟨4, ![1, 1, 512, 12]⟩ .f32) (br : FVec F ⟨1, ![12]⟩ .f32) :
    val_main_v74 (F := F) X W bs wr br = refDeltas refFits0 (refShared refFits0 X W bs) wr br := congrArg (fun v => refDeltas refFits0 v wr br) (shared0 X W bs)

theorem shared1 (X : FVec F ⟨4, ![2, 128, 128, 256]⟩ .f32) (W : FVec F ⟨4, ![3, 3, 256, 512]⟩ .f32) (bs : FVec F ⟨1, ![512]⟩ .f32) : val_main_v126 (F := F) X W bs = refShared refFits1 X W bs := rfl
theorem logits1 (X : FVec F ⟨4, ![2, 128, 128, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v132 (F := F) X W bs wc bc = refLogits refFits1 (refShared refFits1 X W bs) wc bc := congrArg (fun v => refLogits refFits1 v wc bc) (shared1 X W bs)
theorem probs1 (X : FVec F ⟨4, ![2, 128, 128, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v143 (F := F) X W bs wc bc = refProbs refFits1 (refLogits refFits1 (refShared refFits1 X W bs) wc bc) := congrArg (fun v => refProbs refFits1 v) (logits1 X W bs wc bc)
theorem deltas1 (X : FVec F ⟨4, ![2, 128, 128, 256]⟩ .f32) (W : FVec F ⟨4, ![3, 3, 256, 512]⟩ .f32) (bs : FVec F ⟨1, ![512]⟩ .f32) (wr : FVec F ⟨4, ![1, 1, 512, 12]⟩ .f32) (br : FVec F ⟨1, ![12]⟩ .f32) :
    val_main_v149 (F := F) X W bs wr br = refDeltas refFits1 (refShared refFits1 X W bs) wr br := congrArg (fun v => refDeltas refFits1 v wr br) (shared1 X W bs)

theorem shared2 (X : FVec F ⟨4, ![2, 64, 64, 256]⟩ .f32) (W : FVec F ⟨4, ![3, 3, 256, 512]⟩ .f32) (bs : FVec F ⟨1, ![512]⟩ .f32) : val_main_v201 (F := F) X W bs = refShared refFits2 X W bs := rfl
theorem logits2 (X : FVec F ⟨4, ![2, 64, 64, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v207 (F := F) X W bs wc bc = refLogits refFits2 (refShared refFits2 X W bs) wc bc := congrArg (fun v => refLogits refFits2 v wc bc) (shared2 X W bs)
theorem probs2 (X : FVec F ⟨4, ![2, 64, 64, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v218 (F := F) X W bs wc bc = refProbs refFits2 (refLogits refFits2 (refShared refFits2 X W bs) wc bc) := congrArg (fun v => refProbs refFits2 v) (logits2 X W bs wc bc)
theorem deltas2 (X : FVec F ⟨4, ![2, 64, 64, 256]⟩ .f32) (W : FVec F ⟨4, ![3, 3, 256, 512]⟩ .f32) (bs : FVec F ⟨1, ![512]⟩ .f32) (wr : FVec F ⟨4, ![1, 1, 512, 12]⟩ .f32) (br : FVec F ⟨1, ![12]⟩ .f32) :
    val_main_v224 (F := F) X W bs wr br = refDeltas refFits2 (refShared refFits2 X W bs) wr br := congrArg (fun v => refDeltas refFits2 v wr br) (shared2 X W bs)

theorem shared3 (X : FVec F ⟨4, ![2, 32, 32, 256]⟩ .f32) (W : FVec F ⟨4, ![3, 3, 256, 512]⟩ .f32) (bs : FVec F ⟨1, ![512]⟩ .f32) : val_main_v276 (F := F) X W bs = refShared refFits3 X W bs := rfl
theorem logits3 (X : FVec F ⟨4, ![2, 32, 32, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v282 (F := F) X W bs wc bc = refLogits refFits3 (refShared refFits3 X W bs) wc bc := congrArg (fun v => refLogits refFits3 v wc bc) (shared3 X W bs)
theorem probs3 (X : FVec F ⟨4, ![2, 32, 32, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v293 (F := F) X W bs wc bc = refProbs refFits3 (refLogits refFits3 (refShared refFits3 X W bs) wc bc) := congrArg (fun v => refProbs refFits3 v) (logits3 X W bs wc bc)
theorem deltas3 (X : FVec F ⟨4, ![2, 32, 32, 256]⟩ .f32) (W : FVec F ⟨4, ![3, 3, 256, 512]⟩ .f32) (bs : FVec F ⟨1, ![512]⟩ .f32) (wr : FVec F ⟨4, ![1, 1, 512, 12]⟩ .f32) (br : FVec F ⟨1, ![12]⟩ .f32) :
    val_main_v299 (F := F) X W bs wr br = refDeltas refFits3 (refShared refFits3 X W bs) wr br := congrArg (fun v => refDeltas refFits3 v wr br) (shared3 X W bs)

theorem shared4 (X : FVec F ⟨4, ![2, 16, 16, 256]⟩ .f32) (W : FVec F ⟨4, ![3, 3, 256, 512]⟩ .f32) (bs : FVec F ⟨1, ![512]⟩ .f32) : val_main_v351 (F := F) X W bs = refShared refFits4 X W bs := rfl
theorem logits4 (X : FVec F ⟨4, ![2, 16, 16, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v357 (F := F) X W bs wc bc = refLogits refFits4 (refShared refFits4 X W bs) wc bc := congrArg (fun v => refLogits refFits4 v wc bc) (shared4 X W bs)
theorem probs4 (X : FVec F ⟨4, ![2, 16, 16, 256]⟩ .f32) (W : FVec F ⟨4, ![3, 3, 256, 512]⟩ .f32) (bs : FVec F ⟨1, ![512]⟩ .f32) (wc : FVec F ⟨4, ![1, 1, 512, 6]⟩ .f32) (bc : FVec F ⟨1, ![6]⟩ .f32) :
    val_main_v368 (F := F) X W bs wc bc = refProbs refFits4 (refLogits refFits4 (refShared refFits4 X W bs) wc bc) := congrArg (fun v => refProbs refFits4 v) (logits4 X W bs wc bc)
theorem deltas4 (X : FVec F ⟨4, ![2, 16, 16, 256]⟩ .f32) (W : FVec F ⟨4, ![3, 3, 256, 512]⟩ .f32) (bs : FVec F ⟨1, ![512]⟩ .f32) (wr : FVec F ⟨4, ![1, 1, 512, 12]⟩ .f32) (br : FVec F ⟨1, ![12]⟩ .f32) :
    val_main_v374 (F := F) X W bs wr br = refDeltas refFits4 (refShared refFits4 X W bs) wr br := congrArg (fun v => refDeltas refFits4 v wr br) (shared4 X W bs)

end Rpn
end
-- ==== Proof.Agree.lean ====
/- Each level's eight numbers per anchor are the reference's: the two logits and the four box numbers over every input, the two
   probabilities over finite inputs. -/
module

public import proofs.«01_k».proof.Proof.Tail
public import proofs.«01_k».proof.Proof.Soft
public import proofs.«01_k».proof.Proof.RefLevels

@[expose] public section

set_option maxRecDepth 65536

noncomputable section

namespace Cert.KernelIdeal.Gen

open Idealize.ShloMosaic Idealize.ShloMosaic.TcCoe Idealize.SL.Sem

variable (m : (ℓ : Loc nD τ sig) → Buf (Elt Ideal) ℓ) (c : Dev nD)

section
variable {s q n : ℕ} (hf : Rpn.RefFits s q n) (X : FVec Ideal ⟨4, ![2, s, s, 256]⟩ .f32)

/-- The reference's activations of a level over the launch's filter and bias. -/
def levelShared : FVec Ideal ⟨4, ![2, s, s, 512]⟩ .f32 :=
  Rpn.refShared hf X (W0 m c (Proc.devRef .tc main_arg5)) (W0 m c (Proc.devRef .tc main_arg6))
/-- The reference's logits of a level. -/
def levelLogits : FVec Ideal ⟨3, ![2, n, 2]⟩ .f32 :=
  Rpn.refLogits hf (levelShared m c hf X) (W0 m c (Proc.devRef .tc main_arg7)) (W0 m c (Proc.devRef .tc main_arg8))
/-- The reference's box numbers of a level. -/
def levelDeltas : FVec Ideal ⟨3, ![2, n, 4]⟩ .f32 :=
  Rpn.refDeltas hf (levelShared m c hf X) (W0 m c (Proc.devRef .tc main_arg9)) (W0 m c (Proc.devRef .tc main_arg10))

theorem levelShared_at (b : Fin 2) (r : Fin n) :
    (fun h => levelShared m c hf X (ix4 b ⟨_, (Rpn.anchor_lt hf r).1⟩ ⟨_, (Rpn.anchor_lt hf r).2⟩ h)) = act m c s X b r.val :=
  funext fun h => Rpn.refShared_at hf X _ _ b _ _ h

theorem levelLogits_at (b : Fin 2) (r : Fin n) (k : Fin 2) : levelLogits m c hf X (ix3 b r k)
    = Rpn.scoreS (act m c s X b r.val) (colC m c ⟨2 * (r.val % 3) + k.val, by omega⟩) (biasC m c ⟨2 * (r.val % 3) + k.val, by omega⟩) := by
  unfold levelLogits
  rw [Rpn.refLogits_at, levelShared_at]
  rfl

theorem agree_logits (b : Fin 2) (r : Fin n) (k : Fin 2) : num m c s X b r.val ⟨0 + k.val, by omega⟩ = levelLogits m c hf X (ix3 b r k) := by
  rw [levelLogits_at, ← num_logit]
  exact congrArg _ (Fin.ext (Nat.zero_add _))

theorem agree_deltas (b : Fin 2) (r : Fin n) (k : Fin 4) : num m c s X b r.val ⟨4 + k.val, by omega⟩ = levelDeltas m c hf X (ix3 b r k) := by
  unfold levelDeltas
  rw [Rpn.refDeltas_at, levelShared_at, num_delta]
  rfl

/-- The inputs the probabilities read beside the level's own: real numbers. -/
structure FineHeads : Prop where
  filter : ∀ j, Rpn.Fine (W0 m c (Proc.devRef .tc main_arg5) j)
  bias : ∀ j, Rpn.Fine (W0 m c (Proc.devRef .tc main_arg6) j)
  cols : ∀ j, Rpn.Fine (W0 m c (Proc.devRef .tc main_arg7) j)
  colBias : ∀ j, Rpn.Fine (W0 m c (Proc.devRef .tc main_arg8) j)

theorem agree_probs (hh : FineHeads m c) (hX : ∀ j, Rpn.Fine (X j)) (b : Fin 2) (r : Fin n) (k : Fin 2) :
    num m c s X b r.val ⟨2 + k.val, by omega⟩ = Rpn.refProbs hf (levelLogits m c hf X) (ix3 b r k) := by
  have ha : ∀ h, Rpn.Fine (act m c s X b r.val h) := fun h => Rpn.sharedS_fine hX hh.filter hh.bias b _ _ h
  have hw : ∀ p h, Rpn.Fine (colC m c p h) := fun p h => hh.cols _
  have hb : ∀ p, Rpn.Fine (biasC m c p) := fun p => hh.colBias _
  have hp : ∀ k : Fin 2, Rpn.Fine (levelLogits m c hf X (ix3 b r k)) := fun k => by
    rw [levelLogits_at]
    exact Rpn.scoreS_fine ha (hw _) (hb _)
  rw [num_gap, Rpn.scoreS_gap ha (hw _) (hw _) (hb _) (hb _),
    Rpn.refProbs_at hf (levelLogits m c hf X) b r k (fun k => (hp k).choose) (fun k => (hp k).choose_spec)]
  refine congrArg Ideal.logistic (congrArg₂ (fun x y : EReal => x - y) ?_ ?_)
  · exact (levelLogits_at m c hf X b r k).symm.trans (hp k).choose_spec
  · exact (levelLogits_at m c hf X b r ⟨1 - k.val, by omega⟩).symm.trans (hp ⟨1 - k.val, by omega⟩).choose_spec
end

end Cert.KernelIdeal.Gen
end
-- ==== Proof.Joined.lean ====
/- The kernel's three results are the reference's, and what the precondition says of the inputs. -/
module

public import proofs.«01_k».proof.Pre_finite
public import proofs.«01_k».proof.Proof.Agree

@[expose] public section

set_option maxRecDepth 65536

noncomputable section

namespace Rpn

open Idealize.ShloMosaic

/-- What the comparison with the infinity says, entry by entry. -/
theorem fine_of_below {S : Shape} (h : (⟨0, ![]⟩ : Shape).BroadcastsInDim S ![]) (x : FVec Ideal S .f32)
    (e : cmpf .olt (Host.absf x) (broadcastInDim S ![] h (constant ⟨0, ![]⟩ .f32 0x7F800000#32)) = fun _ => 1#1) (j : S.Idx) : Fine (x j) := by
  have t : Ideal.ofBits .f32 0x7F800000#32 = ⊤ := by simp [Ideal.ofBits, Ideal.ieee]
  have p : Ideal.cmp .olt (max (x j) (-x j)) (Ideal.ofBits .f32 0x7F800000#32) = 1#1 := congrFun e j
  rw [t] at p
  refine Fine.of_lt ?_
  by_contra hn
  simp [Ideal.cmp, hn] at p

/-- The witnesses of the precondition's stated facts. -/
theorem finiteFacts : Cert.Pre_finite.Facts :=
  ⟨by decide, by decide, by decide, by decide, by decide, by decide, by decide, by decide, by decide⟩

end Rpn

namespace Cert.KernelIdeal.Gen

open Idealize.ShloMosaic Idealize.ShloMosaic.TcCoe Idealize.SL.Sem
open Cert.ReferenceIdeal.Read

variable (m : (ℓ : Loc nD τ sig) → Buf (Elt Ideal) ℓ) (c : Dev nD)

theorem logits_ref : W11 m c (Proc.devRef .tc main_v58)
    = val_main_v375 (F := Ideal) (W0 m c (Proc.devRef .tc main_arg0)) (W0 m c (Proc.devRef .tc main_arg1)) (W0 m c (Proc.devRef .tc main_arg2))
        (W0 m c (Proc.devRef .tc main_arg3)) (W0 m c (Proc.devRef .tc main_arg4)) (W0 m c (Proc.devRef .tc main_arg5)) (W0 m c (Proc.devRef .tc main_arg6))
        (W0 m c (Proc.devRef .tc main_arg7)) (W0 m c (Proc.devRef .tc main_arg8)) := by
  unfold val_main_v375
  rw [logits_eq, Rpn.logits0, Rpn.logits1, Rpn.logits2, Rpn.logits3, Rpn.logits4]
  exact Rpn.join_columns _ _ _ _ _ _ _ (by decide) _ _ _ _ _ _
    (fun b r k => (piece0_at m c b r _).trans (agree_logits m c Rpn.refFits0 _ b r k))
    (fun b r k => (piece1_at m c b r _).trans (agree_logits m c Rpn.refFits1 _ b r k))
    (fun b r k => (piece2_at m c b r _).trans (agree_logits m c Rpn.refFits2 _ b r k))
    (fun b r k => (piece3_at m c b r _).trans (agree_logits m c Rpn.refFits3 _ b r k))
    (fun b r k => (piece4_at m c b r _).trans (agree_logits m c Rpn.refFits4 _ b r k))

theorem deltas_ref : W11 m c (Proc.devRef .tc main_v60)
    = val_main_v377 (F := Ideal) (W0 m c (Proc.devRef .tc main_arg0)) (W0 m c (Proc.devRef .tc main_arg1)) (W0 m c (Proc.devRef .tc main_arg2))
        (W0 m c (Proc.devRef .tc main_arg3)) (W0 m c (Proc.devRef .tc main_arg4)) (W0 m c (Proc.devRef .tc main_arg5)) (W0 m c (Proc.devRef .tc main_arg6))
        (W0 m c (Proc.devRef .tc main_arg9)) (W0 m c (Proc.devRef .tc main_arg10)) := by
  unfold val_main_v377
  rw [deltas_eq, Rpn.deltas0, Rpn.deltas1, Rpn.deltas2, Rpn.deltas3, Rpn.deltas4]
  exact Rpn.join_columns _ _ _ _ _ _ _ (by decide) _ _ _ _ _ _
    (fun b r k => (piece0_at m c b r _).trans (agree_deltas m c Rpn.refFits0 _ b r k))
    (fun b r k => (piece1_at m c b r _).trans (agree_deltas m c Rpn.refFits1 _ b r k))
    (fun b r k => (piece2_at m c b r _).trans (agree_deltas m c Rpn.refFits2 _ b r k))
    (fun b r k => (piece3_at m c b r _).trans (agree_deltas m c Rpn.refFits3 _ b r k))
    (fun b r k => (piece4_at m c b r _).trans (agree_deltas m c Rpn.refFits4 _ b r k))

/-- The inputs the probabilities read: real numbers. -/
structure FineInputs : Prop where
  heads : FineHeads m c
  x0 : ∀ j, Rpn.Fine (W0 m c (Proc.devRef .tc main_arg0) j)
  x1 : ∀ j, Rpn.Fine (W0 m c (Proc.devRef .tc main_arg1) j)
  x2 : ∀ j, Rpn.Fine (W0 m c (Proc.devRef .tc main_arg2) j)
  x3 : ∀ j, Rpn.Fine (W0 m c (Proc.devRef .tc main_arg3) j)
  x4 : ∀ j, Rpn.Fine (W0 m c (Proc.devRef .tc main_arg4) j)

theorem probs_ref (hi : FineInputs m c) : W11 m c (Proc.devRef .tc main_v59)
    = val_main_v376 (F := Ideal) (W0 m c (Proc.devRef .tc main_arg0)) (W0 m c (Proc.devRef .tc main_arg1)) (W0 m c (Proc.devRef .tc main_arg2))
        (W0 m c (Proc.devRef .tc main_arg3)) (W0 m c (Proc.devRef .tc main_arg4)) (W0 m c (Proc.devRef .tc main_arg5)) (W0 m c (Proc.devRef .tc main_arg6))
        (W0 m c (Proc.devRef .tc main_arg7)) (W0 m c (Proc.devRef .tc main_arg8)) := by
  unfold val_main_v376
  rw [probs_eq, Rpn.probs0, Rpn.probs1, Rpn.probs2, Rpn.probs3, Rpn.probs4]
  exact Rpn.join_columns _ _ _ _ _ _ _ (by decide) _ _ _ _ _ _
    (fun b r k => (piece0_at m c b r _).trans (agree_probs m c Rpn.refFits0 _ hi.heads hi.x0 b r k))
    (fun b r k => (piece1_at m c b r _).trans (agree_probs m c Rpn.refFits1 _ hi.heads hi.x1 b r k))
    (fun b r k => (piece2_at m c b r _).trans (agree_probs m c Rpn.refFits2 _ hi.heads hi.x2 b r k))
    (fun b r k => (piece3_at m c b r _).trans (agree_probs m c Rpn.refFits3 _ hi.heads hi.x3 b r k))
    (fun b r k => (piece4_at m c b r _).trans (agree_probs m c Rpn.refFits4 _ hi.heads hi.x4 b r k))

/-- Where the kernel ends: each result's contents, and the arguments as they were. -/
theorem run_kernel (g : Dev nD → PrngReg) :
    θ_run defs (onTc (τ := τ) main) ⟨m, fun _ => 0, g⟩ (fun r => ∀ c : Dev nD,
      (∀ a ∈ [main_v58, main_v59, main_v60],
        r.2.mem ((c.tc : Thread nD τ).loc a) = W11 m c (Proc.devRef .tc a))
      ∧ ∀ a ∈ argRefs, r.2.mem ((c.tc : Thread nD τ).loc a) = m ((c.tc : Thread nD τ).loc a)) :=
  (θ_run _ _ _).mono (fun s h c =>
    ⟨fun a ha => h.1 c _ (mem_uc a ((by decide +kernel : ∀ a ∈ [main_v58, main_v59, main_v60],
        ¬ (Proc.devRef .tc a : DevRef τ sig).isScoped) a ha)),
      fun a ha => (h.1 c _ (mem_uc a ((by decide +kernel : ∀ a ∈ argRefs, ¬ (Proc.devRef .tc a : DevRef τ sig).isScoped) a ha))).trans
        (W11_args m c a ha)⟩) (run_all m g)
end Cert.KernelIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Transfer
public import proofs.«01_k».proof.Proof.Joined
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run (Cert.ReferenceIdeal.defs (F := Ideal)) _ _).mono
    (fun r h => ⟨fun c => (h c).2.2.2, sem_eq_zero_of_no_sems (by decide) r.2⟩) (Cert.ReferenceIdeal.Value.run m ρ)

/-- The precondition makes every input that the probabilities read a real number. -/
theorem fine_inputs (m : (ℓ : Loc Cert.KernelIdeal.nD Cert.KernelIdeal.τ Cert.KernelIdeal.sig) → Buf (Elt Ideal) ℓ)
    (h : Cert.Pre_KernelIdeal_finite (hPre_finite := Rpn.finiteFacts) m) (c : Dev Cert.KernelIdeal.nD) : Cert.KernelIdeal.Gen.FineInputs m c := by
  obtain ⟨h0, h1, h2, h3, h4, h5, h6, h7, h8⟩ := h c
  exact ⟨⟨Rpn.fine_of_below _ _ h5, Rpn.fine_of_below _ _ h6, Rpn.fine_of_below _ _ h7, Rpn.fine_of_below _ _ h8⟩,
    Rpn.fine_of_below _ _ h0, Rpn.fine_of_below _ _ h1, Rpn.fine_of_below _ _ h2, Rpn.fine_of_below _ _ h3, Rpn.fine_of_below _ _ h4⟩

theorem value : Cert.algebraic_KernelIdeal_ReferenceIdeal_pre_finite (hKernelIdeal := Cert.KernelIdeal.Gen.facts)
    (hReferenceIdeal := Cert.ReferenceIdeal.Gen.facts) (hPre_finite := Rpn.finiteFacts) := by
  intro m g m' g' hpre hargs
  refine ⟨fun c => Cert.KernelIdeal.Gen.W11 m c (Proc.devRef .tc Cert.KernelIdeal.main_v58),
    fun c => Cert.KernelIdeal.Gen.W11 m c (Proc.devRef .tc Cert.KernelIdeal.main_v59),
    fun c => Cert.KernelIdeal.Gen.W11 m c (Proc.devRef .tc Cert.KernelIdeal.main_v60), ?_, ?_⟩
  · refine (θ_run _ _ _).mono (fun r h c => ?_) (Cert.KernelIdeal.Gen.run_kernel m g)
    have k := (h c).2
    exact ⟨(h c).1 _ (by decide +kernel), (h c).1 _ (by decide +kernel), (h c).1 _ (by decide +kernel), k _ (by decide +kernel), k _ (by decide +kernel),
      k _ (by decide +kernel), k _ (by decide +kernel), k _ (by decide +kernel), k _ (by decide +kernel), k _ (by decide +kernel), k _ (by decide +kernel),
      k _ (by decide +kernel), k _ (by decide +kernel), k _ (by decide +kernel)⟩
  · refine (θ_run _ _ _).mono (fun r h c => ?_) (Cert.ReferenceIdeal.Value.run m' g')
    obtain ⟨a0, a1, a2, a3, a4, a5, a6, a7, a8, a9, a10⟩ := hargs c
    refine ⟨?_, ?_, ?_, (h c).2.2.2⟩
    · refine Eq.trans ?_ (Cert.KernelIdeal.Gen.logits_ref m c).symm
      refine ((h c).1.trans (Cert.ReferenceIdeal.Read.val_main_v375_eq (StableHlo.launchContents m' c))).trans ?_
      exact congr (congr (congr (congr (congr (congr (congr (congrArg₂ Cert.ReferenceIdeal.Read.val_main_v375 a0 a1) a2) a3) a4) a5) a6) a7) a8
    · refine Eq.trans ?_ (Cert.KernelIdeal.Gen.probs_ref m c (fine_inputs m hpre c)).symm
      refine ((h c).2.1.trans (Cert.ReferenceIdeal.Read.val_main_v376_eq (StableHlo.launchContents m' c))).trans ?_
      exact congr (congr (congr (congr (congr (congr (congr (congrArg₂ Cert.ReferenceIdeal.Read.val_main_v376 a0 a1) a2) a3) a4) a5) a6) a7) a8
    · refine Eq.trans ?_ (Cert.KernelIdeal.Gen.deltas_ref m c).symm
      refine ((h c).2.2.1.trans (Cert.ReferenceIdeal.Read.val_main_v377_eq (StableHlo.launchContents m' c))).trans ?_
      exact congr (congr (congr (congr (congr (congr (congr (congrArg₂ Cert.ReferenceIdeal.Read.val_main_v377 a0 a1) a2) a3) a4) a5) a6) a9) a10

theorem claim : Cert.Claim := ⟨Cert.Kernel.Gen.facts, Cert.KernelIdeal.Gen.facts, Cert.ReferenceIdeal.Gen.facts, Rpn.finiteFacts,
  fun m ρ _ => Rpn.kernel_frame m ρ, fun m ρ _ => Cert.KernelIdeal.Gen.run_frame m ρ, fun m ρ _ => Cert.KernelIdeal.Gen.run_frame m ρ,
  frame_reference, fun m ρ _ => frame_reference m ρ trivial, trivial, value⟩

end Cert.Proof

end
